-- ==== Defs.lean ====
def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v31) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v81) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v14) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v6_0)) (v1 : (c : Dev Cert.RopeIdeal.nD) → Buf (Elt Ideal) ((c.tc : Thread Cert.RopeIdeal.nD Cert.RopeIdeal.τ).loc Cert.RopeIdeal.main_v6_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v6_0) = v0 c
          ∧ r.2.mem ((c.tc : Thread Cert.RopeIdeal.nD Cert.RopeIdeal.τ).loc Cert.RopeIdeal.main_v6_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v9) = v0 c
          ∧ r.2.mem ((c.tc : Thread Cert.RopeRefIdeal.nD Cert.RopeRefIdeal.τ).loc Cert.RopeRefIdeal.main_v13) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v7_0)) (v1 : (c : Dev Cert.DiscIdeal.nD) → Buf (Elt Ideal) ((c.tc : Thread Cert.DiscIdeal.nD Cert.DiscIdeal.τ).loc Cert.DiscIdeal.main_v7_1)) (v2 : (c : Dev Cert.DiscIdeal.nD) → Buf (Elt Ideal) ((c.tc : Thread Cert.DiscIdeal.nD Cert.DiscIdeal.τ).loc Cert.DiscIdeal.main_v7_2)) (v3 : (c : Dev Cert.DiscIdeal.nD) → Buf (Elt Ideal) ((c.tc : Thread Cert.DiscIdeal.nD Cert.DiscIdeal.τ).loc Cert.DiscIdeal.main_v7_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v7_0) = v0 c
          ∧ r.2.mem ((c.tc : Thread Cert.DiscIdeal.nD Cert.DiscIdeal.τ).loc Cert.DiscIdeal.main_v7_1) = v1 c
          ∧ r.2.mem ((c.tc : Thread Cert.DiscIdeal.nD Cert.DiscIdeal.τ).loc Cert.DiscIdeal.main_v7_2) = v2 c
          ∧ r.2.mem ((c.tc : Thread Cert.DiscIdeal.nD Cert.DiscIdeal.τ).loc Cert.DiscIdeal.main_v7_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v42) = v0 c
          ∧ r.2.mem ((c.tc : Thread Cert.DiscRefIdeal.nD Cert.DiscRefIdeal.τ).loc Cert.DiscRefIdeal.main_v43) = v1 c
          ∧ r.2.mem ((c.tc : Thread Cert.DiscRefIdeal.nD Cert.DiscRefIdeal.τ).loc Cert.DiscRefIdeal.main_v44) = v2 c
          ∧ r.2.mem ((c.tc : Thread Cert.DiscRefIdeal.nD Cert.DiscRefIdeal.τ).loc Cert.DiscRefIdeal.main_v45) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_Router_RouterIdeal : Prop :=
  True

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v6_0)) (v1 : (c : Dev Cert.RouterIdeal.nD) → Buf (Elt Ideal) ((c.tc : Thread Cert.RouterIdeal.nD Cert.RouterIdeal.τ).loc Cert.RouterIdeal.main_v6_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v6_0) = v0 c
          ∧ r.2.mem ((c.tc : Thread Cert.RouterIdeal.nD Cert.RouterIdeal.τ).loc Cert.RouterIdeal.main_v6_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v27) = v0 c
          ∧ r.2.mem ((c.tc : Thread Cert.RouterRefIdeal.nD Cert.RouterRefIdeal.τ).loc Cert.RouterRefIdeal.main_v28) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v0_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_5) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v12) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hMemory : Cert.Memory.Facts) (hMemoryIdeal : Cert.MemoryIdeal.Facts) (hMemoryRefIdeal : Cert.MemoryRefIdeal.Facts) (hRope : Cert.Rope.Facts) (hRopeIdeal : Cert.RopeIdeal.Facts) (hRopeRefIdeal : Cert.RopeRefIdeal.Facts) (hDisc : Cert.Disc.Facts) (hDiscIdeal : Cert.DiscIdeal.Facts) (hDiscRefIdeal : Cert.DiscRefIdeal.Facts) (hRouter : Cert.Router.Facts) (hRouterIdeal : Cert.RouterIdeal.Facts) (hRouterRefIdeal : Cert.RouterRefIdeal.Facts) (hPrep : Cert.Prep.Facts) (hPrepIdeal : Cert.PrepIdeal.Facts) (hPrepRefIdeal : Cert.PrepRefIdeal.Facts) (hPre_experts_in_range : Cert.Pre_experts_in_range.Facts) (hPre_router_finite : Cert.Pre_router_finite.Facts),
    quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Rope (hRope := hRope)
    ∧ quiescent_RopeIdeal (hRopeIdeal := hRopeIdeal)
    ∧ quiescent_RopeRefIdeal (hRopeRefIdeal := hRopeRefIdeal)
    ∧ quiescent_Disc (hDisc := hDisc)
    ∧ quiescent_DiscIdeal (hDiscIdeal := hDiscIdeal)
    ∧ quiescent_DiscRefIdeal (hDiscRefIdeal := hDiscRefIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ quiescent_Prep (hPrep := hPrep)
    ∧ quiescent_PrepIdeal (hPrepIdeal := hPrepIdeal)
    ∧ quiescent_PrepRefIdeal (hPrepRefIdeal := hPrepRefIdeal)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Memory_MemoryIdeal
    ∧ algebraic_MemoryIdeal_MemoryRefIdeal (hMemoryIdeal := hMemoryIdeal) (hMemoryRefIdeal := hMemoryRefIdeal)
    ∧ preserves_Rope_RopeIdeal
    ∧ algebraic_RopeIdeal_RopeRefIdeal (hRopeIdeal := hRopeIdeal) (hRopeRefIdeal := hRopeRefIdeal)
    ∧ preserves_Disc_DiscIdeal
    ∧ algebraic_DiscIdeal_DiscRefIdeal (hDiscIdeal := hDiscIdeal) (hDiscRefIdeal := hDiscRefIdeal)
    ∧ preserves_Router_RouterIdeal
    ∧ algebraic_RouterIdeal_RouterRefIdeal_pre_router_finite (hRouterIdeal := hRouterIdeal) (hRouterRefIdeal := hRouterRefIdeal) (hPre_router_finite := hPre_router_finite)
    ∧ preserves_Prep_PrepIdeal
    ∧ algebraic_PrepIdeal_PrepRefIdeal (hPrepIdeal := hPrepIdeal) (hPrepRefIdeal := hPrepRefIdeal)
-- ==== Pre_experts_in_range.lean ====
abbrev S136 : Shape := ⟨1, ![136]⟩
abbrev S69632x1024 : Shape := ⟨2, ![69632, 1024]⟩
abbrev S69632x128 : Shape := ⟨2, ![69632, 128]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : FVec F S69632x1024 .bf16) (main_arg3 : FVec F S69632x128 .f32) (main_arg4 : FVec F S8x1024x2816 .f32) (main_arg5 : FVec F S8x1024x2816 .f32) (main_arg6 : FVec F S8x2816x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Pre_router_finite.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S1024x1 : Shape := ⟨2, ![1024, 1]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x8 : S_.BroadcastsInDim S1024x8 (![] : Fin 0 → Fin S1024x8.rank)
  bcast_S1024x1_S1024x8_0_1 : S1024x1.BroadcastsInDim S1024x8 (![0, 1] : Fin 2 → Fin S1024x8.rank)

variable [Facts]

def fn {F : FTy → Type} [FloatOps F] (main_arg0 : FVec F S32768x1024 .f32) (main_arg1 : FVec F S1024 .f32) (main_arg2 : FVec F S1024x8 .f32) : IVec S1024x8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : IVec S1024x1 1 := broadcastInDim S1024x1 ![0] bcast_S1024_S1024x1_0 main_v2
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_v7 : IVec S1024x8 1 := broadcastInDim S1024x8 ![0, 1] bcast_S1024x1_S1024x8_0_1 main_v3
  let main_v8 : IVec S1024x8 1 := andi main_v7 main_v6
  main_v8
-- ==== Moe.lean ====
abbrev S136 : Shape := ⟨1, ![136]⟩
abbrev S69632x1024 : Shape := ⟨2, ![69632, 1024]⟩
abbrev S69632x128 : Shape := ⟨2, ![69632, 128]⟩
abbrev S8x1024x2816 : Shape := ⟨3, ![8, 1024, 2816]⟩
abbrev S8x2816x1024 : Shape := ⟨3, ![8, 2816, 1024]⟩
abbrev S512x1024 : Shape := ⟨2, ![512, 1024]⟩
abbrev S512x128 : Shape := ⟨2, ![512, 128]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512x1 : Shape := ⟨2, ![512, 1]⟩

abbrev nBuf : Space → Nat
  | .hbm => 9
  | .vmem => 13
  | .smem => 2
  | _ => 0

abbrev bufTy : (tb : Table) → Fin (tcTables nBuf tb) → BufTy
  | .hbm, ⟨0, _⟩ => ⟨S69632x1024, .bf16⟩
  | .hbm, ⟨1, _⟩ => ⟨S69632x128, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S8x1024x2816, .bf16⟩
  | .hbm, ⟨6, _⟩ => ⟨S8x1024x2816, .bf16⟩
  | .hbm, ⟨7, _⟩ => ⟨S8x2816x1024, .bf16⟩
  | .hbm, ⟨8, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S136, .i32⟩
  | .local _ .smem, ⟨1, _⟩ => ⟨S136, .i32⟩
  | _, _ => ⟨S69632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32_2 : BitVec 32 := 1#32
  let v8 : BitVec 1 := Scalar.cmpi .eq arg1 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S136 : Shape := ⟨1, ![136]⟩
abbrev S69632x1024 : Shape := ⟨2, ![69632, 1024]⟩
abbrev S69632x128 : Shape := ⟨2, ![69632, 128]⟩
abbrev S8x1024x2816 : Shape := ⟨3, ![8, 1024, 2816]⟩
abbrev S8x2816x1024 : Shape := ⟨3, ![8, 2816, 1024]⟩
abbrev S136x1 : Shape := ⟨2, ![136, 1]⟩
abbrev S136x512 : Shape := ⟨2, ![136, 512]⟩
abbrev S69632 : Shape := ⟨1, ![69632]⟩
abbrev S_ : Shape := ⟨0, ![]⟩
abbrev S69632x1 : Shape := ⟨2, ![69632, 1]⟩
abbrev S8 : Shape := ⟨1, ![8]⟩
abbrev S8x1 : Shape := ⟨2, ![8, 1]⟩
abbrev S1x69632 : Shape := ⟨2, ![1, 69632]⟩
abbrev S8x69632 : Shape := ⟨2, ![8, 69632]⟩
abbrev S8x2816x69632 : Shape := ⟨3, ![8, 2816, 69632]⟩
abbrev S8x69632x2816 : Shape := ⟨3, ![8, 69632, 2816]⟩
abbrev S8x69632x1024 : Shape := ⟨3, ![8, 69632, 1024]⟩
abbrev S8x69632x1 : Shape := ⟨3, ![8, 69632, 1]⟩

abbrev nBuf : Space → Nat
  | .hbm => 56
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S69632x1024, .bf16⟩
  | .hbm, ⟨3, _⟩ => ⟨S69632x128, .f32⟩
  | .hbm, ⟨4, _⟩ => ⟨S8x1024x2816, .f32⟩
  | .hbm, ⟨5, _⟩ => ⟨S8x1024x2816, .f32⟩
  | .hbm, ⟨6, _⟩ => ⟨S8x2816x1024, .f32⟩
  | .hbm, ⟨7, _⟩ => ⟨S69632x1024, .f32⟩
  | .hbm, ⟨8, _⟩ => ⟨S136x1, .i32⟩
  | .hbm, ⟨9, _⟩ => ⟨S136x512, .i32⟩
  | .hbm, ⟨10, _⟩ => ⟨S69632, .i32⟩
  | .hbm, ⟨11, _⟩ => ⟨S136x1, .i32⟩
  | .hbm, ⟨12, _⟩ => ⟨S136x512, .i32⟩
  | .hbm, ⟨13, _⟩ => ⟨S69632, .i32⟩
  | .hbm, ⟨14, _⟩ => ⟨S_, .i32⟩
  | .hbm, ⟨15, _⟩ => ⟨S69632, .i32⟩
  | .hbm, ⟨16, _⟩ => ⟨S69632, .i1⟩
  | .hbm, ⟨17, _⟩ => ⟨S69632x1, .f32⟩
  | .hbm, ⟨18, _⟩ => ⟨S69632, .f32⟩
  | .hbm, ⟨19, _⟩ => ⟨S_, .f32⟩
  | .hbm, ⟨20, _⟩ => ⟨S_, .f32⟩
  | .hbm, ⟨21, _⟩ => ⟨S69632, .f32⟩
  | .hbm, ⟨22, _⟩ => ⟨S69632, .f32⟩
  | .hbm, ⟨23, _⟩ => ⟨S8, .i32⟩
  | .hbm, ⟨24, _⟩ => ⟨S8x1, .i32⟩
  | .hbm, ⟨25, _⟩ => ⟨S1x69632, .i32⟩
  | .hbm, ⟨26, _⟩ => ⟨S8x69632, .i32⟩
  | .hbm, ⟨27, _⟩ => ⟨S8x69632, .i32⟩
  | .hbm, ⟨28, _⟩ => ⟨S8x69632, .i1⟩
  | .hbm, ⟨29, _⟩ => ⟨S1x69632, .f32⟩
  | .hbm, ⟨30, _⟩ => ⟨S_, .f32⟩
  | .hbm, ⟨31, _⟩ => ⟨S_, .f32⟩
  | .hbm, ⟨32, _⟩ => ⟨S8x69632, .f32⟩
  | .hbm, ⟨33, _⟩ => ⟨S8x69632, .f32⟩
  | .hbm, ⟨34, _⟩ => ⟨S8x69632, .f32⟩
  | .hbm, ⟨35, _⟩ => ⟨S8x2816x69632, .f32⟩
  | .hbm, ⟨36, _⟩ => ⟨S8x69632x2816, .f32⟩
  | .hbm, ⟨37, _⟩ => ⟨S8x2816x69632, .f32⟩
  | .hbm, ⟨38, _⟩ => ⟨S8x69632x2816, .f32⟩
  | .hbm, ⟨39, _⟩ => ⟨S8x69632x2816, .f32⟩
  | .hbm, ⟨40, _⟩ => ⟨S8x69632x2816, .f32⟩
  | .hbm, ⟨41, _⟩ => ⟨S_, .f32⟩
  | .hbm, ⟨42, _⟩ => ⟨S8x69632x2816, .f32⟩
  | .hbm, ⟨43, _⟩ => ⟨S8x69632x2816, .f32⟩
  | .hbm, ⟨44, _⟩ => ⟨S_, .f32⟩
  | .hbm, ⟨45, _⟩ => ⟨S8x69632x2816, .f32⟩
  | .hbm, ⟨46, _⟩ => ⟨S8x69632x2816, .f32⟩
  | .hbm, ⟨47, _⟩ => ⟨S8x69632x2816, .f32⟩
  | .hbm, ⟨48, _⟩ => ⟨S8x69632x2816, .f32⟩
  | .hbm, ⟨49, _⟩ => ⟨S8x69632x1024, .f32⟩
  | .hbm, ⟨50, _⟩ => ⟨S8x69632x1, .f32⟩
  | .hbm, ⟨51, _⟩ => ⟨S8x69632x1024, .f32⟩
  | .hbm, ⟨52, _⟩ => ⟨S8x69632x1024, .f32⟩
  | .hbm, ⟨53, _⟩ => ⟨S_, .f32⟩
  | .hbm, ⟨54, _⟩ => ⟨S69632x1024, .f32⟩
  | .hbm, ⟨55, _⟩ => ⟨S69632x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x4096 : Shape := ⟨2, ![32768, 4096]⟩
abbrev S512x1024 : Shape := ⟨2, ![512, 1024]⟩
abbrev S512x2048 : Shape := ⟨2, ![512, 2048]⟩
abbrev S1024x1024 : Shape := ⟨2, ![1024, 1024]⟩
abbrev S1024 : Shape := ⟨1, ![1024]⟩
abbrev S1024x512 : Shape := ⟨2, ![1024, 512]⟩
abbrev S2048x512 : Shape := ⟨2, ![2048, 512]⟩
abbrev S1x1024 : Shape := ⟨2, ![1, 1024]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 22
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .bf16⟩
  | .hbm, ⟨5, _⟩ => ⟨S512x1024, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S2048x512, .bf16⟩
  | .hbm, ⟨12, _⟩ => ⟨S2048x512, .bf16⟩
  | .hbm, ⟨13, _⟩ => ⟨S512x1024, .f32⟩
  | .hbm, ⟨14, _⟩ => ⟨S512x1024, .bf16⟩
  | .hbm, ⟨15, _⟩ => ⟨S512x2048, .bf16⟩
  | .hbm, ⟨16, _⟩ => ⟨S512x1024, .bf16⟩
  | .hbm, ⟨17, _⟩ => ⟨S1024x1024, .bf16⟩
  | .hbm, ⟨18, _⟩ => ⟨S1024x512, .bf16⟩
  | .hbm, ⟨19, _⟩ => ⟨S512x1024, .bf16⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x1024 : Shape := ⟨2, ![32768, 1024]⟩
abbrev S32768x512 : Shape := ⟨2, ![32768, 512]⟩
abbrev S32768x4096 : Shape := ⟨2, ![32768, 4096]⟩
abbrev S512x1024 : Shape := ⟨2, ![512, 1024]⟩
abbrev S512x2048 : Shape := ⟨2, ![512, 2048]⟩
abbrev S1024x1024 : Shape := ⟨2, ![1024, 1024]⟩
abbrev S1024 : Shape := ⟨1, ![1024]⟩
abbrev S1024x512 : Shape := ⟨2, ![1024, 512]⟩
abbrev S2048x512 : Shape := ⟨2, ![2048, 512]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 111
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .bf16⟩
  | .hbm, ⟨5, _⟩ => ⟨S512x1024, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S2048x512, .bf16⟩
  | .hbm, ⟨12, _⟩ => ⟨S2048x512, .bf16⟩
  | .hbm, ⟨13, _⟩ => ⟨S512x1024, .f32⟩
  | .hbm, ⟨14, _⟩ => ⟨S32768x4096, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x512, .f32⟩
  | .hbm, ⟨19, _⟩ => ⟨S32768x1024, .f32⟩
  | .hbm, ⟨20, _⟩ => ⟨S32768x512, .f32⟩
  | .hbm, ⟨21, _⟩ => ⟨S32768x2048, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x512, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S1x1024, .f32⟩
  | .hbm, ⟨80, _⟩ => ⟨S32768x1024, .f32⟩
  | .hbm, ⟨81, _⟩ => ⟨S32768x1024, .f32⟩
  | .hbm, ⟨82, _⟩ => ⟨S32768x512, .f32⟩
  | .hbm, ⟨83, _⟩ => ⟨S8x4096x4x128, .f32⟩
  | .hbm, ⟨84, _⟩ => ⟨S2048x512, .f32⟩
  | .hbm, ⟨85, _⟩ => ⟨S8x256x4x128, .f32⟩
  | .hbm, ⟨86, _⟩ => ⟨S2048x512, .f32⟩
  | .hbm, ⟨87, _⟩ => ⟨S8x256x4x128, .f32⟩
  | .hbm, ⟨88, _⟩ => ⟨S8x4x4096x256, .f32⟩
  | .hbm, ⟨89, _⟩ => ⟨S_, .f32⟩
  | .hbm, ⟨90, _⟩ => ⟨S8x4x4096x256, .f32⟩
  | .hbm, ⟨91, _⟩ => ⟨S8x4x4096x256, .f32⟩
  | .hbm, ⟨92, _⟩ => ⟨S_, .f32⟩
  | .hbm, ⟨93, _⟩ => ⟨S8x4x4096, .f32⟩
  | .hbm, ⟨94, _⟩ => ⟨S_, .f32⟩
  | .hbm, ⟨95, _⟩ => ⟨S8x4x4096, .f32⟩
  | .hbm, ⟨96, _⟩ => ⟨S8x4x4096, .f32⟩
  | .hbm, ⟨97, _⟩ => ⟨S8x4x4096x1, .f32⟩
  | .hbm, ⟨98, _⟩ => ⟨S8x4x4096x256, .f32⟩
  | .hbm, ⟨99, _⟩ => ⟨S8x4x4096x256, .f32⟩
  | .hbm, ⟨100, _⟩ => ⟨S8x4x4096x256, .f32⟩
  | .hbm, ⟨101, _⟩ => ⟨S_, .f32⟩
  | .hbm, ⟨102, _⟩ => ⟨S8x4x4096, .f32⟩
  | .hbm, ⟨103, _⟩ => ⟨S8x4x4096x1, .f32⟩
  | .hbm, ⟨104, _⟩ => ⟨S8x4x4096x256, .f32⟩
  | .hbm, ⟨105, _⟩ => ⟨S8x4x4096x256, .f32⟩
  | .hbm, ⟨106, _⟩ => ⟨S8x4x128x4096, .f32⟩
  | .hbm, ⟨107, _⟩ => ⟨S8x4096x4x128, .f32⟩
  | .hbm, ⟨108, _⟩ => ⟨S32768x512, .f32⟩
  | .hbm, ⟨109, _⟩ => ⟨S32768x1024, .f32⟩
  | .hbm, ⟨110, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x7176 : Shape := ⟨2, ![1024, 7176]⟩
abbrev S1024x512 : Shape := ⟨2, ![1024, 512]⟩
abbrev S1024x4 : Shape := ⟨2, ![1024, 4]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1024x3200 : Shape := ⟨2, ![1024, 3200]⟩
abbrev S1024x4096 : Shape := ⟨2, ![1024, 4096]⟩
abbrev S1x1024 : Shape := ⟨2, ![1, 1024]⟩
abbrev S32768x3200 : Shape := ⟨2, ![32768, 3200]⟩
abbrev S32768x4096 : Shape := ⟨2, ![32768, 4096]⟩
abbrev S2048x1024 : Shape := ⟨2, ![2048, 1024]⟩
abbrev S1024x640 : Shape := ⟨2, ![1024, 640]⟩
abbrev S2048x640 : Shape := ⟨2, ![2048, 640]⟩
abbrev S2048 : Shape := ⟨1, ![2048]⟩
abbrev S2048x1 : Shape := ⟨2, ![2048, 1]⟩

abbrev nBuf : Space → Nat
  | .hbm => 27
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7176, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x4, .f32⟩
  | .hbm, ⟨11, _⟩ => ⟨S1024x4, .f32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x3200, .f32⟩
  | .hbm, ⟨21, _⟩ => ⟨S1024x4096, .f32⟩
  | .hbm, ⟨22, _⟩ => ⟨S1024x3200, .bf16⟩
  | .hbm, ⟨23, _⟩ => ⟨S1024x4096, .bf16⟩
  | .hbm, ⟨24, _⟩ => ⟨S1x1024, .f32⟩
  | .hbm, ⟨25, _⟩ => ⟨S32768x3200, .f32⟩
  | .hbm, ⟨26, _⟩ => ⟨S32768x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .bf16⟩
  | .local _ .vmem, ⟨5, _⟩ => ⟨S1024x1024, .bf16⟩
  | .local _ .vmem, ⟨6, _⟩ => ⟨S1024x1024, .bf16⟩
  | .local _ .vmem, ⟨7, _⟩ => ⟨S2048x640, .f32⟩
  | .local _ .vmem, ⟨8, _⟩ => ⟨S2048x640, .f32⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c5_i32_2 : BitVec 32 := 5#32
  let v6 : BitVec 1 := Scalar.cmpi .sge arg1 c5_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S32768x1024 : Shape := ⟨2, ![32768, 1024]⟩
abbrev S1024 : Shape := ⟨1, ![1024]⟩
abbrev S1024x7176 : Shape := ⟨2, ![1024, 7176]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7176 : Shape := ⟨2, ![32768, 7176]⟩
abbrev S32768x512 : Shape := ⟨2, ![32768, 512]⟩
abbrev S32768x4 : Shape := ⟨2, ![32768, 4]⟩
abbrev S32768x120 : Shape := ⟨2, ![32768, 120]⟩
abbrev S32768x3200 : Shape := ⟨2, ![32768, 3200]⟩
abbrev S32768x4096 : Shape := ⟨2, ![32768, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7176, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7176, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x4, .f32⟩
  | .hbm, ⟨28, _⟩ => ⟨S32768x4, .f32⟩
  | .hbm, ⟨29, _⟩ => ⟨S32768x512, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x120, .f32⟩
  | .hbm, ⟨35, _⟩ => ⟨S32768x3200, .f32⟩
  | .hbm, ⟨36, _⟩ => ⟨S32768x4096, .f32⟩
  | .hbm, ⟨37, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Memory.lean ====
abbrev S2048x1024 : Shape := ⟨2, ![2048, 1024]⟩
abbrev S1024 : Shape := ⟨1, ![1024]⟩
abbrev S1024x512 : Shape := ⟨2, ![1024, 512]⟩
abbrev S1x1024 : Shape := ⟨2, ![1, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S2048x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryRefIdeal.lean ====
abbrev S2048x1024 : Shape := ⟨2, ![2048, 1024]⟩
abbrev S1024 : Shape := ⟨1, ![1024]⟩
abbrev S1024x512 : Shape := ⟨2, ![1024, 512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x512, .f32⟩
  | .hbm, ⟨20, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Rope.lean ====
abbrev S8x4096 : Shape := ⟨2, ![8, 4096]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S32768x1 : Shape := ⟨2, ![32768, 1]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 10
  | .vmem => 7
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S1x32, .f32⟩
  | .hbm, ⟨3, _⟩ => ⟨S4x32, .f32⟩
  | .hbm, ⟨4, _⟩ => ⟨S128, .f32⟩
  | .hbm, ⟨5, _⟩ => ⟨S1x128, .f32⟩
  | .hbm, ⟨6, _⟩ => ⟨S8x4096, .f32⟩
  | .hbm, ⟨7, _⟩ => ⟨S32768x1, .f32⟩
  | .hbm, ⟨8, _⟩ => ⟨S32768x128, .f32⟩
  | .hbm, ⟨9, _⟩ => ⟨S32768x128, .f32⟩
  | .local _ .vmem, ⟨0, _⟩ => ⟨S1024x1, .f32⟩
  | .local _ .vmem, ⟨1, _⟩ => ⟨S1024x1, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8x4096 : Shape := ⟨2, ![8, 4096]⟩
abbrev S32 : Shape := ⟨1, ![32]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x128 : Shape := ⟨3, ![8, 4096, 128]⟩
abbrev S32768x128 : Shape := ⟨2, ![32768, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S8x4096, .f32⟩
  | .hbm, ⟨3, _⟩ => ⟨S8x4096x1, .f32⟩
  | .hbm, ⟨4, _⟩ => ⟨S1x1x32, .f32⟩
  | .hbm, ⟨5, _⟩ => ⟨S8x4096x32, .f32⟩
  | .hbm, ⟨6, _⟩ => ⟨S8x4096x32, .f32⟩
  | .hbm, ⟨7, _⟩ => ⟨S8x4096x32, .f32⟩
  | .hbm, ⟨8, _⟩ => ⟨S8x4096x32, .f32⟩
  | .hbm, ⟨9, _⟩ => ⟨S8x4096x32, .f32⟩
  | .hbm, ⟨10, _⟩ => ⟨S8x4096x128, .f32⟩
  | .hbm, ⟨11, _⟩ => ⟨S32768x128, .f32⟩
  | .hbm, ⟨12, _⟩ => ⟨S8x4096x32, .f32⟩
  | .hbm, ⟨13, _⟩ => ⟨S8x4096x32, .f32⟩
  | .hbm, ⟨14, _⟩ => ⟨S8x4096x128, .f32⟩
  | .hbm, ⟨15, _⟩ => ⟨S32768x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Disc.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S2048x1 : Shape := ⟨2, ![2048, 1]⟩
abbrev S2048x16 : Shape := ⟨2, ![2048, 16]⟩

abbrev nBuf : Space → Nat
  | .hbm => 16
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x64, .f32⟩
  | .hbm, ⟨7, _⟩ => ⟨S2048x1, .f32⟩
  | .hbm, ⟨8, _⟩ => ⟨S2048x1, .f32⟩
  | .hbm, ⟨9, _⟩ => ⟨S2048x1, .f32⟩
  | .hbm, ⟨10, _⟩ => ⟨S2048x16, .f32⟩
  | .hbm, ⟨11, _⟩ => ⟨S2048x16, .f32⟩
  | .hbm, ⟨12, _⟩ => ⟨S2048x1, .f32⟩
  | .hbm, ⟨13, _⟩ => ⟨S2048x1, .f32⟩
  | .hbm, ⟨14, _⟩ => ⟨S2048x16, .f32⟩
  | .hbm, ⟨15, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x1, .f32⟩
  | .local _ .vmem, ⟨6, _⟩ => ⟨S2048x1, .f32⟩
  | .local _ .vmem, ⟨7, _⟩ => ⟨S2048x16, .f32⟩
  | .local _ .vmem, ⟨8, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S2048x1 : Shape := ⟨2, ![2048, 1]⟩
abbrev S2048x16 : Shape := ⟨2, ![2048, 16]⟩

abbrev nBuf : Space → Nat
  | .hbm => 53
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S2048x1, .f32⟩
  | .hbm, ⟨50, _⟩ => ⟨S2048x1, .f32⟩
  | .hbm, ⟨51, _⟩ => ⟨S2048x16, .f32⟩
  | .hbm, ⟨52, _⟩ => ⟨S2048x16, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | .hbm, ⟨7, _⟩ => ⟨S1024x128, .f32⟩
  | .hbm, ⟨8, _⟩ => ⟨S1024x128, .f32⟩
  | .hbm, ⟨9, _⟩ => ⟨S1024x128, .bf16⟩
  | .hbm, ⟨10, _⟩ => ⟨S1x1024, .f32⟩
  | .hbm, ⟨11, _⟩ => ⟨S32768x128, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterRefIdeal.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x2 : Shape := ⟨2, ![32768, 2]⟩
abbrev S32768x124 : Shape := ⟨2, ![32768, 124]⟩
abbrev S32768x128 : Shape := ⟨2, ![32768, 128]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8, .f32⟩
  | .hbm, ⟨20, _⟩ => ⟨S32768x2, .f32⟩
  | .hbm, ⟨21, _⟩ => ⟨S32768x2, .i32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x2, .f32⟩
  | .hbm, ⟨35, _⟩ => ⟨S32768x2, .f32⟩
  | .hbm, ⟨36, _⟩ => ⟨S_, .f32⟩
  | .hbm, ⟨37, _⟩ => ⟨S32768x124, .f32⟩
  | .hbm, ⟨38, _⟩ => ⟨S32768x2, .f32⟩
  | .hbm, ⟨39, _⟩ => ⟨S32768x128, .f32⟩
  | .hbm, ⟨40, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Prep.lean ====
abbrev S32768x3200 : Shape := ⟨2, ![32768, 3200]⟩
abbrev S8x4x64x64 : Shape := ⟨4, ![8, 4, 64, 64]⟩
abbrev S4x1536 : Shape := ⟨2, ![4, 1536]⟩
abbrev S4 : Shape := ⟨1, ![4]⟩
abbrev S32768x512 : Shape := ⟨2, ![32768, 512]⟩
abbrev S8x4x64x128x64 : Shape := ⟨5, ![8, 4, 64, 128, 64]⟩
abbrev S8x4x64x64x64 : Shape := ⟨5, ![8, 4, 64, 64, 64]⟩
abbrev S8x4x64x128 : Shape := ⟨4, ![8, 4, 64, 128]⟩
abbrev S4096x128 : Shape := ⟨2, ![4096, 128]⟩
abbrev S1x1x64x64 : Shape := ⟨4, ![1, 1, 64, 64]⟩
abbrev S4x128 : Shape := ⟨2, ![4, 128]⟩
abbrev S1x1x64x128x64 : Shape := ⟨5, ![1, 1, 64, 128, 64]⟩
abbrev S1x1x64x64x64 : Shape := ⟨5, ![1, 1, 64, 64, 64]⟩
abbrev S1x1x64x128 : Shape := ⟨4, ![1, 1, 64, 128]⟩
abbrev S256x128 : Shape := ⟨2, ![256, 128]⟩
abbrev S8x128 : Shape := ⟨2, ![8, 128]⟩
abbrev S264x128 : Shape := ⟨2, ![264, 128]⟩
abbrev S1x128 : Shape := ⟨2, ![1, 128]⟩
abbrev S256 : Shape := ⟨1, ![256]⟩
abbrev S256x1 : Shape := ⟨2, ![256, 1]⟩
abbrev S1024x64 : Shape := ⟨2, ![1024, 64]⟩
abbrev S16x64x64 : Shape := ⟨3, ![16, 64, 64]⟩
abbrev S64x64 : Shape := ⟨2, ![64, 64]⟩
abbrev S1 : Shape := ⟨1, ![1]⟩
abbrev S1x64 : Shape := ⟨2, ![1, 64]⟩
abbrev S1024x128 : Shape := ⟨2, ![1024, 128]⟩
abbrev S1x1x16x64 : Shape := ⟨4, ![1, 1, 16, 64]⟩
abbrev S16x64 : Shape := ⟨2, ![16, 64]⟩
abbrev S1024 : Shape := ⟨1, ![1024]⟩
abbrev S1024x1 : Shape := ⟨2, ![1024, 1]⟩
abbrev S16x64x128 : Shape := ⟨3, ![16, 64, 128]⟩
abbrev S16x128x128 : Shape := ⟨3, ![16, 128, 128]⟩
abbrev S16x128x64 : Shape := ⟨3, ![16, 128, 64]⟩
abbrev S1024x256 : Shape := ⟨2, ![1024, 256]⟩
abbrev S16x64x256 : Shape := ⟨3, ![16, 64, 256]⟩
abbrev S1x1x16x128x64 : Shape := ⟨5, ![1, 1, 16, 128, 64]⟩
abbrev S1x1x16x64x64 : Shape := ⟨5, ![1, 1, 16, 64, 64]⟩
abbrev S16x1 : Shape := ⟨2, ![16, 1]⟩
abbrev S16x128 : Shape := ⟨2, ![16, 128]⟩
abbrev S1x1x16x128 : Shape := ⟨4, ![1, 1, 16, 128]⟩

abbrev nBuf : Space → Nat
  | .hbm => 12
  | .vmem => 31
  | .smem => 2
  | _ => 0

abbrev bufTy : (tb : Table) → Fin (tcTables nBuf tb) → BufTy
  | .hbm, ⟨0, _⟩ => ⟨S32768x3200, .f32⟩
  | .hbm, ⟨1, _⟩ => ⟨S8x4x64x64, .f32⟩
  | .hbm, ⟨2, _⟩ => ⟨S8x4x64x64, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S32768x512, .f32⟩
  | .hbm, ⟨7, _⟩ => ⟨S32768x512, .bf16⟩
  | .hbm, ⟨8, _⟩ => ⟨S32768x512, .bf16⟩
  | .hbm, ⟨9, _⟩ => ⟨S8x4x64x128x64, .bf16⟩
  | .hbm, ⟨10, _⟩ => ⟨S8x4x64x64x64, .bf16⟩
  | .hbm, ⟨11, _⟩ => ⟨S8x4x64x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x64x64, .f32⟩
  | .local _ .vmem, ⟨7, _⟩ => ⟨S1x1x64x64, .f32⟩
  | .local _ .vmem, ⟨8, _⟩ => ⟨S1x1x64x64, .f32⟩
  | .local _ .vmem, ⟨9, _⟩ => ⟨S1x1x64x64, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1x1x64x128x64, .bf16⟩
  | .local _ .vmem, ⟨23, _⟩ => ⟨S1x1x64x128x64, .bf16⟩
  | .local _ .vmem, ⟨24, _⟩ => ⟨S1x1x64x64x64, .bf16⟩
  | .local _ .vmem, ⟨25, _⟩ => ⟨S1x1x64x64x64, .bf16⟩
  | .local _ .vmem, ⟨26, _⟩ => ⟨S1x1x64x128, .f32⟩
  | .local _ .vmem, ⟨27, _⟩ => ⟨S1x1x64x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .smem, ⟨0, _⟩ => ⟨S4, .f32⟩
  | .local _ .smem, ⟨1, _⟩ => ⟨S4, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c256_i32 : BitVec 32 := 256#32
  let v43 : BitVec 32 := Scalar.muli arg21 c256_i32
  v43
def k0_mult2 (k0_t1 : Fin k0_t1_loop.trips) : BitVec 32 :=
  let c0_i32 : BitVec 32 := 0#32
  let c1_i32 : BitVec 32 := 1#32
  let arg21 : BitVec 32 := Scf.iv c0_i32 c1_i32 k0_t1
  let c256_i32 : BitVec 32 := 256#32
  let v43 : BitVec 32 := Scalar.muli arg21 c256_i32
  let v44 : BitVec 32 := v43
  let c8_i32 : BitVec 32 := 8#32
  let v45 : BitVec 32 := Scalar.subi v44 c8_i32
  let c0_i32_13 : BitVec 32 := 0#32
  let v46 : BitVec 32 := Scalar.maxsi v45 c0_i32_13
  v46
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c256_i32 : BitVec 32 := 256#32
  let v43 : BitVec 32 := Scalar.muli arg21 c256_i32
  let v44 : BitVec 32 := v43
  let v48 : Index := Scalar.indexCast v44
  let c0 : Index := 0#32
  ![v48.toNat, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c256_i32 : BitVec 32 := 256#32
  let v43 : BitVec 32 := Scalar.muli arg21 c256_i32
  let v44 : BitVec 32 := v43
  let c8_i32 : BitVec 32 := 8#32
  let v45 : BitVec 32 := Scalar.subi v44 c8_i32
  let c0_i32_13 : BitVec 32 := 0#32
  let v46 : BitVec 32 := Scalar.maxsi v45 c0_i32_13
  let v47 : BitVec 32 := v46
  let v51 : Index := Scalar.indexCast v47
  let c0_15 : Index := 0#32
  ![v51.toNat, 0]
def k0_off3 (i : grid0.Coords) : Fin 1 → Nat :=
  let arg1 : BitVec 32 := BitVec.ofNat 32 (i 1).val
  let v34 : Index := Scalar.indexCast arg1
  ![v34.toNat]
@[reducible] def k0_t2_loop : Scf.Loop 32 :=
  let c0_i32_10 : BitVec 32 := 0#32
  let c4_i32 : BitVec 32 := 4#32
  let v42 : BitVec 32 := Scalar.addi c0_i32_10 c4_i32
  let c1_i32_11 : BitVec 32 := 1#32
  ⟨c0_i32_10, v42, c1_i32_11⟩
def k0_mult3 (k0_t2 : Fin k0_t2_loop.trips) : BitVec 32 :=
  let c0_i32_10 : BitVec 32 := 0#32
  let c1_i32_11 : BitVec 32 := 1#32
  let arg21 : BitVec 32 := Scf.iv c0_i32_10 c1_i32_11 k0_t2
  let c16_i32_13 : BitVec 32 := 16#32
  let v43 : BitVec 32 := Scalar.muli arg21 c16_i32_13
  v43
def k0_mult4 (k0_t2 : Fin k0_t2_loop.trips) : BitVec 32 :=
  let c0_i32_10 : BitVec 32 := 0#32
  let c1_i32_11 : BitVec 32 := 1#32
  let arg21 : BitVec 32 := Scf.iv c0_i32_10 c1_i32_11 k0_t2
  let c1024_i32 : BitVec 32 := 1024#32
  let v45 : BitVec 32 := Scalar.muli arg21 c1024_i32
  v45
def k0_off4 (k0_t2 : Fin k0_t2_loop.trips) : Fin 2 → Nat :=
  let c0_i32_10 : BitVec 32 := 0#32
  let c1_i32_11 : BitVec 32 := 1#32
  let arg21 : BitVec 32 := Scf.iv c0_i32_10 c1_i32_11 k0_t2
  let c1024_i32 : BitVec 32 := 1024#32
  let v45 : BitVec 32 := Scalar.muli arg21 c1024_i32
  let v46 : BitVec 32 := v45
  let v47 : Index := Scalar.indexCast v46
  let c0 : Index := 0#32
  ![v47.toNat, 0]
def k0_off5 (k0_t2 : Fin k0_t2_loop.trips) : Fin 4 → Nat :=
  let c0_16 : Index := 0#32
  let c0_17 : Index := 0#32
  let c0_i32_10 : BitVec 32 := 0#32
  let c1_i32_11 : BitVec 32 := 1#32
  let arg21 : BitVec 32 := Scf.iv c0_i32_10 c1_i32_11 k0_t2
  let c16_i32_13 : BitVec 32 := 16#32
  let v43 : BitVec 32 := Scalar.muli arg21 c16_i32_13
  let v44 : BitVec 32 := v43
  let v53 : Index := Scalar.indexCast v44
  let c0_18 : Index := 0#32
  ![0, 0, v53.toNat, 0]
def k0_off6 (k0_t2 : Fin k0_t2_loop.trips) : Fin 5 → Nat :=
  let c0_47 : Index := 0#32
  let c0_48 : Index := 0#32
  let c0_i32_10 : BitVec 32 := 0#32
  let c1_i32_11 : BitVec 32 := 1#32
  let arg21 : BitVec 32 := Scf.iv c0_i32_10 c1_i32_11 k0_t2
  let c16_i32_13 : BitVec 32 := 16#32
  let v43 : BitVec 32 := Scalar.muli arg21 c16_i32_13
  let v44 : BitVec 32 := v43
  let v279 : Index := Scalar.indexCast v44
  let c0_49 : Index := 0#32
  let c0_50 : Index := 0#32
  ![0, 0, v279.toNat, 0, 0]
def k0_off7 (k0_t2 : Fin k0_t2_loop.trips) : Fin 5 → Nat :=
  let c0_51 : Index := 0#32
  let c0_52 : Index := 0#32
  let c0_i32_10 : BitVec 32 := 0#32
  let c1_i32_11 : BitVec 32 := 1#32
  let arg21 : BitVec 32 := Scf.iv c0_i32_10 c1_i32_11 k0_t2
  let c16_i32_13 : BitVec 32 := 16#32
  let v43 : BitVec 32 := Scalar.muli arg21 c16_i32_13
  let v44 : BitVec 32 := v43
  let v284 : Index := Scalar.indexCast v44
  let c0_53 : Index := 0#32
  let c0_54 : Index := 0#32
  ![0, 0, v284.toNat, 0, 0]
def k0_off8 (k0_t2 : Fin k0_t2_loop.trips) : Fin 4 → Nat :=
  let c0_55 : Index := 0#32
  let c0_56 : Index := 0#32
  let c0_i32_10 : BitVec 32 := 0#32
  let c1_i32_11 : BitVec 32 := 1#32
  let arg21 : BitVec 32 := Scf.iv c0_i32_10 c1_i32_11 k0_t2
  let c16_i32_13 : BitVec 32 := 16#32
  let v43 : BitVec 32 := Scalar.muli arg21 c16_i32_13
  let v44 : BitVec 32 := v43
  let v292 : Index := Scalar.indexCast v44
  let c0_57 : Index := 0#32
  ![0, 0, v292.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x64x128x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x64x64x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrepRefIdeal.lean ====
abbrev S32768x3200 : Shape := ⟨2, ![32768, 3200]⟩
abbrev S8x4x64x64 : Shape := ⟨4, ![8, 4, 64, 64]⟩
abbrev S4x1536 : Shape := ⟨2, ![4, 1536]⟩
abbrev S4 : Shape := ⟨1, ![4]⟩
abbrev S1x4x1x1 : Shape := ⟨4, ![1, 4, 1, 1]⟩
abbrev S_ : Shape := ⟨0, ![]⟩
abbrev S8x4x64 : Shape := ⟨3, ![8, 4, 64]⟩
abbrev S8x4x64x1 : Shape := ⟨4, ![8, 4, 64, 1]⟩
abbrev S8x4x64x128 : Shape := ⟨4, ![8, 4, 64, 128]⟩

abbrev nBuf : Space → Nat
  | .hbm => 33
  | .vmem => 0
  | .smem => 0
  | _ => 0

abbrev bufTy : (tb : Table) → Fin (tcTables nBuf tb) → BufTy
  | .hbm, ⟨0, _⟩ => ⟨S32768x3200, .f32⟩
  | .hbm, ⟨1, _⟩ => ⟨S8x4x64x64, .f32⟩
  | .hbm, ⟨2, _⟩ => ⟨S8x4x64x64, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S1x4x1x1, .f32⟩
  | .hbm, ⟨8, _⟩ => ⟨S1x4x1x1, .f32⟩
  | .hbm, ⟨9, _⟩ => ⟨S1x4x1x1, .f32⟩
  | .hbm, ⟨10, _⟩ => ⟨S8x4x64x64, .f32⟩
  | .hbm, ⟨11, _⟩ => ⟨S8x4x64x64, .f32⟩
  | .hbm, ⟨12, _⟩ => ⟨S_, .f32⟩
  | .hbm, ⟨13, _⟩ => ⟨S8x4x64x64, .f32⟩
  | .hbm, ⟨14, _⟩ => ⟨S8x4x64x64, .f32⟩
  | .hbm, ⟨15, _⟩ => ⟨S8x4x64x64, .f32⟩
  | .hbm, ⟨16, _⟩ => ⟨S8x4x64x64, .f32⟩
  | .hbm, ⟨17, _⟩ => ⟨S8x4x64x64, .i1⟩
  | .hbm, ⟨18, _⟩ => ⟨S8x4x64x64, .f32⟩
  | .hbm, ⟨19, _⟩ => ⟨S8x4x64x64, .f32⟩
  | .hbm, ⟨20, _⟩ => ⟨S8x4x64x64, .f32⟩
  | .hbm, ⟨21, _⟩ => ⟨S8x4x64x64, .f32⟩
  | .hbm, ⟨22, _⟩ => ⟨S8x4x64x64, .f32⟩
  | .hbm, ⟨23, _⟩ => ⟨S8x4x64x64, .f32⟩
  | .hbm, ⟨24, _⟩ => ⟨S8x4x64x64, .f32⟩
  | .hbm, ⟨25, _⟩ => ⟨S8x4x64x64, .f32⟩
  | .hbm, ⟨26, _⟩ => ⟨S8x4x64x64, .f32⟩
  | .hbm, ⟨27, _⟩ => ⟨S8x4x64x64, .f32⟩
  | .hbm, ⟨28, _⟩ => ⟨S_, .f32⟩
  | .hbm, ⟨29, _⟩ => ⟨S8x4x64, .f32⟩
  | .hbm, ⟨30, _⟩ => ⟨S8x4x64, .f32⟩
  | .hbm, ⟨31, _⟩ => ⟨S8x4x64x1, .f32⟩
  | .hbm, ⟨32, _⟩ => ⟨S8x4x64x128, .f32⟩
  | _, _ => ⟨S32768x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.MoeTable.lean ====
module

public import proofs.«01_k».proof.Defs
public import proofs.«01_k».proof.Proof.Gen.Moe.Frame
public import proofs.«01_k».proof.Proof.Gen.MoeIdeal.Frame
public import proofs.«01_k».proof.Proof.Gen.Pre_experts_in_range
public import Idealize.ShloMosaic.Lib.Pointwise
public import Idealize.ShloMosaic.Lib.WordCmp
public import Idealize.ShloMosaic.Lib.Pipeline.ValueKit

/-! # The expert table of the grouped SwiGLU

The precondition says that every entry of the table of experts is one of `0 … 7`. Here that is turned into what the
pipeline asks: the block of weights that the table names lies inside the weights. -/

@[expose] public section

noncomputable section

namespace Cert.Proof

open Idealize.ShloMosaic Idealize.ShloMosaic.TcCoe Idealize.SL.Sem

/-- What the precondition says of one entry of the table. -/
theorem expert_lt {F : FTy → Type} [FloatOps F] (e u : IVec Cert.Pre_experts_in_range.S136 32) (a b c d f)
    (h : Cert.Pre_experts_in_range.fn (F := F) e u a b c d f = fun _ => 1#1) (x : Cert.Pre_experts_in_range.S136.Idx) :
    (e x).toNat < 8 := by
  have h := congrFun h x
  simp only [Cert.Pre_experts_in_range.fn, andi, cmpi, broadcastInDim, constantI] at h
  generalize e x = w at h ⊢
  have one (a b : BitVec 1) : a &&& b = 1#1 ↔ a = 1#1 ∧ b = 1#1 := by revert a b; decide
  simp only [IntOp.andi, IntOp.cmpi, one, WordCmp.ofBool_eq_one_iff, BitVec.sle_iff_toInt_le, BitVec.slt_iff_toInt_lt] at h
  obtain ⟨h0, h8⟩ := h
  have e0 : (0#32).toInt = 0 := by decide
  have e8 : (8#32).toInt = 8 := by decide
  rw [e0] at h0; rw [e8] at h8
  have hw := BitVec.toInt_eq_toNat_cond w
  have := w.isLt
  split_ifs at hw <;> push_cast at hw <;> omega

end Cert.Proof

namespace Cert.Moe.Val

open Idealize.ShloMosaic Idealize.ShloMosaic.TcCoe Idealize.SL.Sem Cert.Moe Cert.Moe.Gen

variable {F : FTy → Type} [FloatOps F]

/-- Entry `i 0` of a table, through the rectangle that names it. -/
theorem rect_idx (i : grid0.Coords) (h) (y) :
    (Rect.unit (s := S136) (k0_off1 i) S1.size h).emb y = ix1 (i 0) := by
  refine funext fun a => ?_
  fin_cases a
  apply Fin.ext
  have e : k0_off1 i 0 = (i 0).val := by rw [k0_off1_eq]; rfl
  have hy : (y 0).val = 0 := Nat.lt_one_iff.mp (y 0).isLt
  show k0_off1 i 0 + 1 * (y 0).val = (i 0).val
  omega

/-- The blocks of the two up-projections at a point: the expert's, and the point's half of the hidden axis. -/
theorem index2 (pf : pre0.Contents (Elt F)) (i : grid0.Coords) :
    cc0_transform_2 k0_off1_inb numel1_S1 pf i = ![(pf 0 (ix1 (i 0)) : BitVec 32).toNat, 0, (i 1).val] := by
  have e : pf.at 0 (Rect.unit (s := S136) (k0_off1 i) S1.size (k0_off1_inb i)) numel1_S1 = pf 0 (ix1 (i 0)) :=
    congrArg (pf 0) (rect_idx i _ _)
  have h1 : (BitVec.ofNat 32 (i 1).val).toNat = (i 1).val := WordCmp.toNat_ofNat_of_lt (by have : (i 1).val < 2 := (i 1).isLt; omega)
  unfold cc0_transform_2
  dsimp only
  rw [h1]
  exact congrArg (fun w : BitVec 32 => ![w.toNat, 0, (i 1).val]) e

/-- The block of the down-projection at a point. -/
theorem index4 (pf : pre0.Contents (Elt F)) (i : grid0.Coords) :
    cc0_transform_4 k0_off1_inb numel1_S1 pf i = ![(pf 0 (ix1 (i 0)) : BitVec 32).toNat, (i 1).val, 0] := by
  have e : pf.at 0 (Rect.unit (s := S136) (k0_off1 i) S1.size (k0_off1_inb i)) numel1_S1 = pf 0 (ix1 (i 0)) :=
    congrArg (pf 0) (rect_idx i _ _)
  have h1 : (BitVec.ofNat 32 (i 1).val).toNat = (i 1).val := WordCmp.toNat_ofNat_of_lt (by have : (i 1).val < 2 := (i 1).isLt; omega)
  unfold cc0_transform_4
  dsimp only
  rw [h1]
  exact congrArg (fun w : BitVec 32 => ![w.toNat, (i 1).val, 0]) e

/-- A table of experts below eight passes the pipeline's side condition. -/
theorem ok_of_lt (pf : pre0.Contents (Elt F)) (h : ∀ x : S136.Idx, (pf 0 x : BitVec 32).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h8 := h (ix1 (i 0))
    have h2 : (i 1).val < 2 := (i 1).isLt
  · rw [index2]; fin_cases a <;> simp <;> omega
  · rw [show cc0_transform_3 k0_off1_inb numel1_S1 pf i = cc0_transform_2 k0_off1_inb numel1_S1 pf i from rfl, index2]
    fin_cases a <;> simp <;> omega
  · rw [index4]; fin_cases a <;> simp <;> omega

/-- So does a memory that satisfies the precondition. -/
theorem ok_of_pre (m : (ℓ : Loc nD τ sig) → Buf (Elt F) ℓ)
    (h : ∀ c : Dev nD, Cert.Pre_experts_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Ok m :=
  ok_of_lt (tbl m) fun x => by
    have e : tbl m 0 = m (((0 : Dev nD).tc : Thread nD τ).loc main_arg0) := V_main_arg0 m 0
    rw [e]
    exact Cert.Proof.expert_lt _ _ _ _ _ _ _ (h 0) x

end Cert.Moe.Val

namespace Cert.MoeIdeal.Val

open Idealize.ShloMosaic Idealize.ShloMosaic.TcCoe Idealize.SL.Sem Cert.MoeIdeal Cert.MoeIdeal.Gen

variable {F : FTy → Type} [FloatOps F]

/-- Entry `i 0` of a table, through the rectangle that names it. -/
theorem rect_idx (i : grid0.Coords) (h) (y) :
    (Rect.unit (s := S136) (k0_off1 i) S1.size h).emb y = ix1 (i 0) := by
  refine funext fun a => ?_
  fin_cases a
  apply Fin.ext
  have e : k0_off1 i 0 = (i 0).val := by rw [k0_off1_eq]; rfl
  have hy : (y 0).val = 0 := Nat.lt_one_iff.mp (y 0).isLt
  show k0_off1 i 0 + 1 * (y 0).val = (i 0).val
  omega

/-- The blocks of the two up-projections at a point: the expert's, and the point's half of the hidden axis. -/
theorem index2 (pf : pre0.Contents (Elt F)) (i : grid0.Coords) :
    cc0_transform_2 k0_off1_inb numel1_S1 pf i = ![(pf 0 (ix1 (i 0)) : BitVec 32).toNat, 0, (i 1).val] := by
  have e : pf.at 0 (Rect.unit (s := S136) (k0_off1 i) S1.size (k0_off1_inb i)) numel1_S1 = pf 0 (ix1 (i 0)) :=
    congrArg (pf 0) (rect_idx i _ _)
  have h1 : (BitVec.ofNat 32 (i 1).val).toNat = (i 1).val := WordCmp.toNat_ofNat_of_lt (by have : (i 1).val < 2 := (i 1).isLt; omega)
  unfold cc0_transform_2
  dsimp only
  rw [h1]
  exact congrArg (fun w : BitVec 32 => ![w.toNat, 0, (i 1).val]) e

/-- The block of the down-projection at a point. -/
theorem index4 (pf : pre0.Contents (Elt F)) (i : grid0.Coords) :
    cc0_transform_4 k0_off1_inb numel1_S1 pf i = ![(pf 0 (ix1 (i 0)) : BitVec 32).toNat, (i 1).val, 0] := by
  have e : pf.at 0 (Rect.unit (s := S136) (k0_off1 i) S1.size (k0_off1_inb i)) numel1_S1 = pf 0 (ix1 (i 0)) :=
    congrArg (pf 0) (rect_idx i _ _)
  have h1 : (BitVec.ofNat 32 (i 1).val).toNat = (i 1).val := WordCmp.toNat_ofNat_of_lt (by have : (i 1).val < 2 := (i 1).isLt; omega)
  unfold cc0_transform_4
  dsimp only
  rw [h1]
  exact congrArg (fun w : BitVec 32 => ![w.toNat, (i 1).val, 0]) e

/-- A table of experts below eight passes the pipeline's side condition. -/
theorem ok_of_lt (pf : pre0.Contents (Elt F)) (h : ∀ x : S136.Idx, (pf 0 x : BitVec 32).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h8 := h (ix1 (i 0))
    have h2 : (i 1).val < 2 := (i 1).isLt
  · rw [index2]; fin_cases a <;> simp <;> omega
  · rw [show cc0_transform_3 k0_off1_inb numel1_S1 pf i = cc0_transform_2 k0_off1_inb numel1_S1 pf i from rfl, index2]
    fin_cases a <;> simp <;> omega
  · rw [index4]; fin_cases a <;> simp <;> omega

/-- So does a memory that satisfies the precondition. -/
theorem ok_of_pre (m : (ℓ : Loc nD τ sig) → Buf (Elt F) ℓ)
    (h : ∀ c : Dev nD, Cert.Pre_experts_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Ok m :=
  ok_of_lt (tbl m) fun x => by
    have e : tbl m 0 = m (((0 : Dev nD).tc : Thread nD τ).loc main_arg0) := V_main_arg0 m 0
    rw [e]
    exact Cert.Proof.expert_lt _ _ _ _ _ _ _ (h 0) x

end Cert.MoeIdeal.Val

end
-- ==== Proof.RouterPick.lean ====
module

public import Idealize.ShloMosaic.PureOps.Ideal.Laws
public import Idealize.ShloMosaic.Lib.SortFacts

/-! # Picking the two greatest of eight

The reference sorts the positions, the greater value first and equal values in their order, and takes the first two. The
kernel takes the greatest value over 128 lanes, then the first lane that holds it, masks the lane, and does so again. -/

@[expose] public section

noncomputable section

namespace Cert.RouterPick

open Idealize.ShloMosaic

/-- The position `i` comes ahead of `j`: its value is greater, or equal at a lower position. -/
def Ahead {n : Nat} (f : Fin n → EReal) (i j : Fin n) : Prop := f j < f i ∨ (f i = f j ∧ i < j)

/-- `p` has the greatest value, the first of equals; `q` has it among the others. -/
structure Picks {n : Nat} (f : Fin n → EReal) (p q : Fin n) : Prop where
  ne : q ≠ p
  first : ∀ i, i ≠ p → Ahead f p i
  second : ∀ i, i ≠ p → i ≠ q → Ahead f q i

theorem Picks.second_le {n : Nat} {f : Fin n → EReal} {p q : Fin n} (h : Picks f p q) : f q ≤ f p :=
  (h.first q h.ne).elim le_of_lt fun e => e.1.ge

/-- The order in which the sort asks two positions: the first holds the greater value. -/
def greater {n : Nat} (f : Fin n → EReal) (i j : Fin n) : Bool := Ideal.cmp .ogt (f i) (f j) == 1#1

theorem greater_iff {n : Nat} (f : Fin n → EReal) (i j : Fin n) : greater f i j = true ↔ f j < f i := by
  unfold greater Ideal.cmp
  by_cases h : f j < f i <;> simp [h]

/-- An element put into a list of later positions stays ahead of its equals. -/
theorem ahead_insert {n : Nat} (f : Fin n → EReal) (a : Fin n) (l : List (Fin n)) (ha : ∀ b ∈ l, a < b) (hl : l.Pairwise (Ahead f)) :
    (insertBefore (greater f) a l).Pairwise (Ahead f) := by
  induction l with
  | nil => exact List.pairwise_singleton _ _
  | cons b l ih =>
    have hb := List.pairwise_cons.mp hl
    unfold insertBefore
    split
    next h =>
      refine List.pairwise_cons.mpr ⟨fun c hc => ?_, ih (fun c hc => ha c (List.mem_cons_of_mem _ hc)) hb.2⟩
      obtain rfl | hc := List.mem_cons.mp ((perm_insertBefore (greater f) a l).subset hc)
      · exact Or.inl ((greater_iff f _ _).mp h)
      · exact hb.1 c hc
    next h =>
      have hle : f b ≤ f a := not_lt.mp fun hlt => h ((greater_iff f _ _).mpr hlt)
      refine List.pairwise_cons.mpr ⟨fun c hc => ?_, hl⟩
      have hca : f c ≤ f a := by
        obtain rfl | hc' := List.mem_cons.mp hc
        · exact hle
        · exact ((hb.1 c hc').elim le_of_lt fun e => e.1.ge).trans hle
      exact hca.lt_or_eq.imp id fun e => ⟨e.symm, ha c hc⟩

/-- The sorted positions: each ahead of those behind it. -/
theorem ahead_sort {n : Nat} (f : Fin n → EReal) (l : List (Fin n)) (hl : l.Pairwise (· < ·)) :
    (stableSort (greater f) l).Pairwise (Ahead f) := by
  induction l with
  | nil => exact List.Pairwise.nil
  | cons a l ih =>
    have h := List.pairwise_cons.mp hl
    exact ahead_insert f a _ (fun b hb => h.1 b ((perm_stableSort (greater f) l).subset hb)) (ih h.2)

/-- The first two sorted positions are the two picks. -/
theorem picks_sorted (f : Fin 8 → EReal) : Picks f (sortedFrom (greater f) 0) (sortedFrom (greater f) 1) := by
  have hp : (sortPositions 8 (greater f)).Pairwise (Ahead f) := ahead_sort f _ (List.pairwise_lt_finRange 8)
  have hperm : (sortPositions 8 (greater f)).Perm (List.finRange 8) := perm_stableSort _ _
  have hlen := length_sortPositions 8 (greater f)
  have hnd : (sortPositions 8 (greater f)).Nodup := hperm.nodup_iff.mpr (List.nodup_finRange 8)
  have hat : ∀ i : Fin 8, ∃ k : Nat, ∃ h : k < (sortPositions 8 (greater f)).length, (sortPositions 8 (greater f))[k] = i := fun i =>
    List.mem_iff_getElem.mp (hperm.symm.subset (List.mem_finRange i))
  have e0 : sortedFrom (greater f) 0 = (sortPositions 8 (greater f))[0]'(by omega) := rfl
  have e1 : sortedFrom (greater f) 1 = (sortPositions 8 (greater f))[1]'(by omega) := rfl
  rw [e0, e1]
  refine ⟨fun h => absurd (hnd.getElem_inj_iff.mp h) (by omega), fun i hi => ?_, fun i hi hi' => ?_⟩
  · obtain ⟨k, hk, rfl⟩ := hat i
    rcases Nat.eq_zero_or_pos k with rfl | hpos
    · exact absurd rfl hi
    · exact List.pairwise_iff_getElem.mp hp 0 k (by omega) hk hpos
  · obtain ⟨k, hk, rfl⟩ := hat i
    rcases Nat.lt_or_ge 1 k with hpos | hk2
    · exact List.pairwise_iff_getElem.mp hp 1 k (by omega) hk hpos
    · have hk3 : k = 0 ∨ k = 1 := by omega
      rcases hk3 with rfl | rfl
      · exact absurd rfl hi
      · exact absurd rfl hi'

/-- The values in 128 lanes, the last 120 masked. -/
def pad (f : Fin 8 → EReal) (j : Fin 128) : EReal := if h : j.val < 8 then f ⟨j.val, h⟩ else ⊥

/-- The same with the lane `p` masked as well. -/
def padBut (f : Fin 8 → EReal) (p : Fin 8) (j : Fin 128) : EReal := if j.val = p.val then ⊥ else pad f j

/-- The first lane whose value is `v`, as an extended real; 128 where none is. -/
def laneOf (g : Fin 128 → EReal) (v : EReal) : EReal := Finset.univ.inf fun j : Fin 128 => if g j = v then ((j.val : ℝ) : EReal) else ((128 : ℝ) : EReal)

theorem pad_at (f : Fin 8 → EReal) (p : Fin 8) : pad f ⟨p.val, by omega⟩ = f p := dif_pos p.isLt

/-- The greatest lane is the first pick's value. -/
theorem sup_pad {f : Fin 8 → EReal} {p q : Fin 8} (h : Picks f p q) : Finset.univ.sup (pad f) = f p := by
  refine le_antisymm (Finset.sup_le fun j _ => ?_) ((pad_at f p).symm.le.trans (Finset.le_sup (Finset.mem_univ _)))
  unfold pad
  split
  next hj =>
    by_cases e : (⟨j.val, hj⟩ : Fin 8) = p
    · rw [e]
    · exact (h.first _ e).elim le_of_lt fun e => e.1.ge
  next => exact bot_le

/-- The first lane that holds a value: a lane that holds it and ahead of which no lane does. -/
theorem laneOf_eq (g : Fin 128 → EReal) (v : EReal) (p : Fin 128) (hp : g p = v) (hmin : ∀ j, g j = v → p.val ≤ j.val) :
    laneOf g v = ((p.val : ℝ) : EReal) := by
  unfold laneOf
  refine le_antisymm ((Finset.inf_le (Finset.mem_univ p)).trans (if_pos hp).le) (Finset.le_inf fun j _ => ?_)
  split
  next hj => exact EReal.coe_le_coe_iff.mpr (Nat.cast_le.mpr (hmin j hj))
  next => exact EReal.coe_le_coe_iff.mpr (by exact_mod_cast p.isLt.le)

/-- The first lane that holds the greatest value is the first pick, when no value is masked. -/
theorem lane_first {f : Fin 8 → EReal} {p q : Fin 8} (h : Picks f p q) (hf : ∀ i, f i ≠ ⊥) : laneOf (pad f) (f p) = ((p.val : ℝ) : EReal) := by
  refine laneOf_eq (pad f) (f p) ⟨p.val, by omega⟩ (pad_at f p) fun j hj => ?_
  unfold pad at hj
  split at hj
  next h8 =>
    by_cases e : (⟨j.val, h8⟩ : Fin 8) = p
    · exact (congrArg Fin.val e).ge
    · rcases h.first _ e with hlt | ⟨-, hlt⟩
      · exact absurd hj hlt.ne
      · exact Nat.le_of_lt hlt
  next => exact absurd hj.symm (hf p)

/-- With the first pick masked the greatest lane is the second pick's value. -/
theorem sup_padBut {f : Fin 8 → EReal} {p q : Fin 8} (h : Picks f p q) : Finset.univ.sup (padBut f p) = f q := by
  have hq : padBut f p ⟨q.val, by omega⟩ = f q := (if_neg fun e => h.ne (Fin.ext e)).trans (pad_at f q)
  refine le_antisymm (Finset.sup_le fun j _ => ?_) (hq.symm.le.trans (Finset.le_sup (Finset.mem_univ _)))
  unfold padBut pad
  split
  next => exact bot_le
  next hne =>
    split
    next hj =>
      by_cases e : (⟨j.val, hj⟩ : Fin 8) = q
      · rw [e]
      · exact (h.second _ (fun e' => hne (congrArg Fin.val e')) e).elim le_of_lt fun e => e.1.ge
    next => exact bot_le

/-- The first lane that holds it is the second pick. -/
theorem lane_second {f : Fin 8 → EReal} {p q : Fin 8} (h : Picks f p q) (hf : ∀ i, f i ≠ ⊥) :
    laneOf (padBut f p) (f q) = ((q.val : ℝ) : EReal) := by
  have hq : padBut f p ⟨q.val, by omega⟩ = f q := (if_neg fun e => h.ne (Fin.ext e)).trans (pad_at f q)
  refine laneOf_eq (padBut f p) (f q) ⟨q.val, by omega⟩ hq fun j hj => ?_
  unfold padBut pad at hj
  split at hj
  next => exact absurd hj.symm (hf q)
  next hne =>
    split at hj
    next h8 =>
      by_cases e : (⟨j.val, h8⟩ : Fin 8) = q
      · exact (congrArg Fin.val e).ge
      · rcases h.second _ (fun e' => hne (congrArg Fin.val e')) e with hlt | ⟨-, hlt⟩
        · exact absurd hj hlt.ne
        · exact Nat.le_of_lt hlt
    next => exact absurd hj.symm (hf q)

/-- A row's normed entry. -/
def normed (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- A row's score for an expert. -/
def logit (x g : Fin 1024 → EReal) (w : Fin 1024 → Fin 8 → EReal) (e : Fin 8) : EReal := ∑ k : Fin 1024, normed x g k * w k e

/-- The two picks. -/
def pick (f : Fin 8 → EReal) (k : Fin 8) : Fin 8 := sortedFrom (greater f) k

/-- The second pick's share before it is divided by the sum. -/
def share (f : Fin 8 → EReal) : EReal := Ideal.exp (f (pick f 1) - f (pick f 0))

/-- What a row leaves: the two picks, their two weights, and zeros. -/
def route (f : Fin 8 → EReal) (b : Fin 128) : EReal :=
  if b.val = 0 then (((pick f 0).val : ℝ) : EReal) else if b.val = 1 then (((pick f 1).val : ℝ) : EReal)
  else if b.val = 2 then Ideal.div 1 (1 + share f) else if b.val = 3 then Ideal.div (share f) (1 + share f) else 0

/-- The constants of the two sides. -/
theorem lit_bot : Ideal.ofBits FTy.f32 4286578688#32 = ⊥ := by first | rfl | simp [Ideal.ofBits, Ideal.ieee]
theorem lit_top : Ideal.ofBits FTy.f32 2139095040#32 = ⊤ := by first | rfl | simp [Ideal.ofBits, Ideal.ieee]
theorem lit_128 : Ideal.ofBits FTy.f32 1124073472#32 = ((128 : ℝ) : EReal) := by
  simp [Ideal.ofBits, Ideal.ieee]
  rw [← EReal.coe_mul]
  norm_num
theorem lit_8 : Ideal.ofBits FTy.f32 1090519040#32 = ((8 : ℝ) : EReal) := by
  simp [Ideal.ofBits, Ideal.ieee]
  rw [← EReal.coe_mul]
  norm_num
theorem lit_3 : Ideal.ofBits FTy.f32 1077936128#32 = ((3 : ℝ) : EReal) := by
  simp [Ideal.ofBits, Ideal.ieee]
  rw [← EReal.coe_mul]
  norm_num
theorem lit_2 : Ideal.ofBits FTy.f32 1073741824#32 = ((2 : ℝ) : EReal) := by
  simp [Ideal.ofBits, Ideal.ieee]
  rw [← EReal.coe_mul]
  norm_num

/-- The exponential of zero. -/
theorem exp_zero' : Ideal.exp 0 = 1 := by
  show ((Real.exp 0 : ℝ) : EReal) = 1
  rw [Real.exp_zero]
  rfl

/-- A small number's word, read back. -/
theorem word_real {n : Nat} (k : Fin n) (hn : n ≤ 128 := by omega) : (FloatOps.sitofp (F := Ideal) FTy.f32 (BitVec.ofNat 32 k.val)) = ((k.val : ℝ) : EReal) := by
  have h : (BitVec.ofNat 32 k.val).toInt = (k.val : Int) := by
    rw [BitVec.toInt_eq_toNat_cond, BitVec.toNat_ofNat]
    have := k.isLt
    split <;> omega
  show (((BitVec.ofNat 32 k.val).toInt : ℝ) : EReal) = _
  rw [h]
  norm_cast

end Cert.RouterPick
end
-- ==== Proof.RouterReal.lean ====
module

public import proofs.«01_k».proof.Proof.RouterPick

/-! # The router's scores are finite where its scale and weights are -/

@[expose] public section

noncomputable section

namespace Cert.RouterPick

open Idealize.ShloMosaic

/-- A value that is a real number. -/
def IsReal (v : EReal) : Prop := ∃ r : ℝ, v = (r : EReal)

theorem IsReal.ne_bot {v : EReal} (h : IsReal v) : v ≠ ⊥ := by
  obtain ⟨r, rfl⟩ := h
  exact EReal.coe_ne_bot r

theorem IsReal.ne_top {v : EReal} (h : IsReal v) : v ≠ ⊤ := by
  obtain ⟨r, rfl⟩ := h
  exact EReal.coe_ne_top r

/-- Its difference from itself is zero. -/
theorem IsReal.sub_self {v : EReal} (h : IsReal v) : v - v = 0 := EReal.sub_self h.ne_top h.ne_bot

theorem IsReal.mul {v w : EReal} (h : IsReal v) (h' : IsReal w) : IsReal (v * w) := by
  obtain ⟨r, rfl⟩ := h
  obtain ⟨s, rfl⟩ := h'
  exact ⟨r * s, (EReal.coe_mul r s).symm⟩

/-- A sum of real numbers is one. -/
theorem IsReal.sum {n : Nat} {f : Fin n → EReal} (h : ∀ i, IsReal (f i)) : IsReal (∑ i, f i) := by
  choose r hr using h
  refine ⟨∑ i, r i, ?_⟩
  rw [show f = fun i => (r i : EReal) from funext hr]
  induction n with
  | zero => simp
  | succ n ih => rw [Fin.sum_univ_succ, Fin.sum_univ_succ, EReal.coe_add, ih (f := fun i => f i.succ) (fun i => r i.succ) (fun i => hr i.succ)]

/-- A value below the greatest one in size is a real number. -/
theorem IsReal.of_abs {v : EReal} (h : max v (-v) < ⊤) : IsReal v := by
  induction v with
  | bot => exact absurd h (by simp)
  | top => exact absurd h (by simp)
  | coe r => exact ⟨r, rfl⟩

/-- The number of features. -/
theorem lit_1024 : Ideal.ofBits FTy.f32 1149239296#32 = ((1024 : ℝ) : EReal) := by
  simp [Ideal.ofBits, Ideal.ieee]
  rw [← EReal.coe_mul]
  norm_num

/-- The offset under the root is positive. -/
theorem lit_eps : ∃ e : ℝ, 0 < e ∧ Ideal.ofBits FTy.f32 897988541#32 = (e : EReal) := by
  simp [Ideal.ofBits, Ideal.ieee]
  rw [← EReal.coe_mul]
  exact ⟨_, by norm_num, rfl⟩

/-- A square is not negative. -/
theorem square_nonneg (v : EReal) : 0 ≤ v * v := by
  induction v with
  | bot => simp
  | top => simp
  | coe r =>
    rw [← EReal.coe_mul]
    exact EReal.coe_nonneg.mpr (mul_self_nonneg r)

/-- A factor of a sum of squares that is a real number is one. -/
theorem IsReal.of_squares {x : Fin 1024 → EReal} {s : ℝ} (h : (∑ j : Fin 1024, x j * x j) = (s : EReal)) (k : Fin 1024) : IsReal (x k) := by
  have hk : x k * x k ≤ (s : EReal) := h ▸ Finset.single_le_sum (f := fun j => x j * x j) (fun j _ => square_nonneg (x j)) (Finset.mem_univ k)
  generalize x k = v at hk
  induction v with
  | bot => exact absurd hk (by simp)
  | top => exact absurd hk (by simp)
  | coe r => exact ⟨r, rfl⟩

/-- The normed entries, with a finite scale. In a row with an infinite entry the root is infinite and they are zero. -/
theorem normed_real {x g : Fin 1024 → EReal} (hg : ∀ k, IsReal (g k)) (k : Fin 1024) : IsReal (normed x g k) := by
  obtain ⟨e, he, hlit⟩ := lit_eps
  have h0 : (0 : EReal) ≤ ∑ j : Fin 1024, x j * x j := Finset.sum_nonneg fun j _ => square_nonneg (x j)
  unfold normed
  refine IsReal.mul ?_ (hg k)
  rw [hlit, lit_1024]
  generalize hs : (∑ j : Fin 1024, x j * x j) = S at h0
  have hn : ¬ ((1024 : ℝ) : EReal) = 0 := by exact_mod_cast (by norm_num : (1024 : ℝ) ≠ 0)
  induction S with
  | bot => exact absurd h0 (by simp)
  | top =>
    have hd : Ideal.div ⊤ ((1024 : ℝ) : EReal) = ⊤ := by
      unfold Ideal.div
      rw [if_neg hn, ← EReal.coe_inv]
      exact EReal.top_mul_coe_of_pos (by norm_num)
    rw [hd, EReal.top_add_coe]
    refine ⟨0, ?_⟩
    show x k * 0 = _
    rw [mul_zero]
    rfl
  | coe s =>
    have hs0 : 0 ≤ s := EReal.coe_nonneg.mp h0
    have hd : Ideal.div (s : EReal) ((1024 : ℝ) : EReal) = ((s * 1024⁻¹ : ℝ) : EReal) := by
      unfold Ideal.div
      rw [if_neg hn, ← EReal.coe_inv, ← EReal.coe_mul]
    rw [hd, ← EReal.coe_add]
    have hp : 0 < s * 1024⁻¹ + e := by positivity
    refine (IsReal.of_squares hs k).mul ⟨(Real.sqrt (s * 1024⁻¹ + e))⁻¹, ?_⟩
    show (if s * 1024⁻¹ + e < 0 then (⊥ : EReal) else if s * 1024⁻¹ + e = 0 then ⊤ else (((Real.sqrt (s * 1024⁻¹ + e))⁻¹ : ℝ) : EReal)) = _
    rw [if_neg hp.le.not_gt, if_neg hp.ne']

/-- And their scores, with finite weights. -/
theorem logit_real {x g : Fin 1024 → EReal} {w : Fin 1024 → Fin 8 → EReal} (hg : ∀ k, IsReal (g k))
    (hw : ∀ k e, IsReal (w k e)) (e : Fin 8) : IsReal (logit x g w e) :=
  IsReal.sum fun k => (normed_real hg k).mul (hw k e)

end Cert.RouterPick
end
-- ==== Proof.RouterPre.lean ====
module

public import proofs.«01_k».proof.Defs
public import proofs.«01_k».proof.Proof.Gen.Pre_router_finite
public import proofs.«01_k».proof.Proof.RouterReal
public import Idealize.ShloMosaic.Lib.Pointwise
public import Idealize.ShloMosaic.Lib.WordCmp

/-! # What the router's precondition says -/

@[expose] public section

noncomputable section

namespace Cert.Proof

attribute [local instance] Cert.Pre_router_finite.Gen.facts

open Idealize.ShloMosaic Cert.Pre_router_finite Cert.RouterPick

/-- Each gain and each weight is a real number. -/
theorem router_reals (x : FVec Ideal S32768x1024 .f32) (g : FVec Ideal S1024 .f32) (w : FVec Ideal S1024x8 .f32)
    (h : Cert.Pre_router_finite.fn (F := Ideal) x g w = fun _ => 1#1) (k : Fin 1024) (e : Fin 8) :
    IsReal (g (ix1 k)) ∧ IsReal (w (ix2 k e)) := by
  have h' := congrFun h (ix2 k e)
  revert h'
  unfold Cert.Pre_router_finite.fn
  pointwise
  have one (a b : BitVec 1) : a &&& b = 1#1 ↔ a = 1#1 ∧ b = 1#1 := by revert a b; decide
  simp only [IntOp.andi, one, WordCmp.ofBool_eq_one_iff, decide_eq_true_eq, lit_top]
  exact fun h => ⟨IsReal.of_abs h.1, IsReal.of_abs h.2⟩

end Cert.Proof

end
-- ==== Proof.MoeValue.lean ====
module

public import proofs.«01_k».proof.Proof.MoeTable
public import Idealize.ShloMosaic.Lib.Pipeline.ValueKit
public import Idealize.ShloMosaic.Lib.Pipeline.ReadBack
public import Idealize.ShloMosaic.Lib.StableHlo.ReadAt
public import Idealize.ShloMosaic.Lib.Pipeline.Covers

@[expose] public section

set_option maxRecDepth 16384

noncomputable section

namespace Cert.MoeIdeal.Val

open Idealize.ShloMosaic Idealize.ShloMosaic.TcCoe Idealize.SL.Sem Cert.MoeIdeal Cert.MoeIdeal.Gen

variable (m : (ℓ : Loc nD τ sig) → Buf (Elt Ideal) ℓ)

/-- The table's word that the body reads at a point. -/
abbrev usedWord (t : Fin grid0.N) : BitVec 32 :=
  tbM0_1.view.readAt (Elt Ideal) (Rect.unit (s := S136) (k0_off1 (grid0.coords t)) S1.size (k0_off1_inb (grid0.coords t))).toLoadRect (tbl m 1) (Shape.Idx.first (numel1_S1.symm ▸ Nat.one_pos))

/-- The word that says whether the point's tile is in use, as an entry of the second table. -/
theorem usedWord_eq (t : Fin grid0.N) : usedWord m t = m (((0 : Dev nD).tc : Thread nD τ).loc main_arg1) (ix1 (grid0.coords t 0)) := by
  have e : tbl m 1 = m (((0 : Dev nD).tc : Thread nD τ).loc main_arg1) := V_main_arg1 m 0
  unfold usedWord
  rw [e]
  exact congrArg _ (rect_idx _ _ _)

/-- The body's second condition asks whether that word is one. -/
theorem cond_iff (i : grid0.Coords) (w : BitVec 32) : cond0_1 i w ↔ w = 1#32 := by
  unfold cond0_1
  simp only [hlo_ix]
  exact BitVec.toNat_inj

/-- The tile of a point. -/
theorem coord0 (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega

/-- The half of a point. -/
theorem coord1 (t : Fin grid0.N) : (grid0.coords t 1).val = t.val % 2 := by
  have h : (grid0.coords t 1).val = t.val / 1 % 2 := Pipeline.Grid.coords_val t 1 (by decide) rfl
  rw [h, Nat.div_one]

/-- The blocks of rows: block `t / 2` at the point `t`. -/
theorem rows_index (t : Fin grid0.N) : cc0_transform_0 (grid0.coords t) = ![t.val / 2, 0] := by
  have ht : t.val < 272 := Nat.lt_of_lt_of_eq t.isLt N_0
  unfold cc0_transform_0
  dsimp only
  rw [WordCmp.toNat_ofNat_of_lt (by rw [coord0]; omega), coord0]
  rfl

/-- The expert of the rows of block `b`, as the table has it. -/
abbrev word0 (b : Fin 136) : BitVec 32 := m (((0 : Dev nD).tc : Thread nD τ).loc main_arg0) (ix1 b)

/-- The table of experts the pipeline reads is the first argument. -/
theorem tbl0 (b : Fin 136) : (tbl m 0 (ix1 b) : BitVec 32) = word0 m b := congrFun (V_main_arg0 m 0 : tbl m 0 = _) _

/-- A block's coordinate on an axis, from its block index there. -/
theorem ax {z w n a r : ℕ} (h : z = w) (g : w * n + a = r) : z * n + a = r := h ▸ g

/-- A block's coordinate on an axis, from the block's offset there. -/
theorem ax0 {z w a r : ℕ} (h : z = w) (g : w + a = r) : z + a = r := h ▸ g

/-- The rows of the point's tile. -/
theorem iblk0_at (hO : Ok m) (c : Dev nD) (t : Fin grid0.N) (r : Fin 69632) (a : Fin 512) (k : Fin 1024) (hr : r.val = t.val / 2 * 512 + a.val) :
    (iblk m hO c 0 t : Vec Ideal S512x1024 .bf16) (ix2 a k) = m ((c.tc : Thread nD τ).loc main_arg2) (ix2 r k) := by
  show V m c main_arg2 ((((cfgM m hO).win 0).blk t).view.emb (ix2 a k)) = _
  rw [V_main_arg2]
  have i0 : (pcfg0.win (adm m hO) 0).index t 0 = t.val / 2 := congrFun (rows_index t) 0
  have i1 : (pcfg0.win (adm m hO) 0).index t 1 = 0 := congrFun (rows_index t) 1
  blk_ext []
  · exact ax i0 (by omega)
  · exact ax0 i1 (by omega)

/-- The routing weights of the point's tile. -/
theorem iblk1_at (hO : Ok m) (c : Dev nD) (t : Fin grid0.N) (r : Fin 69632) (a : Fin 512) (k : Fin 128) (hr : r.val = t.val / 2 * 512 + a.val) :
    (iblk m hO c 1 t : Vec Ideal S512x128 .f32) (ix2 a k) = m ((c.tc : Thread nD τ).loc main_arg3) (ix2 r k) := by
  show V m c main_arg3 ((((cfgM m hO).win 1).blk t).view.emb (ix2 a k)) = _
  rw [V_main_arg3]
  have i0 : (pcfg0.win (adm m hO) 1).index t 0 = t.val / 2 := congrFun (rows_index t) 0
  have i1 : (pcfg0.win (adm m hO) 1).index t 1 = 0 := congrFun (rows_index t) 1
  blk_ext []
  · exact ax i0 (by omega)
  · exact ax0 i1 (by omega)

/-- The first weight reaches the call as it is, its change of format being the identity. -/
theorem V_v0 (c : Dev nD) (i : S8x1024x2816.Idx) : (V m c main_v0 : S8x1024x2816.Idx → EReal) i = m ((c.tc : Thread nD τ).loc main_arg4) i := by
  unfold V
  after_reads_at

/-- So does the second. -/
theorem V_v1 (c : Dev nD) (i : S8x1024x2816.Idx) : (V m c main_v1 : S8x1024x2816.Idx → EReal) i = m ((c.tc : Thread nD τ).loc main_arg5) i := by
  unfold V
  after_reads_at

/-- So does the third. -/
theorem V_v2 (c : Dev nD) (i : S8x2816x1024.Idx) : (V m c main_v2 : S8x2816x1024.Idx → EReal) i = m ((c.tc : Thread nD τ).loc main_arg6) i := by
  unfold V
  after_reads_at

/-- The block index of the first two weights: the tile's expert, and the half of the features. -/
theorem up_index (t : Fin grid0.N) : cc0_transform_2 k0_off1_inb numel1_S1 (tbl m) (grid0.coords t) = ![(word0 m (grid0.coords t 0)).toNat, 0, t.val % 2] := by
  rw [index2]
  refine congr (congrArg _ (congrArg _ (tbl0 m _))) ?_
  rw [coord1]

/-- The block index of the third weight: the tile's expert, and the half of the features. -/
theorem down_index (t : Fin grid0.N) : cc0_transform_4 k0_off1_inb numel1_S1 (tbl m) (grid0.coords t) = ![(word0 m (grid0.coords t 0)).toNat, t.val % 2, 0] := by
  rw [index4]
  refine congr (congrArg _ (congrArg _ (tbl0 m _))) ?_
  rw [coord1]

/-- The first weight's block: the expert's, at the half's features. -/
theorem iblk2_at (hO : Ok m) (c : Dev nD) (t : Fin grid0.N) (e : Fin 8) (a : Fin 1024) (k : Fin 1408) (q : Fin 2816)
    (he : e.val = (word0 m (grid0.coords t 0)).toNat) (hq : q.val = t.val % 2 * 1408 + k.val) :
    (iblk m hO c 2 t : Vec Ideal S1x1024x1408 .bf16) (ix3 0 a k) = m ((c.tc : Thread nD τ).loc main_arg4) (ix3 e a q) := by
  show V m c main_v0 ((((cfgM m hO).win 2).blk t).view.emb (ix3 0 a k)) = _
  refine (V_v0 m c _).trans ?_
  have i0 : (pcfg0.win (adm m hO) 2).index t 0 = (word0 m (grid0.coords t 0)).toNat := congrFun (up_index m t) 0
  have i1 : (pcfg0.win (adm m hO) 2).index t 1 = 0 := congrFun (up_index m t) 1
  have i2 : (pcfg0.win (adm m hO) 2).index t 2 = t.val % 2 := congrFun (up_index m t) 2
  blk_ext []
  · exact ax0 i0 (by omega)
  · exact ax i1 (by omega)
  · exact ax i2 (by omega)

/-- The second weight's block. -/
theorem iblk3_at (hO : Ok m) (c : Dev nD) (t : Fin grid0.N) (e : Fin 8) (a : Fin 1024) (k : Fin 1408) (q : Fin 2816)
    (he : e.val = (word0 m (grid0.coords t 0)).toNat) (hq : q.val = t.val % 2 * 1408 + k.val) :
    (iblk m hO c 3 t : Vec Ideal S1x1024x1408 .bf16) (ix3 0 a k) = m ((c.tc : Thread nD τ).loc main_arg5) (ix3 e a q) := by
  show V m c main_v1 ((((cfgM m hO).win 3).blk t).view.emb (ix3 0 a k)) = _
  refine (V_v1 m c _).trans ?_
  have i0 : (pcfg0.win (adm m hO) 3).index t 0 = (word0 m (grid0.coords t 0)).toNat := congrFun (up_index m t) 0
  have i1 : (pcfg0.win (adm m hO) 3).index t 1 = 0 := congrFun (up_index m t) 1
  have i2 : (pcfg0.win (adm m hO) 3).index t 2 = t.val % 2 := congrFun (up_index m t) 2
  blk_ext []
  · exact ax0 i0 (by omega)
  · exact ax i1 (by omega)
  · exact ax i2 (by omega)

/-- The third weight's block. -/
theorem iblk4_at (hO : Ok m) (c : Dev nD) (t : Fin grid0.N) (e : Fin 8) (a : Fin 1408) (k : Fin 1024) (q : Fin 2816)
    (he : e.val = (word0 m (grid0.coords t 0)).toNat) (hq : q.val = t.val % 2 * 1408 + a.val) :
    (iblk m hO c 4 t : Vec Ideal S1x1408x1024 .bf16) (ix3 0 a k) = m ((c.tc : Thread nD τ).loc main_arg6) (ix3 e q k) := by
  show V m c main_v2 ((((cfgM m hO).win 4).blk t).view.emb (ix3 0 a k)) = _
  refine (V_v2 m c _).trans ?_
  have i0 : (pcfg0.win (adm m hO) 4).index t 0 = (word0 m (grid0.coords t 0)).toNat := congrFun (down_index m t) 0
  have i1 : (pcfg0.win (adm m hO) 4).index t 1 = t.val % 2 := congrFun (down_index m t) 1
  have i2 : (pcfg0.win (adm m hO) 4).index t 2 = 0 := congrFun (down_index m t) 2
  blk_ext []
  · exact ax0 i0 (by omega)
  · exact ax i1 (by omega)
  · exact ax i2 (by omega)

/-- The blocks written back cover the result. -/
theorem covers (hO : Ok m) : ((cfgM m hO).win 5).Covers := by
  refine ((cfgM m hO).win 5).covers_of_indexMap_surj rfl (show ∀ a : Fin 2, 0 < S512x1024.size a by decide) fun β => ?_
  have hn : ((cfgM m hO).win 5).nblk (0 : Fin 2) = 136 := by show (69632 + 512 - 1) / 512 = 136; decide
  have hn1 : ((cfgM m hO).win 5).nblk (1 : Fin 2) = 1 := by show (1024 + 1024 - 1) / 1024 = 1; decide
  have b0 := lt_of_lt_of_eq (β (0 : Fin 2)).isLt hn
  have b1 := lt_of_lt_of_eq (β (1 : Fin 2)).isLt hn1
  let i : grid0.Coords := Fin.cons (α := fun a : Fin 2 => Fin (grid0.bound a)) (⟨(β (0 : Fin 2)).val, b0⟩ : Fin 136) (Fin.cons (α := fun a : Fin 1 => Fin (grid0.bound a.succ)) (⟨0, by decide⟩ : Fin 2) fun a => a.elim0)
  refine ⟨i, ?_⟩
  show ∀ a : Fin 2, _
  rw [Fin.forall_fin_two]
  refine ⟨?_, ?_⟩
  · exact WordCmp.toNat_ofNat_of_lt (show (β (0 : Fin 2)).val < 2 ^ 32 by omega)
  · exact (Nat.lt_one_iff.mp b1).symm

/-- The gated activation of the expert `e` on the row `r`, at the inner feature `q`. -/
def act (x : S69632x1024.Idx → EReal) (g u : S8x1024x2816.Idx → EReal) (r : Fin 69632) (e : Fin 8) (q : Fin 2816) : EReal :=
  (∑ k : Fin 1024, x (ix2 r k) * g (ix3 e k q)) * Ideal.div 1 (1 + Ideal.exp (0 - ∑ k : Fin 1024, x (ix2 r k) * g (ix3 e k q)))
    * ∑ k : Fin 1024, x (ix2 r k) * u (ix3 e k q)

/-- The half `h` of the inner features' sum. -/
def half (x : S69632x1024.Idx → EReal) (g u : S8x1024x2816.Idx → EReal) (dn : S8x2816x1024.Idx → EReal) (r : Fin 69632) (e : Fin 8) (d : Fin 1024) (h : Fin 2) : EReal :=
  ∑ q : Fin 1408, act x g u r e ⟨h.val * 1408 + q.val, by omega⟩ * dn (ix3 e ⟨h.val * 1408 + q.val, by omega⟩ d)

/-- The whole sum is its two halves. -/
theorem half_add (x : S69632x1024.Idx → EReal) (g u : S8x1024x2816.Idx → EReal) (dn : S8x2816x1024.Idx → EReal) (r : Fin 69632) (e : Fin 8) (d : Fin 1024) :
    half x g u dn r e d 0 + half x g u dn r e d 1 = ∑ q : Fin 2816, act x g u r e q * dn (ix3 e q d) := by
  rw [show (∑ q : Fin 2816, act x g u r e q * dn (ix3 e q d)) = _ from Fin.sum_univ_add (a := 1408) (b := 1408) fun q : Fin 2816 => act x g u r e q * dn (ix3 e q d)]
  unfold half
  refine congr (congrArg _ (Finset.sum_congr rfl fun q _ => ?_)) (Finset.sum_congr rfl fun q _ => ?_)
  · have e1 : (⟨(0 : Fin 2).val * 1408 + q.val, by omega⟩ : Fin 2816) = Fin.castAdd 1408 q := Fin.ext (by simp)
    rw [e1]
  · have e1 : (⟨(1 : Fin 2).val * 1408 + q.val, by omega⟩ : Fin 2816) = Fin.natAdd 1408 q := Fin.ext (by simp [add_comm])
    rw [e1]

/-- The expert of the block of rows the row `r` lies in. -/
def expertOf (te : S136.Idx → BitVec 32) (r : Fin 69632) : Fin 8 := ⟨(te (ix1 ⟨r.val / 512, by omega⟩)).toNat % 8, Nat.mod_lt _ (by decide)⟩

/-- The layer's value at the row `r` and the feature `d`. -/
def moeAt (te tu : S136.Idx → BitVec 32) (x : S69632x1024.Idx → EReal) (w : S69632x128.Idx → EReal) (g u : S8x1024x2816.Idx → EReal)
    (dn : S8x2816x1024.Idx → EReal) (r : Fin 69632) (d : Fin 1024) : EReal :=
  if tu (ix1 ⟨r.val / 512, by omega⟩) = 1#32 then (∑ q : Fin 2816, act x g u r (expertOf te r) q * dn (ix3 (expertOf te r) q d)) * w (ix2 r 0) else 0

/-- The accumulator starts from zero. -/
theorem pay1_at (a : Fin 512) (b : Fin 1024) : (k0_pay1 : FVec Ideal S512x1024 .f32) (ix2 a b) = 0 := by
  unfold k0_pay1; pointwise

/-- One half of the sum over the features is added to the accumulator. -/
theorem pay2_at (x : FVec Ideal S512x1024 .bf16) (wg wu : FVec Ideal S1x1024x1408 .bf16) (acc : FVec Ideal S512x1024 .f32) (wd : FVec Ideal S1x1408x1024 .bf16) (a : Fin 512) (b : Fin 1024) :
    (k0_pay2 x wg wu acc wd : FVec Ideal S512x1024 .f32) (ix2 a b) = acc (ix2 a b) + ∑ q : Fin 1408, ((∑ k : Fin 1024, x (ix2 a k) * wg (ix3 0 k q)) * Ideal.div 1 (1 + Ideal.exp (0 - ∑ k : Fin 1024, x (ix2 a k) * wg (ix3 0 k q))) * ∑ k : Fin 1024, x (ix2 a k) * wu (ix3 0 k q)) * wd (ix3 0 q b) := by
  unfold k0_pay2; pointwise

/-- The result is the accumulator times the row's weight. -/
theorem pay3_at (acc : FVec Ideal S512x1024 .f32) (w : FVec Ideal S512x1 .f32) (a : Fin 512) (b : Fin 1024) :
    (k0_pay3 acc w : FVec Ideal S512x1024 .bf16) (ix2 a b) = acc (ix2 a b) * w (ix2 a 0) := by
  unfold k0_pay3; pointwise

section point
variable (hO : Ok m) (hE : ∀ b, (word0 m b).toNat < 8)

abbrev A0 : S136.Idx → BitVec 32 := m (((0 : Dev nD).tc : Thread nD τ).loc main_arg0)
abbrev A1 : S136.Idx → BitVec 32 := m (((0 : Dev nD).tc : Thread nD τ).loc main_arg1)
abbrev A2 : S69632x1024.Idx → EReal := m (((0 : Dev nD).tc : Thread nD τ).loc main_arg2)
abbrev A3 : S69632x128.Idx → EReal := m (((0 : Dev nD).tc : Thread nD τ).loc main_arg3)
abbrev A4 : S8x1024x2816.Idx → EReal := m (((0 : Dev nD).tc : Thread nD τ).loc main_arg4)
abbrev A5 : S8x1024x2816.Idx → EReal := m (((0 : Dev nD).tc : Thread nD τ).loc main_arg5)
abbrev A6 : S8x2816x1024.Idx → EReal := m (((0 : Dev nD).tc : Thread nD τ).loc main_arg6)

include hE in
/-- The expert of a block's rows, at the point `t`. -/
theorem expert_at (t : Fin grid0.N) (r : Fin 69632) (hr : r.val / 512 = t.val / 2) : (expertOf (A0 m) r).val = (word0 m (grid0.coords t 0)).toNat := by
  have e : (⟨r.val / 512, by omega⟩ : Fin 136) = grid0.coords t 0 := Fin.ext (by rw [coord0]; exact hr)
  unfold expertOf
  dsimp only
  rw [e]
  exact Nat.mod_eq_of_lt (hE _)

/-- The blocks the body reads at the point `t`, at their literal shapes. -/
def B0 (t : Fin grid0.N) : FVec Ideal S512x1024 .bf16 := iblk m hO 0 0 t
def B1 (t : Fin grid0.N) : FVec Ideal S512x128 .f32 := iblk m hO 0 1 t
def B2 (t : Fin grid0.N) : FVec Ideal S1x1024x1408 .bf16 := iblk m hO 0 2 t
def B3 (t : Fin grid0.N) : FVec Ideal S1x1024x1408 .bf16 := iblk m hO 0 3 t
def B4 (t : Fin grid0.N) : FVec Ideal S1x1408x1024 .bf16 := iblk m hO 0 4 t
/-- The accumulator a point leaves, and the result's block. -/
def accAt (n : ℕ) (hn : n < grid0.N) : FVec Ideal S512x1024 .f32 := (outsAt0 m hO 0 n hn).2
def resAt (n : ℕ) (hn : n < grid0.N) : FVec Ideal S512x1024 .bf16 := (outsAt0 m hO 0 n hn).1

include hE in
/-- What the body adds at the point `t`: one half of the sum, on the rows of the point's block. -/
theorem step_at (t : Fin grid0.N) (acc : FVec Ideal S512x1024 .f32) (r : Fin 69632) (a : Fin 512) (b : Fin 1024) (h : Fin 2)
    (hr : r.val = t.val / 2 * 512 + a.val) (hh : t.val % 2 = h.val) :
    (k0_pay2 (B0 m hO t) (B2 m hO t) (B3 m hO t) acc (B4 m hO t) : FVec Ideal S512x1024 .f32) (ix2 a b)
      = acc (ix2 a b) + half (A2 m) (A4 m) (A5 m) (A6 m) r (expertOf (A0 m) r) b h := by
  have he := expert_at m hE t r (by omega)
  rw [pay2_at]
  unfold half act
  refine congrArg _ (Finset.sum_congr rfl fun q _ => ?_)
  have hx : ∀ k, B0 m hO t (ix2 a k) = A2 m (ix2 r k) := fun k => iblk0_at m hO 0 t r a k hr
  have h2 : ∀ k, B2 m hO t (ix3 0 k q) = A4 m (ix3 _ k _) := fun k => iblk2_at m hO 0 t (expertOf (A0 m) r) k q ⟨h.val * 1408 + q.val, by omega⟩ he (by rw [hh])
  have h3 : ∀ k, B3 m hO t (ix3 0 k q) = A5 m (ix3 _ k _) := fun k => iblk3_at m hO 0 t (expertOf (A0 m) r) k q ⟨h.val * 1408 + q.val, by omega⟩ he (by rw [hh])
  have h4 : B4 m hO t (ix3 0 q b) = A6 m (ix3 _ _ b) := iblk4_at m hO 0 t (expertOf (A0 m) r) q b ⟨h.val * 1408 + q.val, by omega⟩ he (by rw [hh])
  simp only [hx, h2, h3, h4]

/-- The half-sum depends only on the values of what it reads. -/
theorem pay2_congr {x x' : FVec Ideal S512x1024 .bf16} {g g' u u' : FVec Ideal S1x1024x1408 .bf16} {acc acc' : FVec Ideal S512x1024 .f32} {d d' : FVec Ideal S1x1408x1024 .bf16}
    (hx : x = x') (hg : g = g') (hu : u = u') (ha : acc = acc') (hd : d = d') : k0_pay2 (F := Ideal) x g u acc d = k0_pay2 (F := Ideal) x' g' u' acc' d' := by
  subst hx hg hu ha hd; rfl

/-- So does the result. -/
theorem pay3_congr {acc acc' : FVec Ideal S512x1024 .f32} {w w' : FVec Ideal S512x1 .f32} (ha : acc = acc') (hw : w = w') : k0_pay3 (F := Ideal) acc w = k0_pay3 (F := Ideal) acc' w' := by
  subst ha hw; rfl

/-- The column of weights the body takes from a block of them. -/
def col (w : FVec Ideal S512x128 .f32) : FVec Ideal S512x1 .f32 := View.ld (Val := Elt Ideal) (e' := .f32) w (Rect.unit (s := S512x128) ![0, 0] ![512, 1] inb_S512x128_S512x1_0_0)

/-- So does the column of weights. -/
theorem col_congr {w w' : FVec Ideal S512x128 .f32} (h : w = w') : col w = col w' := by subst h; rfl

/-- The column of weights is the first column of its block. -/
theorem col_at (w : FVec Ideal S512x128 .f32) (a : Fin 512) : col w (ix2 a 0) = w (ix2 a 0) := by
  unfold col
  refine congrArg w ?_
  blk_ext []
  · exact (Nat.zero_add _).trans (Nat.one_mul _)
  · rfl

/-- The accumulator after the first point of a tile in use. -/
theorem even_eq (t : Fin grid0.N) (h0 : t.val % 2 = 0) (h1 : usedWord m t = 1#32) :
    accAt m hO t.val t.isLt = k0_pay2 (B0 m hO t) (B2 m hO t) (B3 m hO t) k0_pay1 (B4 m hO t) := by
  funext y
  unfold accAt
  rw [outsAt0_A m hO 0 t h0 ((cond_iff _ _).mpr h1) (by omega)]
  frame_out
  exact congrFun (pay2_congr ((hs0_0 m hO t).read_unread _) ((hs0_2 m hO t).read_unread _) ((hs0_3 m hO t).read_unread _) rfl ((hs0_4 m hO t).read_unread _)) y

/-- The result after the second point of a tile in use. -/
theorem odd_eq (t : Fin grid0.N) (h0 : t.val % 2 = 1) (h1 : usedWord m t = 1#32) :
    resAt m hO t.val t.isLt = k0_pay3 (k0_pay2 (B0 m hO t) (B2 m hO t) (B3 m hO t) (accAt m hO (t.val - 1) (Nat.lt_of_le_of_lt (Nat.sub_le _ _) t.isLt)) (B4 m hO t)) (col (B1 m hO t)) := by
  funext y
  unfold resAt
  rw [outsAt0_C m hO 0 t (by omega) ((cond_iff _ _).mpr h1) h0]
  frame_out
  exact congrFun (pay3_congr (pay2_congr ((hs0_0 m hO t).read_unread _) ((hs0_2 m hO t).read_unread _) ((hs0_3 m hO t).read_unread _) ((Memref.isWhole_whole cc0_scratch0).read_unread _) ((hs0_4 m hO t).read_unread _)) (col_congr ((hs0_1 m hO t).read_unread (iblk m hO 0 1 t)))) y

/-- The accumulator after the first point of a tile not in use. -/
theorem even_unused (t : Fin grid0.N) (h0 : t.val % 2 = 0) (h1 : ¬ usedWord m t = 1#32) : accAt m hO t.val t.isLt = k0_pay1 := by
  funext y
  unfold accAt
  rw [outsAt0_B m hO 0 t h0 (fun h => h1 ((cond_iff _ _).mp h)) (by omega)]
  frame_out
  try rfl

/-- The result after the second point of a tile not in use. -/
theorem odd_unused (t : Fin grid0.N) (h0 : t.val % 2 = 1) (h1 : ¬ usedWord m t = 1#32) :
    resAt m hO t.val t.isLt = k0_pay3 (accAt m hO (t.val - 1) (Nat.lt_of_le_of_lt (Nat.sub_le _ _) t.isLt)) (col (B1 m hO t)) := by
  funext y
  unfold resAt
  rw [outsAt0_D m hO 0 t (by omega) (fun h => h1 ((cond_iff _ _).mp h)) h0]
  frame_out
  exact congrFun (pay3_congr ((Memref.isWhole_whole cc0_scratch0).read_unread _) (col_congr ((hs0_1 m hO t).read_unread (iblk m hO 0 1 t)))) y

/-- The two points of a block of rows read the same word of the table. -/
theorem used_pred (t : Fin grid0.N) (h0 : t.val % 2 = 1) (hp : t.val - 1 < grid0.N) : usedWord m ⟨t.val - 1, hp⟩ = usedWord m t := by
  rw [usedWord_eq, usedWord_eq]
  have e : grid0.coords ⟨t.val - 1, hp⟩ 0 = grid0.coords t 0 := Fin.ext (by rw [coord0, coord0]; dsimp only; omega)
  rw [e]

include hE in
/-- The result's block after the second point of a block of rows. -/
theorem odd_at (t : Fin grid0.N) (r : Fin 69632) (a : Fin 512) (b : Fin 1024) (h0 : t.val % 2 = 1) (hr : r.val = t.val / 2 * 512 + a.val) :
    resAt m hO t.val t.isLt (ix2 a b) = moeAt (A0 m) (A1 m) (A2 m) (A3 m) (A4 m) (A5 m) (A6 m) r b := by
  have ht : t.val < 272 := Nat.lt_of_lt_of_eq t.isLt N_0
  have hr' : r.val / 512 = t.val / 2 := by omega
  have e : (⟨r.val / 512, by omega⟩ : Fin 136) = grid0.coords t 0 := Fin.ext (by rw [coord0]; exact hr')
  have eu : A1 m (ix1 ⟨r.val / 512, by omega⟩) = usedWord m t := by rw [e]; exact (usedWord_eq m t).symm
  have hp : t.val - 1 < grid0.N := Nat.lt_of_le_of_lt (Nat.sub_le _ _) t.isLt
  have up := used_pred m t h0 hp
  have hw : B1 m hO t (ix2 a 0) = A3 m (ix2 r 0) := iblk1_at m hO 0 t r a 0 hr
  unfold moeAt
  rw [eu]
  by_cases h1 : usedWord m t = 1#32
  · rw [if_pos h1, odd_eq m hO t h0 h1, pay3_at, step_at m hO hE t _ r a b 1 hr h0, even_eq m hO ⟨t.val - 1, hp⟩ (by dsimp only; omega) (up.trans h1),
      step_at m hO hE ⟨t.val - 1, hp⟩ _ r a b 0 (by dsimp only; omega) (by dsimp only; omega), pay1_at, zero_add, half_add, col_at, hw]
  · rw [if_neg h1, odd_unused m hO t h0 h1, pay3_at, even_unused m hO ⟨t.val - 1, hp⟩ (by dsimp only; omega) (fun h => h1 (up.symm.trans h)), pay1_at, zero_mul]

include hE in
/-- The result after the run. -/
theorem final : (dats m hO 0 0).arrAt 5 (cfgM m hO).N = fun i : S69632x1024.Idx => moeAt (A0 m) (A1 m) (A2 m) (A3 m) (A4 m) (A5 m) (A6 m) (i 0) (i 1) := by
  refine (dats m hO 0 0).arrAt_eq_of_covers 5 _ (covers m hO) fun t hf y => ?_
  have h0 : t.val % 2 = 1 := (flush0_5 _ t).mp hf
  have i0 : (pcfg0.win (adm m hO) 5).index t 0 = t.val / 2 := congrFun (rows_index t) 0
  have i1 : (pcfg0.win (adm m hO) 5).index t 1 = 0 := congrFun (rows_index t) 1
  blk_simp
  rw [after0_5]
  obtain ⟨a, b, rfl⟩ : ∃ (a : Fin 512) (b : Fin 1024), y = ix2 a b := ⟨y (0 : Fin 2), y (1 : Fin 2), by funext k; fin_cases k <;> rfl⟩
  have e1 : (((cfgM m hO).win 5).blk t).view.emb (ix2 a b) (1 : Fin 2) = b := Fin.ext (by blk_simp; exact ax i1 (by omega))
  have e0 : ((((cfgM m hO).win 5).blk t).view.emb (ix2 a b) (0 : Fin 2)).val = t.val / 2 * 512 + a.val := by blk_simp; exact ax i0 rfl
  rw [e1]
  exact odd_at m hO hE t _ a b h0 e0

end point

end Cert.MoeIdeal.Val
end
-- ==== Proof.MoeRef.lean ====
module

public import proofs.«01_k».proof.Proof.Gen.MoeRefIdeal.Run
public import proofs.«01_k».proof.Proof.Gen.MoeRefIdeal.Read
public import proofs.«01_k».proof.Proof.MoeValue

/-! # The reference of the grouped SwiGLU, at one row and one feature

The reference adds the contributions of all eight experts, each under a weight that is zero for every expert but the
row's own. So the sum is the own expert's term, and that is what `moeAt` says. -/

@[expose] public section

set_option maxRecDepth 16384

noncomputable section

namespace Cert.MoeRefIdeal.Val

open Idealize.ShloMosaic Idealize.ShloMosaic.TcCoe Idealize.SL.Sem Cert.MoeRefIdeal Cert.MoeRefIdeal.Gen
open Cert.MoeIdeal.Val (moeAt act expertOf)

/-- A number below eight as a word is the word `w` exactly if it is `w`'s number. -/
theorem word_eq_iff (x : Fin 8) (w : BitVec 32) : BitVec.ofNat 32 x.val = w ↔ x.val = w.toNat := by
  rw [← BitVec.toNat_inj, WordCmp.toNat_ofNat_of_lt (by omega)]

/-- A choice by the comparison of two words. -/
theorem select_eq {α : Type} (v w : BitVec 32) (a b : α) : Scalar.select (IntOp.cmpi .eq v w) a b = if v = w then a else b := by
  have e : (BitVec.ofBool (v == w) = 1#1) = (v = w) := by rw [WordCmp.ofBool_eq_one_iff, beq_iff_eq]
  show (if BitVec.ofBool (v == w) = 1#1 then a else b) = _
  simp only [e]

/-- The reference at the row `r` and the feature `d`. -/
theorem ref_at (x0 x1 : IVec S136 32) (x2 : FVec Ideal S69632x1024 .bf16) (x3 : FVec Ideal S69632x128 .f32) (x4 x5 : FVec Ideal S8x1024x2816 .f32)
    (x6 : FVec Ideal S8x2816x1024 .f32) (hE : ∀ b, (x0 b).toNat < 8) (r : Fin 69632) (d : Fin 1024) :
    (Read.val_main_v31 (F := Ideal) x0 x1 x2 x3 x4 x5 x6 : FVec Ideal S69632x1024 .bf16) (ix2 r d) = moeAt x0 x1 x2 x3 x4 x5 x6 r d := by
  rw [← Read.val_main_v31_eq]
  pointwise
  have z : id (constant (F := Ideal) S_ .f32 0#32 : FVec Ideal S_ .f32) ix0 = 0 := by rw [id]; pointwise
  have b : r.val / 512 < 136 := by omega
  have eo : (expertOf x0 r).val = (x0 (ix1 ⟨r.val / 512, b⟩)).toNat := Nat.mod_eq_of_lt (hE _)
  unfold moeAt act
  rw [Finset.sum_eq_single (expertOf x0 r)]
  · have e : BitVec.ofNat 32 (expertOf x0 r).val = x0 (ix1 ⟨r.val / 512, b⟩) := (word_eq_iff _ _).mpr eo
    rw [select_eq, if_pos e, select_eq, z]
    by_cases h : x1 (ix1 ⟨r.val / 512, b⟩) = 1#32
    · rw [if_pos h, if_pos h, mul_comm]
      simp only [zero_sub, mul_comm (x2 _)]
    · rw [if_neg h, if_neg h, zero_mul]
  · intro x _ hx
    have e : ¬ BitVec.ofNat 32 x.val = x0 (ix1 ⟨r.val / 512, b⟩) := fun h => hx (Fin.ext (((word_eq_iff _ _).mp h).trans eo.symm))
    rw [select_eq, if_neg e, z, zero_mul]
  · exact fun h => absurd (Finset.mem_univ _) h

end Cert.MoeRefIdeal.Val
end
-- ==== Proof.FfnValue.lean ====
module

public import proofs.«01_k».proof.Proof.Gen.FfnIdeal.Frame
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The dense feed-forward: what the kernel leaves

A block of 512 rows is met at two points. The first norms the rows into a scratch and adds the first half of the inner
features' sum into another; the second adds the other half and writes the rows plus the sum. -/

@[expose] public section

set_option maxRecDepth 16384

noncomputable section

namespace Cert.FfnIdeal.Val

open Idealize.ShloMosaic Idealize.ShloMosaic.TcCoe Idealize.SL.Sem Cert.FfnIdeal Cert.FfnIdeal.Gen

variable (m : (ℓ : Loc nD τ sig) → Buf (Elt Ideal) ℓ)

/-- The block of rows a point belongs to. -/
theorem coord0 (t : Fin grid0.N) : (grid0.coords t 0).val = t.val / 2 := by
  have ht : t.val < 128 := Nat.lt_of_lt_of_eq t.isLt N_0
  have e0 : (grid0.coords t 0).val = t.val / 2 % 64 := Pipeline.Grid.coords_val t 0 (by decide) rfl
  omega

/-- The half of the inner features a point belongs to. -/
theorem coord1 (t : Fin grid0.N) : (grid0.coords t 1).val = t.val % 2 := by
  have h : (grid0.coords t 1).val = t.val / 1 % 2 := Pipeline.Grid.coords_val t 1 (by decide) rfl
  rw [h, Nat.div_one]

/-- The blocks of rows: block `t / 2` at the point `t`. -/
theorem rows_index (t : Fin grid0.N) : cc0_transform_0 (grid0.coords t) = ![t.val / 2, 0] := by
  have ht : t.val < 128 := Nat.lt_of_lt_of_eq t.isLt N_0
  unfold cc0_transform_0
  dsimp only
  rw [WordCmp.toNat_ofNat_of_lt (by rw [coord0]; omega), coord0]
  rfl

/-- The blocks of the two weights of the first layer. -/
theorem up_index (t : Fin grid0.N) : cc0_transform_2 (grid0.coords t) = ![0, t.val % 2] := by
  unfold cc0_transform_2
  dsimp only
  rw [coord1, WordCmp.toNat_ofNat_of_lt (show t.val % 2 < 2 ^ 32 by omega)]
  rfl

/-- The blocks of the weights of the second layer. -/
theorem down_index (t : Fin grid0.N) : cc0_transform_4 (grid0.coords t) = ![t.val % 2, 0] := by
  unfold cc0_transform_4
  dsimp only
  rw [coord1, WordCmp.toNat_ofNat_of_lt (show t.val % 2 < 2 ^ 32 by omega)]
  rfl

/-- A block's coordinate on an axis, from its block index there. -/
theorem ax {z w n a r : ℕ} (h : z = w) (g : w * n + a = r) : z * n + a = r := h ▸ g

/-- The same where the block's extent is one, or its index zero. -/
theorem ax0 {z w a r : ℕ} (h : z = w) (g : w + a = r) : z + a = r := h ▸ g

abbrev A0 : S32768x1024.Idx → EReal := m (((0 : Dev nD).tc : Thread nD τ).loc main_arg0)
abbrev A1 : S1024.Idx → EReal := m (((0 : Dev nD).tc : Thread nD τ).loc main_arg1)
abbrev A2 : S1024x2816.Idx → EReal := m (((0 : Dev nD).tc : Thread nD τ).loc main_arg2)
abbrev A3 : S1024x2816.Idx → EReal := m (((0 : Dev nD).tc : Thread nD τ).loc main_arg3)
abbrev A4 : S2816x1024.Idx → EReal := m (((0 : Dev nD).tc : Thread nD τ).loc main_arg4)

/-- The blocks the body reads at the point `t`, at their literal shapes. -/
def B0 (t : Fin grid0.N) : FVec Ideal S512x1024 .f32 := iblk m 0 0 t
def B1 (t : Fin grid0.N) : FVec Ideal S1x1024 .f32 := iblk m 0 1 t
def B2 (t : Fin grid0.N) : FVec Ideal S1024x1408 .bf16 := iblk m 0 2 t
def B3 (t : Fin grid0.N) : FVec Ideal S1024x1408 .bf16 := iblk m 0 3 t
def B4 (t : Fin grid0.N) : FVec Ideal S1408x1024 .bf16 := iblk m 0 4 t
/-- The result's block a point leaves, its normed rows and its accumulator. -/
def resAt (n : ℕ) (hn : n < grid0.N) : FVec Ideal S512x1024 .f32 := (outsAt0 m 0 n hn).1
def nrmAt (n : ℕ) (hn : n < grid0.N) : FVec Ideal S512x1024 .bf16 := (outsAt0 m 0 n hn).2.1
def accAt (n : ℕ) (hn : n < grid0.N) : FVec Ideal S512x1024 .f32 := (outsAt0 m 0 n hn).2.2

/-- The weights reach the call as they are: the change of format is the identity here. -/
theorem V_v0 (i : S1024x2816.Idx) : (V m 0 main_v0 : S1024x2816.Idx → EReal) i = A2 m i := by
  unfold V
  after_reads_at

/-- So do the second ones. -/
theorem V_v1 (i : S1024x2816.Idx) : (V m 0 main_v1 : S1024x2816.Idx → EReal) i = A3 m i := by
  unfold V
  after_reads_at

/-- And the third. -/
theorem V_v2 (i : S2816x1024.Idx) : (V m 0 main_v2 : S2816x1024.Idx → EReal) i = A4 m i := by
  unfold V
  after_reads_at

/-- The scale reaches it as a single row. -/
theorem V_v3 (k : Fin 1024) : (V m 0 main_v3 : S1x1024.Idx → EReal) (ix2 0 k) = A1 m (ix1 k) := by
  unfold V
  after_reads_at

/-- The rows of the point's block. -/
theorem B0_at (t : Fin grid0.N) (r : Fin 32768) (a : Fin 512) (k : Fin 1024) (hr : r.val = t.val / 2 * 512 + a.val) :
    B0 m t (ix2 a k) = A0 m (ix2 r k) := by
  show V m 0 main_arg0 (((cfg0.win 0).blk t).view.emb (ix2 a k)) = _
  rw [V_main_arg0]
  have i0 : (cfg0.win 0).index t 0 = t.val / 2 := congrFun (rows_index t) 0
  have i1 : (cfg0.win 0).index t 1 = 0 := congrFun (rows_index t) 1
  blk_ext []
  · exact ax i0 (by omega)
  · exact ax0 i1 (by omega)

/-- The scale. -/
theorem B1_at (t : Fin grid0.N) (k : Fin 1024) : B1 m t (ix2 0 k) = A1 m (ix1 k) := by
  show V m 0 main_v3 (((cfg0.win 1).blk t).view.emb (ix2 0 k)) = _
  refine Eq.trans ?_ (V_v3 m k)
  have i1 : (cfg0.win 1).index t 1 = 0 := rfl
  blk_ext []
  · rfl
  · exact ax0 i1 (Nat.zero_add _)

/-- The gate weights of the point's half. -/
theorem B2_at (t : Fin grid0.N) (a : Fin 1024) (k : Fin 1408) (q : Fin 2816) (hq : q.val = t.val % 2 * 1408 + k.val) :
    B2 m t (ix2 a k) = A2 m (ix2 a q) := by
  show V m 0 main_v0 (((cfg0.win 2).blk t).view.emb (ix2 a k)) = _
  refine (V_v0 m _).trans ?_
  have i0 : (cfg0.win 2).index t 0 = 0 := congrFun (up_index t) 0
  have i1 : (cfg0.win 2).index t 1 = t.val % 2 := congrFun (up_index t) 1
  blk_ext []
  · exact ax0 i0 (by omega)
  · exact ax i1 (by omega)

/-- The other first-layer weights of the point's half. -/
theorem B3_at (t : Fin grid0.N) (a : Fin 1024) (k : Fin 1408) (q : Fin 2816) (hq : q.val = t.val % 2 * 1408 + k.val) :
    B3 m t (ix2 a k) = A3 m (ix2 a q) := by
  show V m 0 main_v1 (((cfg0.win 3).blk t).view.emb (ix2 a k)) = _
  refine (V_v1 m _).trans ?_
  have i0 : (cfg0.win 3).index t 0 = 0 := congrFun (up_index t) 0
  have i1 : (cfg0.win 3).index t 1 = t.val % 2 := congrFun (up_index t) 1
  blk_ext []
  · exact ax0 i0 (by omega)
  · exact ax i1 (by omega)

/-- The second layer's weights of the point's half. -/
theorem B4_at (t : Fin grid0.N) (a : Fin 1408) (k : Fin 1024) (q : Fin 2816) (hq : q.val = t.val % 2 * 1408 + a.val) :
    B4 m t (ix2 a k) = A4 m (ix2 q k) := by
  show V m 0 main_v2 (((cfg0.win 4).blk t).view.emb (ix2 a k)) = _
  refine (V_v2 m _).trans ?_
  have i0 : (cfg0.win 4).index t 0 = t.val % 2 := congrFun (down_index t) 0
  have i1 : (cfg0.win 4).index t 1 = 0 := congrFun (down_index t) 1
  blk_ext []
  · exact ax i0 (by omega)
  · exact ax0 i1 (by omega)

/-- The blocks written back cover the result. -/
theorem covers : (cfg0.win 5).Covers := by decide +kernel

/-- The normed row `r` at the feature `k`. -/
def nrm (x : S32768x1024.Idx → EReal) (g : S1024.Idx → EReal) (r : Fin 32768) (k : Fin 1024) : EReal :=
  x (ix2 r k) * Ideal.rsqrt (Ideal.div (∑ j : Fin 1024, x (ix2 r j) * x (ix2 r j)) (Ideal.ofBits FTy.f32 1149239296#32) + Ideal.ofBits FTy.f32 897988541#32) * g (ix1 k)

/-- The gated activation of a row `h`, at the inner feature `q`. -/
def act (h : Fin 1024 → EReal) (g u : S1024x2816.Idx → EReal) (q : Fin 2816) : EReal :=
  (∑ k : Fin 1024, h k * g (ix2 k q)) * Ideal.div 1 (1 + Ideal.exp (0 - ∑ k : Fin 1024, h k * g (ix2 k q))) * ∑ k : Fin 1024, h k * u (ix2 k q)

/-- The half `s` of the inner features' sum. -/
def half (h : Fin 1024 → EReal) (g u : S1024x2816.Idx → EReal) (dn : S2816x1024.Idx → EReal) (d : Fin 1024) (s : Fin 2) : EReal :=
  ∑ q : Fin 1408, act h g u ⟨s.val * 1408 + q.val, by omega⟩ * dn (ix2 ⟨s.val * 1408 + q.val, by omega⟩ d)

/-- The whole sum is its two halves. -/
theorem half_add (h : Fin 1024 → EReal) (g u : S1024x2816.Idx → EReal) (dn : S2816x1024.Idx → EReal) (d : Fin 1024) :
    half h g u dn d 0 + half h g u dn d 1 = ∑ q : Fin 2816, act h g u q * dn (ix2 q d) := by
  rw [show (∑ q : Fin 2816, act h g u q * dn (ix2 q d)) = _ from Fin.sum_univ_add (a := 1408) (b := 1408) fun q : Fin 2816 => act h g u q * dn (ix2 q d)]
  unfold half
  refine congr (congrArg _ (Finset.sum_congr rfl fun q _ => ?_)) (Finset.sum_congr rfl fun q _ => ?_)
  · have e1 : (⟨(0 : Fin 2).val * 1408 + q.val, by omega⟩ : Fin 2816) = Fin.castAdd 1408 q := Fin.ext (by simp)
    rw [e1]
  · have e1 : (⟨(1 : Fin 2).val * 1408 + q.val, by omega⟩ : Fin 2816) = Fin.natAdd 1408 q := Fin.ext (by simp [add_comm])
    rw [e1]

/-- The layer's value at the row `r` and the feature `d`. -/
def ffnAt (x : S32768x1024.Idx → EReal) (n : S1024.Idx → EReal) (g u : S1024x2816.Idx → EReal) (dn : S2816x1024.Idx → EReal) (r : Fin 32768) (d : Fin 1024) : EReal :=
  x (ix2 r d) + ∑ q : Fin 2816, act (nrm x n r) g u q * dn (ix2 q d)

/-- The norm of a block of rows. -/
theorem pay1_at (x : FVec Ideal S512x1024 .f32) (g : FVec Ideal S1x1024 .f32) (a : Fin 512) (b : Fin 1024) :
    (k0_pay1 x g : FVec Ideal S512x1024 .bf16) (ix2 a b) = x (ix2 a b) * Ideal.rsqrt (Ideal.div (∑ j : Fin 1024, x (ix2 a j) * x (ix2 a j)) (Ideal.ofBits FTy.f32 1149239296#32) + Ideal.ofBits FTy.f32 897988541#32) * g (ix2 0 b) := by
  unfold k0_pay1; pointwise

/-- The accumulator starts at zero. -/
theorem pay2_at (a : Fin 512) (b : Fin 1024) : (k0_pay2 : FVec Ideal S512x1024 .f32) (ix2 a b) = 0 := by
  unfold k0_pay2; pointwise

/-- What a point adds to it. -/
theorem pay3_at (x : FVec Ideal S512x1024 .bf16) (wg wu : FVec Ideal S1024x1408 .bf16) (acc : FVec Ideal S512x1024 .f32) (wd : FVec Ideal S1408x1024 .bf16) (a : Fin 512) (b : Fin 1024) :
    (k0_pay3 x wg wu acc wd : FVec Ideal S512x1024 .f32) (ix2 a b) = acc (ix2 a b) + ∑ q : Fin 1408, ((∑ k : Fin 1024, x (ix2 a k) * wg (ix2 k q)) * Ideal.div 1 (1 + Ideal.exp (0 - ∑ k : Fin 1024, x (ix2 a k) * wg (ix2 k q))) * ∑ k : Fin 1024, x (ix2 a k) * wu (ix2 k q)) * wd (ix2 q b) := by
  unfold k0_pay3; pointwise

/-- What the second point writes. -/
theorem pay4_at (x acc : FVec Ideal S512x1024 .f32) (a : Fin 512) (b : Fin 1024) :
    (k0_pay4 x acc : FVec Ideal S512x1024 .f32) (ix2 a b) = x (ix2 a b) + acc (ix2 a b) := by
  unfold k0_pay4; pointwise

/-- The payloads of equal arguments are equal. -/
theorem pay1_congr {x x' : FVec Ideal S512x1024 .f32} {g g' : FVec Ideal S1x1024 .f32} (hx : x = x') (hg : g = g') :
    k0_pay1 (F := Ideal) x g = k0_pay1 (F := Ideal) x' g' := by
  subst hx hg; rfl

/-- The half-sum depends only on the values of what it reads. -/
theorem pay3_congr {x x' : FVec Ideal S512x1024 .bf16} {g g' u u' : FVec Ideal S1024x1408 .bf16} {acc acc' : FVec Ideal S512x1024 .f32} {d d' : FVec Ideal S1408x1024 .bf16}
    (hx : x = x') (hg : g = g') (hu : u = u') (ha : acc = acc') (hd : d = d') : k0_pay3 (F := Ideal) x g u acc d = k0_pay3 (F := Ideal) x' g' u' acc' d' := by
  subst hx hg hu ha hd; rfl

/-- So does the result. -/
theorem pay4_congr {x x' acc acc' : FVec Ideal S512x1024 .f32} (hx : x = x') (ha : acc = acc') : k0_pay4 (F := Ideal) x acc = k0_pay4 (F := Ideal) x' acc' := by
  subst hx ha; rfl

/-- The first point of a block of rows leaves its normed rows in the scratch. -/
theorem nrm_eq (t : Fin grid0.N) (h0 : t.val % 2 = 0) : nrmAt m t.val t.isLt = k0_pay1 (B0 m t) (B1 m t) := by
  funext y
  unfold nrmAt
  rw [outsAt0_A m 0 t h0 (by omega)]
  frame_out
  exact congrFun (pay1_congr (by first | exact (hs0_0 t).read_unread _ | rfl) (by first | exact (hs0_1 t).read_unread _ | rfl)) y

/-- And the first half of the sum in the accumulator. -/
theorem even_eq (t : Fin grid0.N) (h0 : t.val % 2 = 0) :
    accAt m t.val t.isLt = k0_pay3 (k0_pay1 (B0 m t) (B1 m t)) (B2 m t) (B3 m t) k0_pay2 (B4 m t) := by
  funext y
  unfold accAt
  rw [outsAt0_A m 0 t h0 (by omega)]
  frame_out
  exact congrFun (pay3_congr (pay1_congr (by first | exact (hs0_0 t).read_unread _ | rfl) (by first | exact (hs0_1 t).read_unread _ | rfl)) (by first | exact (hs0_2 t).read_unread _ | rfl) (by first | exact (hs0_3 t).read_unread _ | rfl) rfl (by first | exact (hs0_4 t).read_unread _ | rfl)) y

/-- The second point writes the rows plus the accumulator with the second half added. -/
theorem odd_eq (t : Fin grid0.N) (h0 : t.val % 2 = 1) :
    resAt m t.val t.isLt = k0_pay4 (B0 m t) (k0_pay3 (nrmAt m (t.val - 1) (Nat.lt_of_le_of_lt (Nat.sub_le _ _) t.isLt)) (B2 m t) (B3 m t) (accAt m (t.val - 1) (Nat.lt_of_le_of_lt (Nat.sub_le _ _) t.isLt)) (B4 m t)) := by
  funext y
  unfold resAt
  rw [outsAt0_B m 0 t (by omega) h0]
  frame_out
  exact congrFun (pay4_congr (by first | exact (hs0_0 t).read_unread _ | rfl) (pay3_congr ((Memref.isWhole_whole cc0_scratch0).read_unread _) (by first | exact (hs0_2 t).read_unread _ | rfl) (by first | exact (hs0_3 t).read_unread _ | rfl) ((Memref.isWhole_whole cc0_scratch1).read_unread _) (by first | exact (hs0_4 t).read_unread _ | rfl))) y

/-- The normed rows of the point's block. -/
theorem nrm_at (t : Fin grid0.N) (r : Fin 32768) (a : Fin 512) (k : Fin 1024) (hr : r.val = t.val / 2 * 512 + a.val) :
    (k0_pay1 (B0 m t) (B1 m t) : FVec Ideal S512x1024 .bf16) (ix2 a k) = nrm (A0 m) (A1 m) r k := by
  have hx : ∀ k, B0 m t (ix2 a k) = A0 m (ix2 r k) := fun k => B0_at m t r a k hr
  have hg : ∀ k, B1 m t (ix2 0 k) = A1 m (ix1 k) := B1_at m t
  rw [pay1_at]
  unfold nrm
  simp only [hx, hg]

/-- What the body adds at the point `t`, given the normed rows it reads: one half of the sum. -/
theorem step_at (t : Fin grid0.N) (x : FVec Ideal S512x1024 .bf16) (acc : FVec Ideal S512x1024 .f32) (h : Fin 1024 → EReal) (a : Fin 512) (b : Fin 1024) (s : Fin 2)
    (hx : ∀ k, x (ix2 a k) = h k) (hs : t.val % 2 = s.val) :
    (k0_pay3 x (B2 m t) (B3 m t) acc (B4 m t) : FVec Ideal S512x1024 .f32) (ix2 a b) = acc (ix2 a b) + half h (A2 m) (A3 m) (A4 m) b s := by
  rw [pay3_at]
  unfold half act
  refine congrArg _ (Finset.sum_congr rfl fun q _ => ?_)
  have h2 : ∀ k, B2 m t (ix2 k q) = A2 m (ix2 k _) := fun k => B2_at m t k q ⟨s.val * 1408 + q.val, by omega⟩ (by rw [hs])
  have h3 : ∀ k, B3 m t (ix2 k q) = A3 m (ix2 k _) := fun k => B3_at m t k q ⟨s.val * 1408 + q.val, by omega⟩ (by rw [hs])
  have h4 : B4 m t (ix2 q b) = A4 m (ix2 _ b) := B4_at m t q b ⟨s.val * 1408 + q.val, by omega⟩ (by rw [hs])
  simp only [hx, h2, h3, h4]

/-- The result's block after the second point of a block of rows. -/
theorem odd_at (t : Fin grid0.N) (r : Fin 32768) (a : Fin 512) (b : Fin 1024) (h0 : t.val % 2 = 1) (hr : r.val = t.val / 2 * 512 + a.val) :
    resAt m t.val t.isLt (ix2 a b) = ffnAt (A0 m) (A1 m) (A2 m) (A3 m) (A4 m) r b := by
  have ht : t.val < 128 := Nat.lt_of_lt_of_eq t.isLt N_0
  have hp : t.val - 1 < grid0.N := Nat.lt_of_le_of_lt (Nat.sub_le _ _) t.isLt
  have hn := fun k => nrm_at m ⟨t.val - 1, hp⟩ r a k (by dsimp only; omega)
  have ep : (⟨t.val - 1, hp⟩ : Fin grid0.N).val % 2 = 0 := by dsimp only; omega
  unfold ffnAt
  rw [odd_eq m t h0, pay4_at, B0_at m t r a b hr, nrm_eq m ⟨t.val - 1, hp⟩ ep, even_eq m ⟨t.val - 1, hp⟩ ep,
    step_at m t _ _ (nrm (A0 m) (A1 m) r) a b 1 hn h0, step_at m ⟨t.val - 1, hp⟩ _ _ (nrm (A0 m) (A1 m) r) a b 0 hn ep, pay2_at, zero_add, half_add]

/-- The result after the run. -/
theorem final : (dats m 0 0).arrAt 5 cfg0.N = fun i : S32768x1024.Idx => ffnAt (A0 m) (A1 m) (A2 m) (A3 m) (A4 m) (i 0) (i 1) := by
  refine (dats m 0 0).arrAt_eq_of_covers 5 _ covers fun t hf y => ?_
  have h0 : t.val % 2 = 1 := (flush0_5 t).mp hf
  have i0 : (cfg0.win 5).index t 0 = t.val / 2 := congrFun (rows_index t) 0
  have i1 : (cfg0.win 5).index t 1 = 0 := congrFun (rows_index t) 1
  blk_simp
  rw [after0_5]
  obtain ⟨a, b, rfl⟩ : ∃ (a : Fin 512) (b : Fin 1024), y = ix2 a b := ⟨y (0 : Fin 2), y (1 : Fin 2), by funext k; fin_cases k <;> rfl⟩
  have e1 : ((cfg0.win 5).blk t).view.emb (ix2 a b) (1 : Fin 2) = b := Fin.ext (by blk_simp; exact ax0 i1 (by omega))
  have e0 : (((cfg0.win 5).blk t).view.emb (ix2 a b) (0 : Fin 2)).val = t.val / 2 * 512 + a.val := by blk_simp; exact ax i0 rfl
  rw [e1]
  exact odd_at m t _ a b h0 e0

end Cert.FfnIdeal.Val
end
-- ==== Proof.FfnRef.lean ====
module

public import proofs.«01_k».proof.Proof.Gen.FfnRefIdeal.Run
public import proofs.«01_k».proof.Proof.Gen.FfnRefIdeal.Read
public import proofs.«01_k».proof.Proof.FfnValue

/-! # The reference of the dense feed-forward, at one row and one feature -/

@[expose] public section

set_option maxRecDepth 16384

noncomputable section

namespace Cert.FfnRefIdeal.Val

open Idealize.ShloMosaic Idealize.ShloMosaic.TcCoe Idealize.SL.Sem Cert.FfnRefIdeal Cert.FfnRefIdeal.Gen
open Cert.FfnIdeal.Val (ffnAt act nrm)

/-- The reference at the row `r` and the feature `d`. -/
theorem ref_at (x0 : FVec Ideal S32768x1024 .f32) (x1 : FVec Ideal S1024 .f32) (x2 x3 : FVec Ideal S1024x2816 .f32)
    (x4 : FVec Ideal S2816x1024 .f32) (r : Fin 32768) (d : Fin 1024) :
    (Read.val_main_v18 (F := Ideal) x0 x1 x2 x3 x4 : FVec Ideal S32768x1024 .f32) (ix2 r d) = ffnAt x0 x1 x2 x3 x4 r d := by
  rw [← Read.val_main_v18_eq]
  pointwise
  unfold ffnAt act nrm
  simp only [zero_sub]

end Cert.FfnRefIdeal.Val
end
-- ==== Proof.MergeRow.lean ====
module

public import proofs.«01_k».proof.Proof.Gen.MergeIdeal.Frame
public import Idealize.ShloMosaic.Lib.Pipeline.ValueKit
public import Idealize.ShloMosaic.Lib.Pipeline.ReadBack

/-! # The merge and the attention into the memory, on one row

The layer's arithmetic as functions of one row of each input, and the kernel's payloads read at one row of a block: each is
one of those functions. -/

@[expose] public section

set_option maxRecDepth 16384

noncomputable section

namespace Cert.MergeIdeal.Val

open Idealize.ShloMosaic Idealize.ShloMosaic.TcCoe Idealize.SL.Sem Cert.MergeIdeal Cert.MergeIdeal.Gen

/-- The logistic function of a gate. -/
def gate (z : EReal) : EReal := Ideal.div 1 (1 + Ideal.exp (0 - z))

/-- The second mixer's gated linear unit at the feature `k`. -/
def glu (ys : Fin 512 → EReal) (wg : S512x2048.Idx → EReal) (k : Fin 1024) : EReal :=
  (∑ j : Fin 512, ys j * wg (ix2 j ⟨k.val, by omega⟩)) * gate (∑ j : Fin 512, ys j * wg (ix2 j ⟨1024 + k.val, by omega⟩))

/-- The three mixers' rows under their gates, added up. -/
def merged (ya ys yc : Fin 512 → EReal) (ga gb gc : Fin 1024 → EReal) (wa : S512x1024.Idx → EReal) (wg : S512x2048.Idx → EReal) (wc : S512x1024.Idx → EReal) (k : Fin 1024) : EReal :=
  gate (ga k) * (∑ j : Fin 512, ya j * wa (ix2 j k)) + gate (gb k) * glu ys wg k + gate (gc k) * ∑ j : Fin 512, yc j * wc (ix2 j k)

/-- The row with the projected merge added. -/
def residual (x mg : Fin 1024 → EReal) (wo : S1024x1024.Idx → EReal) (d : Fin 1024) : EReal := x d + ∑ k : Fin 1024, mg k * wo (ix2 k d)

/-- The normed row. -/
def nrm (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- The row's queries, all four heads side by side. -/
def query (h : Fin 1024 → EReal) (wq : S1024x512.Idx → EReal) (c : Fin 512) : EReal := ∑ k : Fin 1024, h k * wq (ix2 k c)

/-- The scaled score of the head `h` against the memory's row `j`. -/
def score (q : Fin 512 → EReal) (K : Fin 256 → Fin 512 → EReal) (h : Fin 4) (j : Fin 256) : EReal :=
  (∑ e : Fin 128, q ⟨h.val * 128 + e.val, by omega⟩ * K j ⟨h.val * 128 + e.val, by omega⟩) * Ideal.ofBits FTy.f32 1035273459#32

/-- The greatest of a head's scores. -/
def top (s : Fin 256 → EReal) : EReal := Finset.fold max (Ideal.ofBits FTy.f32 4286578688#32) s Finset.univ

/-- The softmax of a head's scores. -/
def prob (s : Fin 256 → EReal) (j : Fin 256) : EReal := Ideal.div (Ideal.exp (s j - top s)) (∑ i : Fin 256, Ideal.exp (s i - top s))

/-- What the attention reads from the memory's values at the column `c`, a column of the head `c / 128`. -/
def attend (q : Fin 512 → EReal) (K W : Fin 256 → Fin 512 → EReal) (c : Fin 512) : EReal :=
  ∑ j : Fin 256, prob (score q K ⟨c.val / 128, by omega⟩) j * W j c

/-- The layer's row: the residual row plus the attention's, projected. -/
def outRow (x1 : Fin 1024 → EReal) (g : Fin 1024 → EReal) (wq : S1024x512.Idx → EReal) (K W : Fin 256 → Fin 512 → EReal) (wx : S512x1024.Idx → EReal) (d : Fin 1024) : EReal :=
  x1 d + ∑ c : Fin 512, attend (query (nrm x1 g) wq) K W c * wx (ix2 c d)

/-- The gated linear unit of a block. -/
theorem pay1_at (y : FVec Ideal S512x512 .bf16) (w : FVec Ideal S512x2048 .bf16) (a : Fin 512) (k : Fin 1024) :
    (k0_pay1 y w : FVec Ideal S512x1024 .f32) (ix2 a k) = glu (fun j => y (ix2 a j)) w k := by
  unfold k0_pay1 glu gate; pointwise

/-- The third mixer's projection. -/
theorem pay2_at (y : FVec Ideal S512x512 .bf16) (w : FVec Ideal S512x1024 .bf16) (a : Fin 512) (k : Fin 1024) :
    (k0_pay2 y w : FVec Ideal S512x1024 .f32) (ix2 a k) = ∑ j : Fin 512, y (ix2 a j) * w (ix2 j k) := by
  unfold k0_pay2; pointwise

/-- The first mixer's, under its gate. -/
theorem pay3_at (y : FVec Ideal S512x512 .bf16) (w g : FVec Ideal S512x1024 .bf16) (a : Fin 512) (k : Fin 1024) :
    (k0_pay3 y w g : FVec Ideal S512x1024 .f32) (ix2 a k) = gate (g (ix2 a k)) * ∑ j : Fin 512, y (ix2 a j) * w (ix2 j k) := by
  unfold k0_pay3 gate; pointwise

/-- The second gate, unchanged. -/
theorem pay4_at (g : FVec Ideal S512x1024 .bf16) (a : Fin 512) (k : Fin 1024) : (k0_pay4 g : FVec Ideal S512x1024 .f32) (ix2 a k) = g (ix2 a k) := by
  unfold k0_pay4; pointwise

/-- The residual row of a block. -/
theorem pay5_at (v17 v21 v31 v33 : FVec Ideal S512x1024 .f32) (g : FVec Ideal S512x1024 .bf16) (x : FVec Ideal S512x1024 .f32) (wo : FVec Ideal S1024x1024 .bf16) (a : Fin 512) (d : Fin 1024) :
    (k0_pay5 v17 v21 v31 v33 g x wo : FVec Ideal S512x1024 .f32) (ix2 a d)
      = residual (fun k => x (ix2 a k)) (fun k => v31 (ix2 a k) + gate (v33 (ix2 a k)) * v17 (ix2 a k) + gate (g (ix2 a k)) * v21 (ix2 a k)) wo d := by
  unfold k0_pay5 residual gate; pointwise

/-- Its norm. -/
theorem pay6_at (v17 v21 v31 v33 : FVec Ideal S512x1024 .f32) (g : FVec Ideal S512x1024 .bf16) (x : FVec Ideal S512x1024 .f32) (wo : FVec Ideal S1024x1024 .bf16) (gx : FVec Ideal S1x1024 .f32) (a : Fin 512) (k : Fin 1024) :
    (k0_pay6 v17 v21 v31 v33 g x wo gx : FVec Ideal S512x1024 .bf16) (ix2 a k)
      = nrm (fun d => k0_pay5 v17 v21 v31 v33 g x wo (ix2 a d)) (fun d => gx (ix2 0 d)) k := by
  unfold k0_pay6 nrm; pointwise

/-- The queries of a block. -/
theorem pay7_at (h : FVec Ideal S512x1024 .bf16) (wq : FVec Ideal S1024x512 .bf16) (a : Fin 512) (c : Fin 512) :
    (k0_pay7 h wq : FVec Ideal S512x512 .bf16) (ix2 a c) = query (fun k => h (ix2 a k)) wq c := by
  unfold k0_pay7 query; pointwise

/-- The columns of one head of the memory's rows. -/
theorem head0 (K : FVec Ideal S256x512 .bf16) (j : Fin 256) (e : Fin 128) : (View.ld (Val := Elt Ideal) (e' := .bf16) K r0_6 : FVec Ideal S256x128 .bf16) (ix2 j e) = K (ix2 j ⟨e.val, by omega⟩) := by
  pointwise

/-- The columns of the second head. -/
theorem head1 (K : FVec Ideal S256x512 .bf16) (j : Fin 256) (e : Fin 128) : (View.ld (Val := Elt Ideal) (e' := .bf16) K r0_7 : FVec Ideal S256x128 .bf16) (ix2 j e) = K (ix2 j ⟨128 + e.val, by omega⟩) := by
  pointwise

/-- The columns of the third head. -/
theorem head2 (K : FVec Ideal S256x512 .bf16) (j : Fin 256) (e : Fin 128) : (View.ld (Val := Elt Ideal) (e' := .bf16) K r0_8 : FVec Ideal S256x128 .bf16) (ix2 j e) = K (ix2 j ⟨256 + e.val, by omega⟩) := by
  pointwise

/-- The columns of the fourth head. -/
theorem head3 (K : FVec Ideal S256x512 .bf16) (j : Fin 256) (e : Fin 128) : (View.ld (Val := Elt Ideal) (e' := .bf16) K r0_9 : FVec Ideal S256x128 .bf16) (ix2 j e) = K (ix2 j ⟨384 + e.val, by omega⟩) := by
  pointwise

/-- A head's score from a sum over its columns, named by their offset. -/
theorem score_of (q : Fin 512 → EReal) (K : Fin 256 → Fin 512 → EReal) (h : Fin 4) (j : Fin 256) (f : Fin 128 → Fin 512) (hf : ∀ e, (f e).val = h.val * 128 + e.val) :
    (∑ e : Fin 128, q (f e) * K j (f e)) * Ideal.ofBits FTy.f32 1035273459#32 = score q K h j := by
  unfold score
  have e1 : ∀ e, f e = ⟨h.val * 128 + e.val, by omega⟩ := fun e => Fin.ext (hf e)
  simp only [e1]

section heads
variable (h : FVec Ideal S512x1024 .bf16) (wq : FVec Ideal S1024x512 .bf16) (K : FVec Ideal S256x512 .bf16) (a : Fin 512) (j : Fin 256)

/-- The row's queries and the memory's rows, as the payloads' theorems name them. -/
abbrev qOf (c : Fin 512) : EReal := query (fun k => h (ix2 a k)) wq c
abbrev kOf (j : Fin 256) (c : Fin 512) : EReal := K (ix2 j c)

/-- The third head's scores. -/
theorem pay8_at : (k0_pay8 h wq (View.ld (Val := Elt Ideal) (e' := .bf16) K r0_8) : FVec Ideal S512x256 .f32) (ix2 a j) = score (qOf h wq a) (kOf K) 2 j := by
  rw [← score_of (qOf h wq a) (kOf K) 2 j (fun e => ⟨256 + e.val, by omega⟩) fun e => rfl]
  unfold k0_pay8; pointwise
  simp only [pay7_at]

/-- The fourth head's. -/
theorem pay9_at : (k0_pay9 h wq (View.ld (Val := Elt Ideal) (e' := .bf16) K r0_9) : FVec Ideal S512x256 .f32) (ix2 a j) = score (qOf h wq a) (kOf K) 3 j := by
  rw [← score_of (qOf h wq a) (kOf K) 3 j (fun e => ⟨384 + e.val, by omega⟩) fun e => rfl]
  unfold k0_pay9; pointwise
  simp only [pay7_at]

/-- The first head's softmax. -/
theorem pay10_at : (k0_pay10 h wq (View.ld (Val := Elt Ideal) (e' := .bf16) K r0_6) : FVec Ideal S512x256 .bf16) (ix2 a j) = prob (score (qOf h wq a) (kOf K) 0) j := by
  have e : score (qOf h wq a) (kOf K) 0 = fun j => _ := funext fun j => (score_of (qOf h wq a) (kOf K) 0 j (fun e => ⟨e.val, by omega⟩) fun e => (by simp)).symm
  rw [e]
  unfold k0_pay10 prob top; pointwise
  simp only [pay7_at]

/-- The second head's exponentials. -/
theorem pay11_at : (k0_pay11 h wq (View.ld (Val := Elt Ideal) (e' := .bf16) K r0_7) : FVec Ideal S512x256 .f32) (ix2 a j) = Ideal.exp (score (qOf h wq a) (kOf K) 1 j - top (score (qOf h wq a) (kOf K) 1)) := by
  have e : score (qOf h wq a) (kOf K) 1 = fun j => _ := funext fun j => (score_of (qOf h wq a) (kOf K) 1 j (fun e => ⟨128 + e.val, by omega⟩) fun e => (by simp)).symm
  rw [e]
  unfold k0_pay11 top; pointwise
  simp only [pay7_at]

end heads

/-- The output of a block: the four heads side by side, projected, and added to the residual row. -/
theorem pay12_at (x1 : FVec Ideal S512x1024 .f32) (s2 s3 : FVec Ideal S512x256 .f32) (p0 : FVec Ideal S512x256 .bf16) (e1 : FVec Ideal S512x256 .f32) (W : FVec Ideal S256x512 .bf16) (wx : FVec Ideal S512x1024 .bf16)
    (q : Fin 512 → EReal) (K : Fin 256 → Fin 512 → EReal) (a : Fin 512) (d : Fin 1024)
    (h0 : ∀ j, p0 (ix2 a j) = prob (score q K 0) j) (h1 : ∀ j, e1 (ix2 a j) = Ideal.exp (score q K 1 j - top (score q K 1)))
    (h2 : ∀ j, s2 (ix2 a j) = score q K 2 j) (h3 : ∀ j, s3 (ix2 a j) = score q K 3 j) :
    (k0_pay12 x1 s2 s3 p0 e1 (View.ld (Val := Elt Ideal) (e' := .bf16) W r0_6) (View.ld (Val := Elt Ideal) (e' := .bf16) W r0_7) (View.ld (Val := Elt Ideal) (e' := .bf16) W r0_8) (View.ld (Val := Elt Ideal) (e' := .bf16) W r0_9) wx : FVec Ideal S512x1024 .f32) (ix2 a d)
      = x1 (ix2 a d) + ∑ c : Fin 512, attend q K (kOf W) c * wx (ix2 c d) := by
  unfold k0_pay12
  pointwise
  refine congrArg _ (Finset.sum_congr rfl fun c _ => congrArg (· * _) ?_)
  simp only [h0, h1, h2, h3]
  have col : ∀ (n : ℕ) (hn : n < 512), n = c.val → ∀ j, W (ix2 j ⟨n, hn⟩) = W (ix2 j c) := fun n hn e j => by subst e; rfl
  have hd : ∀ (g : Fin 4), c.val / 128 = g.val → (⟨c.val / 128, by omega⟩ : Fin 4) = g := fun g e => Fin.ext e
  unfold attend
  split
  · rw [hd 0 (by show _ = 0; omega)]
  split
  · rw [hd 1 (by show _ = 1; omega)]
    exact Finset.sum_congr rfl fun j _ => congrArg _ (col _ _ (by omega) j)
  split
  · rw [hd 2 (by show _ = 2; omega)]
    exact Finset.sum_congr rfl fun j _ => congrArg _ (col _ _ (by omega) j)
  · rw [hd 3 (by show _ = 3; omega)]
    exact Finset.sum_congr rfl fun j _ => congrArg _ (col _ _ (by omega) j)

end Cert.MergeIdeal.Val
end
-- ==== Proof.MergeValue.lean ====
module

public import proofs.«01_k».proof.Proof.MergeRow
public import Idealize.ShloMosaic.Lib.StableHlo.ReadAt
public import Idealize.ShloMosaic.Lib.Pipeline.Covers

/-! # The merge and the attention into the memory: what the kernel leaves

The point `t` reads 512 rows of each input, the three column groups of the gates, every weight whole, and the 256 rows of
the memory of its batch element `t / 8`; each row of its block is the layer's row. -/

@[expose] public section

set_option maxRecDepth 16384

noncomputable section

namespace Cert.MergeIdeal.Val

open Idealize.ShloMosaic Idealize.ShloMosaic.TcCoe Idealize.SL.Sem Cert.MergeIdeal Cert.MergeIdeal.Gen

variable (m : (ℓ : Loc nD τ sig) → Buf (Elt Ideal) ℓ)

/-- A block's coordinate on an axis, from its block index there. -/
theorem ax {z w n a r : ℕ} (h : z = w) (g : w * n + a = r) : z * n + a = r := h ▸ g
abbrev A0 : S32768x1024.Idx → EReal := m (((0 : Dev nD).tc : Thread nD τ).loc main_arg0)
abbrev A1 : S32768x512.Idx → EReal := m (((0 : Dev nD).tc : Thread nD τ).loc main_arg1)
abbrev A2 : S32768x512.Idx → EReal := m (((0 : Dev nD).tc : Thread nD τ).loc main_arg2)
abbrev A3 : S32768x512.Idx → EReal := m (((0 : Dev nD).tc : Thread nD τ).loc main_arg3)
abbrev A4 : S32768x4096.Idx → EReal := m (((0 : Dev nD).tc : Thread nD τ).loc main_arg4)
abbrev A5 : S512x1024.Idx → EReal := m (((0 : Dev nD).tc : Thread nD τ).loc main_arg5)
abbrev A6 : S512x2048.Idx → EReal := m (((0 : Dev nD).tc : Thread nD τ).loc main_arg6)
abbrev A7 : S512x1024.Idx → EReal := m (((0 : Dev nD).tc : Thread nD τ).loc main_arg7)
abbrev A8 : S1024x1024.Idx → EReal := m (((0 : Dev nD).tc : Thread nD τ).loc main_arg8)
abbrev A9 : S1024.Idx → EReal := m (((0 : Dev nD).tc : Thread nD τ).loc main_arg9)
abbrev A10 : S1024x512.Idx → EReal := m (((0 : Dev nD).tc : Thread nD τ).loc main_arg10)
abbrev A11 : S2048x512.Idx → EReal := m (((0 : Dev nD).tc : Thread nD τ).loc main_arg11)
abbrev A12 : S2048x512.Idx → EReal := m (((0 : Dev nD).tc : Thread nD τ).loc main_arg12)
abbrev A13 : S512x1024.Idx → EReal := m (((0 : Dev nD).tc : Thread nD τ).loc main_arg13)

/-- The blocks the body reads at the point `t`, at their literal shapes. -/
def B0 (t : Fin grid0.N) : FVec Ideal S512x1024 .f32 := iblk m 0 0 t
def B1 (t : Fin grid0.N) : FVec Ideal S512x512 .bf16 := iblk m 0 1 t
def B2 (t : Fin grid0.N) : FVec Ideal S512x512 .bf16 := iblk m 0 2 t
def B3 (t : Fin grid0.N) : FVec Ideal S512x512 .bf16 := iblk m 0 3 t
def B4 (t : Fin grid0.N) : FVec Ideal S512x1024 .bf16 := iblk m 0 4 t
def B5 (t : Fin grid0.N) : FVec Ideal S512x1024 .bf16 := iblk m 0 5 t
def B6 (t : Fin grid0.N) : FVec Ideal S512x1024 .bf16 := iblk m 0 6 t
def B7 (t : Fin grid0.N) : FVec Ideal S512x1024 .bf16 := iblk m 0 7 t
def B8 (t : Fin grid0.N) : FVec Ideal S512x2048 .bf16 := iblk m 0 8 t
def B9 (t : Fin grid0.N) : FVec Ideal S512x1024 .bf16 := iblk m 0 9 t
def B10 (t : Fin grid0.N) : FVec Ideal S1024x1024 .bf16 := iblk m 0 10 t
def B11 (t : Fin grid0.N) : FVec Ideal S1x1024 .f32 := iblk m 0 11 t
def B12 (t : Fin grid0.N) : FVec Ideal S1024x512 .bf16 := iblk m 0 12 t
def B13 (t : Fin grid0.N) : FVec Ideal S256x512 .bf16 := iblk m 0 13 t
def B14 (t : Fin grid0.N) : FVec Ideal S256x512 .bf16 := iblk m 0 14 t
def B15 (t : Fin grid0.N) : FVec Ideal S512x1024 .bf16 := iblk m 0 15 t

/-- The block index of the rows. -/
theorem rows_index : ∀ t : Fin cfg0.N, (cfg0.win 0).index t = ![t.val, 0] := by decide +kernel

/-- The block indices of the three gates: the second, third and fourth group of columns. -/
theorem gate_index1 : ∀ t : Fin cfg0.N, (cfg0.win 4).index t = ![t.val, 1] := by decide +kernel
/-- The block index of the second gate. -/
theorem gate_index2 : ∀ t : Fin cfg0.N, (cfg0.win 5).index t = ![t.val, 2] := by decide +kernel
/-- The block index of the third gate. -/
theorem gate_index3 : ∀ t : Fin cfg0.N, (cfg0.win 6).index t = ![t.val, 3] := by decide +kernel

/-- The block index of the memory: the batch element. -/
theorem mem_index : ∀ t : Fin cfg0.N, (cfg0.win 13).index t = ![t.val / 8, 0] := by decide +kernel

/-- The rows of the residual of the point's block. -/
theorem B0_at (t : Fin grid0.N) (r : Fin 32768) (a : Fin 512) (k : Fin 1024) (hr : r.val = t.val * 512 + a.val) :
    B0 m t (ix2 a k) = A0 m (ix2 r k) := by
  show V m 0 main_arg0 (((cfg0.win 0).blk t).view.emb (ix2 a k)) = _
  rw [V_main_arg0]
  have i0 : (cfg0.win 0).index t 0 = t.val := congrFun (rows_index t) 0
  have i1 : (cfg0.win 0).index t 1 = 0 := congrFun (rows_index t) 1
  blk_ext []
  · exact ax i0 (by omega)
  · exact ax i1 (by omega)

/-- The first mixer's rows of the point's block. -/
theorem B1_at (t : Fin grid0.N) (r : Fin 32768) (a : Fin 512) (k : Fin 512) (hr : r.val = t.val * 512 + a.val) :
    B1 m t (ix2 a k) = A1 m (ix2 r k) := by
  show V m 0 main_arg1 (((cfg0.win 1).blk t).view.emb (ix2 a k)) = _
  rw [V_main_arg1]
  have i0 : (cfg0.win 1).index t 0 = t.val := congrFun (rows_index t) 0
  have i1 : (cfg0.win 1).index t 1 = 0 := congrFun (rows_index t) 1
  blk_ext []
  · exact ax i0 (by omega)
  · exact ax i1 (by omega)

/-- The second mixer's rows of the point's block. -/
theorem B2_at (t : Fin grid0.N) (r : Fin 32768) (a : Fin 512) (k : Fin 512) (hr : r.val = t.val * 512 + a.val) :
    B2 m t (ix2 a k) = A2 m (ix2 r k) := by
  show V m 0 main_arg2 (((cfg0.win 2).blk t).view.emb (ix2 a k)) = _
  rw [V_main_arg2]
  have i0 : (cfg0.win 2).index t 0 = t.val := congrFun (rows_index t) 0
  have i1 : (cfg0.win 2).index t 1 = 0 := congrFun (rows_index t) 1
  blk_ext []
  · exact ax i0 (by omega)
  · exact ax i1 (by omega)

/-- The third mixer's rows of the point's block. -/
theorem B3_at (t : Fin grid0.N) (r : Fin 32768) (a : Fin 512) (k : Fin 512) (hr : r.val = t.val * 512 + a.val) :
    B3 m t (ix2 a k) = A3 m (ix2 r k) := by
  show V m 0 main_arg3 (((cfg0.win 3).blk t).view.emb (ix2 a k)) = _
  rw [V_main_arg3]
  have i0 : (cfg0.win 3).index t 0 = t.val := congrFun (rows_index t) 0
  have i1 : (cfg0.win 3).index t 1 = 0 := congrFun (rows_index t) 1
  blk_ext []
  · exact ax i0 (by omega)
  · exact ax i1 (by omega)

/-- The first gate of the point's block. -/
theorem B4_at (t : Fin grid0.N) (r : Fin 32768) (a : Fin 512) (k : Fin 1024) (hr : r.val = t.val * 512 + a.val) :
    B4 m t (ix2 a k) = A4 m (ix2 r ⟨1024 + k.val, by omega⟩) := by
  show V m 0 main_arg4 (((cfg0.win 4).blk t).view.emb (ix2 a k)) = _
  rw [V_main_arg4]
  have i0 : (cfg0.win 4).index t 0 = t.val := congrFun (gate_index1 t) 0
  have i1 : (cfg0.win 4).index t 1 = 1 := congrFun (gate_index1 t) 1
  blk_ext []
  · exact ax i0 (by omega)
  · exact ax i1 (by omega)

/-- The second gate of the point's block. -/
theorem B5_at (t : Fin grid0.N) (r : Fin 32768) (a : Fin 512) (k : Fin 1024) (hr : r.val = t.val * 512 + a.val) :
    B5 m t (ix2 a k) = A4 m (ix2 r ⟨2048 + k.val, by omega⟩) := by
  show V m 0 main_arg4 (((cfg0.win 5).blk t).view.emb (ix2 a k)) = _
  rw [V_main_arg4]
  have i0 : (cfg0.win 5).index t 0 = t.val := congrFun (gate_index2 t) 0
  have i1 : (cfg0.win 5).index t 1 = 2 := congrFun (gate_index2 t) 1
  blk_ext []
  · exact ax i0 (by omega)
  · exact ax i1 (by omega)

/-- The third gate of the point's block. -/
theorem B6_at (t : Fin grid0.N) (r : Fin 32768) (a : Fin 512) (k : Fin 1024) (hr : r.val = t.val * 512 + a.val) :
    B6 m t (ix2 a k) = A4 m (ix2 r ⟨3072 + k.val, by omega⟩) := by
  show V m 0 main_arg4 (((cfg0.win 6).blk t).view.emb (ix2 a k)) = _
  rw [V_main_arg4]
  have i0 : (cfg0.win 6).index t 0 = t.val := congrFun (gate_index3 t) 0
  have i1 : (cfg0.win 6).index t 1 = 3 := congrFun (gate_index3 t) 1
  blk_ext []
  · exact ax i0 (by omega)
  · exact ax i1 (by omega)

/-- A weight reaches the call as it is, its change of format being the identity, and whole. -/
theorem B7_eq (t : Fin grid0.N) : (B7 m t : S512x1024.Idx → EReal) = A5 m := by
  have e : ∀ i, (V m 0 main_v0 : S512x1024.Idx → EReal) i = A5 m i := fun i => by
    unfold V
    after_reads_at
  funext i
  obtain ⟨a, b, rfl⟩ : ∃ (a : Fin 512) (b : Fin 1024), i = ix2 a b := ⟨i (0 : Fin 2), i (1 : Fin 2), by funext k; fin_cases k <;> rfl⟩
  show V m 0 main_v0 (((cfg0.win 7).blk t).view.emb (ix2 a b)) = _
  refine (e _).trans ?_
  have i0 : (cfg0.win 7).index t 0 = 0 := rfl
  have i1 : (cfg0.win 7).index t 1 = 0 := rfl
  blk_ext []
  · exact ax i0 (by omega)
  · exact ax i1 (by omega)

/-- A weight reaches the call as it is, its change of format being the identity, and whole. -/
theorem B8_eq (t : Fin grid0.N) : (B8 m t : S512x2048.Idx → EReal) = A6 m := by
  have e : ∀ i, (V m 0 main_v1 : S512x2048.Idx → EReal) i = A6 m i := fun i => by
    unfold V
    after_reads_at
  funext i
  obtain ⟨a, b, rfl⟩ : ∃ (a : Fin 512) (b : Fin 2048), i = ix2 a b := ⟨i (0 : Fin 2), i (1 : Fin 2), by funext k; fin_cases k <;> rfl⟩
  show V m 0 main_v1 (((cfg0.win 8).blk t).view.emb (ix2 a b)) = _
  refine (e _).trans ?_
  have i0 : (cfg0.win 8).index t 0 = 0 := rfl
  have i1 : (cfg0.win 8).index t 1 = 0 := rfl
  blk_ext []
  · exact ax i0 (by omega)
  · exact ax i1 (by omega)

/-- A weight reaches the call as it is, its change of format being the identity, and whole. -/
theorem B9_eq (t : Fin grid0.N) : (B9 m t : S512x1024.Idx → EReal) = A7 m := by
  have e : ∀ i, (V m 0 main_v2 : S512x1024.Idx → EReal) i = A7 m i := fun i => by
    unfold V
    after_reads_at
  funext i
  obtain ⟨a, b, rfl⟩ : ∃ (a : Fin 512) (b : Fin 1024), i = ix2 a b := ⟨i (0 : Fin 2), i (1 : Fin 2), by funext k; fin_cases k <;> rfl⟩
  show V m 0 main_v2 (((cfg0.win 9).blk t).view.emb (ix2 a b)) = _
  refine (e _).trans ?_
  have i0 : (cfg0.win 9).index t 0 = 0 := rfl
  have i1 : (cfg0.win 9).index t 1 = 0 := rfl
  blk_ext []
  · exact ax i0 (by omega)
  · exact ax i1 (by omega)

/-- A weight reaches the call as it is, its change of format being the identity, and whole. -/
theorem B10_eq (t : Fin grid0.N) : (B10 m t : S1024x1024.Idx → EReal) = A8 m := by
  have e : ∀ i, (V m 0 main_v3 : S1024x1024.Idx → EReal) i = A8 m i := fun i => by
    unfold V
    after_reads_at
  funext i
  obtain ⟨a, b, rfl⟩ : ∃ (a : Fin 1024) (b : Fin 1024), i = ix2 a b := ⟨i (0 : Fin 2), i (1 : Fin 2), by funext k; fin_cases k <;> rfl⟩
  show V m 0 main_v3 (((cfg0.win 10).blk t).view.emb (ix2 a b)) = _
  refine (e _).trans ?_
  have i0 : (cfg0.win 10).index t 0 = 0 := rfl
  have i1 : (cfg0.win 10).index t 1 = 0 := rfl
  blk_ext []
  · exact ax i0 (by omega)
  · exact ax i1 (by omega)

/-- A weight reaches the call as it is, its change of format being the identity, and whole. -/
theorem B12_eq (t : Fin grid0.N) : (B12 m t : S1024x512.Idx → EReal) = A10 m := by
  have e : ∀ i, (V m 0 main_v4 : S1024x512.Idx → EReal) i = A10 m i := fun i => by
    unfold V
    after_reads_at
  funext i
  obtain ⟨a, b, rfl⟩ : ∃ (a : Fin 1024) (b : Fin 512), i = ix2 a b := ⟨i (0 : Fin 2), i (1 : Fin 2), by funext k; fin_cases k <;> rfl⟩
  show V m 0 main_v4 (((cfg0.win 12).blk t).view.emb (ix2 a b)) = _
  refine (e _).trans ?_
  have i0 : (cfg0.win 12).index t 0 = 0 := rfl
  have i1 : (cfg0.win 12).index t 1 = 0 := rfl
  blk_ext []
  · exact ax i0 (by omega)
  · exact ax i1 (by omega)

/-- A weight reaches the call as it is, its change of format being the identity, and whole. -/
theorem B15_eq (t : Fin grid0.N) : (B15 m t : S512x1024.Idx → EReal) = A13 m := by
  have e : ∀ i, (V m 0 main_v5 : S512x1024.Idx → EReal) i = A13 m i := fun i => by
    unfold V
    after_reads_at
  funext i
  obtain ⟨a, b, rfl⟩ : ∃ (a : Fin 512) (b : Fin 1024), i = ix2 a b := ⟨i (0 : Fin 2), i (1 : Fin 2), by funext k; fin_cases k <;> rfl⟩
  show V m 0 main_v5 (((cfg0.win 15).blk t).view.emb (ix2 a b)) = _
  refine (e _).trans ?_
  have i0 : (cfg0.win 15).index t 0 = 0 := rfl
  have i1 : (cfg0.win 15).index t 1 = 0 := rfl
  blk_ext []
  · exact ax i0 (by omega)
  · exact ax i1 (by omega)

/-- The scale of the norm. -/
theorem B11_at (t : Fin grid0.N) (k : Fin 1024) : B11 m t (ix2 0 k) = A9 m (ix1 k) := by
  have e : (V m 0 main_v6 : S1x1024.Idx → EReal) (ix2 0 k) = A9 m (ix1 k) := by
    unfold V
    after_reads_at
  show V m 0 main_v6 (((cfg0.win 11).blk t).view.emb (ix2 0 k)) = _
  refine Eq.trans ?_ e
  have i0 : (cfg0.win 11).index t 0 = 0 := rfl
  have i1 : (cfg0.win 11).index t 1 = 0 := rfl
  blk_ext []
  exact ax i1 (by omega)

/-- The memory's keys of the point's batch element. -/
theorem B13_at (t : Fin grid0.N) (b : Fin 8) (j : Fin 256) (c : Fin 512) (hb : b.val = t.val / 8) :
    B13 m t (ix2 j c) = A11 m (ix2 ⟨b.val * 256 + j.val, by omega⟩ c) := by
  show V m 0 main_arg11 (((cfg0.win 13).blk t).view.emb (ix2 j c)) = _
  rw [V_main_arg11]
  have i0 : (cfg0.win 13).index t 0 = t.val / 8 := congrFun (mem_index t) 0
  have i1 : (cfg0.win 13).index t 1 = 0 := congrFun (mem_index t) 1
  blk_ext []
  · exact ax i0 (by omega)
  · exact ax i1 (by omega)

/-- The memory's values of the point's batch element. -/
theorem B14_at (t : Fin grid0.N) (b : Fin 8) (j : Fin 256) (c : Fin 512) (hb : b.val = t.val / 8) :
    B14 m t (ix2 j c) = A12 m (ix2 ⟨b.val * 256 + j.val, by omega⟩ c) := by
  show V m 0 main_arg12 (((cfg0.win 14).blk t).view.emb (ix2 j c)) = _
  rw [V_main_arg12]
  have i0 : (cfg0.win 14).index t 0 = t.val / 8 := congrFun (mem_index t) 0
  have i1 : (cfg0.win 14).index t 1 = 0 := congrFun (mem_index t) 1
  blk_ext []
  · exact ax i0 (by omega)
  · exact ax i1 (by omega)

/-- The residual row `r` of the layer's inputs. -/
def resRow (a0 : S32768x1024.Idx → EReal) (a1 : S32768x512.Idx → EReal) (a2 : S32768x512.Idx → EReal) (a3 : S32768x512.Idx → EReal) (a4 : S32768x4096.Idx → EReal) (a5 : S512x1024.Idx → EReal) (a6 : S512x2048.Idx → EReal) (a7 : S512x1024.Idx → EReal) (a8 : S1024x1024.Idx → EReal) (r : Fin 32768) (d : Fin 1024) : EReal :=
  residual (fun k => a0 (ix2 r k)) (merged (fun j => a1 (ix2 r j)) (fun j => a2 (ix2 r j)) (fun j => a3 (ix2 r j))
    (fun k => a4 (ix2 r ⟨1024 + k.val, by omega⟩)) (fun k => a4 (ix2 r ⟨2048 + k.val, by omega⟩)) (fun k => a4 (ix2 r ⟨3072 + k.val, by omega⟩)) a5 a6 a7) a8 d

/-- The memory's rows of the batch element that the row `r` lies in. -/
def memOf (a : S2048x512.Idx → EReal) (r : Fin 32768) (j : Fin 256) (c : Fin 512) : EReal := a (ix2 ⟨r.val / 4096 * 256 + j.val, by omega⟩ c)

/-- The layer's value at the row `r` and the feature `d`. -/
def mergeAt (a0 : S32768x1024.Idx → EReal) (a1 : S32768x512.Idx → EReal) (a2 : S32768x512.Idx → EReal) (a3 : S32768x512.Idx → EReal) (a4 : S32768x4096.Idx → EReal) (a5 : S512x1024.Idx → EReal) (a6 : S512x2048.Idx → EReal) (a7 : S512x1024.Idx → EReal) (a8 : S1024x1024.Idx → EReal) (a9 : S1024.Idx → EReal) (a10 : S1024x512.Idx → EReal) (a11 : S2048x512.Idx → EReal) (a12 : S2048x512.Idx → EReal) (a13 : S512x1024.Idx → EReal) (r : Fin 32768) (d : Fin 1024) : EReal :=
  outRow (resRow a0 a1 a2 a3 a4 a5 a6 a7 a8 r) (fun k => a9 (ix1 k)) a10 (memOf a11 r) (memOf a12 r) a13 d

/-- One row of the block the body writes, from the blocks it reads. -/
theorem out_at (x0 : FVec Ideal S512x1024 .f32) (x1 : FVec Ideal S512x512 .bf16) (x2 : FVec Ideal S512x512 .bf16) (x3 : FVec Ideal S512x512 .bf16) (x4 : FVec Ideal S512x1024 .bf16) (x5 : FVec Ideal S512x1024 .bf16) (x6 : FVec Ideal S512x1024 .bf16) (x7 : FVec Ideal S512x1024 .bf16) (x8 : FVec Ideal S512x2048 .bf16) (x9 : FVec Ideal S512x1024 .bf16) (x10 : FVec Ideal S1024x1024 .bf16) (x11 : FVec Ideal S1x1024 .f32) (x12 : FVec Ideal S1024x512 .bf16) (x13 : FVec Ideal S256x512 .bf16) (x14 : FVec Ideal S256x512 .bf16) (x15 : FVec Ideal S512x1024 .bf16) (a : Fin 512) (d : Fin 1024) :
    (out0_16 (F := Ideal) x0 x1 x2 x3 x4 x5 x6 x7 x8 x9 x10 x11 x12 x13 x14 x15 : S512x1024.Idx → EReal) (ix2 a d)
      = outRow (residual (fun k => x0 (ix2 a k)) (merged (fun j => x1 (ix2 a j)) (fun j => x2 (ix2 a j)) (fun j => x3 (ix2 a j))
          (fun k => x4 (ix2 a k)) (fun k => x5 (ix2 a k)) (fun k => x6 (ix2 a k)) x7 x8 x9) x10) (fun k => x11 (ix2 0 k)) x12 (fun j c => x13 (ix2 j c)) (fun j c => x14 (ix2 j c)) x15 d := by
  unfold_out out0_16
  frame_out
  rw [pay12_at _ _ _ _ _ _ _ _ _ a d (pay10_at _ _ _ a) (pay11_at _ _ _ a) (pay8_at _ _ _ a) (pay9_at _ _ _ a)]
  have e5 : ∀ d, (k0_pay5 (k0_pay1 x2 x8) (k0_pay2 x3 x9) (k0_pay3 x1 x7 x4) (k0_pay4 x5) x6 x0 x10 : FVec Ideal S512x1024 .f32) (ix2 a d) = residual (fun k => x0 (ix2 a k)) (merged (fun j => x1 (ix2 a j)) (fun j => x2 (ix2 a j)) (fun j => x3 (ix2 a j))
      (fun k => x4 (ix2 a k)) (fun k => x5 (ix2 a k)) (fun k => x6 (ix2 a k)) x7 x8 x9) x10 d := fun d => by
    rw [pay5_at]
    simp only [pay1_at, pay2_at, pay3_at, pay4_at]
    rfl
  unfold outRow
  rw [e5]
  unfold qOf
  simp only [pay6_at, e5]

/-- A row of the block the point `t` writes. -/
theorem block_at (t : Fin grid0.N) (r : Fin 32768) (a : Fin 512) (d : Fin 1024) (hr : r.val = t.val * 512 + a.val) :
    (out0_16 (F := Ideal) (B0 m t) (B1 m t) (B2 m t) (B3 m t) (B4 m t) (B5 m t) (B6 m t) (B7 m t) (B8 m t) (B9 m t) (B10 m t) (B11 m t) (B12 m t) (B13 m t) (B14 m t) (B15 m t) : S512x1024.Idx → EReal) (ix2 a d) = mergeAt (A0 m) (A1 m) (A2 m) (A3 m) (A4 m) (A5 m) (A6 m) (A7 m) (A8 m) (A9 m) (A10 m) (A11 m) (A12 m) (A13 m) r d := by
  have ht : t.val < 64 := Nat.lt_of_lt_of_eq t.isLt N_0
  have hk : ∀ j c, B13 m t (ix2 j c) = memOf (A11 m) r j c := fun j c => B13_at m t ⟨r.val / 4096, by omega⟩ j c (by dsimp only; omega)
  have hv : ∀ j c, B14 m t (ix2 j c) = memOf (A12 m) r j c := fun j c => B14_at m t ⟨r.val / 4096, by omega⟩ j c (by dsimp only; omega)
  rw [out_at]
  simp only [B7_eq, B8_eq, B9_eq, B10_eq, B12_eq, B15_eq, B11_at, hk, hv, fun k => B0_at m t r a k hr, fun k => B1_at m t r a k hr, fun k => B2_at m t r a k hr, fun k => B3_at m t r a k hr,
    fun k => B4_at m t r a k hr, fun k => B5_at m t r a k hr, fun k => B6_at m t r a k hr]
  rfl

/-- The blocks written back cover the result. -/
theorem covers : (cfg0.win 16).Covers := by decide +kernel

/-- The result after the run. -/
theorem final : (dats m 0 0).arrAt 16 cfg0.N = fun i : S32768x1024.Idx => mergeAt (A0 m) (A1 m) (A2 m) (A3 m) (A4 m) (A5 m) (A6 m) (A7 m) (A8 m) (A9 m) (A10 m) (A11 m) (A12 m) (A13 m) (i 0) (i 1) := by
  refine (dats m 0 0).arrAt_eq_of_covers 16 _ covers fun t hf y => ?_
  have i0 : (cfg0.win 16).index t 0 = t.val := congrFun (rows_index t) 0
  have i1 : (cfg0.win 16).index t 1 = 0 := congrFun (rows_index t) 1
  blk_simp
  rw [after0_16]
  obtain ⟨a, b, rfl⟩ : ∃ (a : Fin 512) (b : Fin 1024), y = ix2 a b := ⟨y (0 : Fin 2), y (1 : Fin 2), by funext k; fin_cases k <;> rfl⟩
  have e1 : ((cfg0.win 16).blk t).view.emb (ix2 a b) (1 : Fin 2) = b := Fin.ext (by blk_simp; exact ax i1 (by omega))
  have e0 : (((cfg0.win 16).blk t).view.emb (ix2 a b) (0 : Fin 2)).val = t.val * 512 + a.val := by blk_simp; exact ax i0 rfl
  rw [e1]
  exact block_at m t _ a b e0

end Cert.MergeIdeal.Val
end
-- ==== Proof.MergeRef.lean ====
module

public import proofs.«01_k».proof.Proof.Gen.MergeRefIdeal.Run
public import proofs.«01_k».proof.Proof.Gen.MergeRefIdeal.Read
public import proofs.«01_k».proof.Proof.MergeValue

/-! # The reference of the merge and the attention, at one row and one feature -/

@[expose] public section

set_option maxRecDepth 16384

noncomputable section

namespace Cert.MergeRefIdeal.Val

open Idealize.ShloMosaic Idealize.ShloMosaic.TcCoe Idealize.SL.Sem Cert.MergeRefIdeal Cert.MergeRefIdeal.Gen
open Cert.MergeIdeal.Val (gate glu merged residual nrm query score top prob attend outRow resRow memOf mergeAt)

variable (x0 : FVec Ideal S32768x1024 .f32) (x1 : FVec Ideal S32768x512 .bf16) (x2 : FVec Ideal S32768x512 .bf16) (x3 : FVec Ideal S32768x512 .bf16) (x4 : FVec Ideal S32768x4096 .bf16) (x5 : FVec Ideal S512x1024 .f32) (x6 : FVec Ideal S512x2048 .f32) (x7 : FVec Ideal S512x1024 .f32) (x8 : FVec Ideal S1024x1024 .f32) (x9 : FVec Ideal S1024 .f32) (x10 : FVec Ideal S1024x512 .f32) (x11 : FVec Ideal S2048x512 .bf16) (x12 : FVec Ideal S2048x512 .bf16) (x13 : FVec Ideal S512x1024 .f32)

/-- The residual rows of the reference. -/
theorem res_at (r : Fin 32768) (d : Fin 1024) :
    (Read.val_main_v43 (F := Ideal) x0 x1 x2 x3 x4 x5 x6 x7 x8 : FVec Ideal S32768x1024 .f32) (ix2 r d) = resRow x0 x1 x2 x3 x4 x5 x6 x7 x8 r d := by
  unfold Read.val_main_v43 Read.val_main_v42 Read.val_main_v41 Read.val_main_v40 Read.val_main_v39 Read.val_main_v38 Read.val_main_v37 Read.val_main_v36 Read.val_main_v35 Read.val_main_v34 Read.val_main_v33 Read.val_main_v32 Read.val_main_v31 Read.val_main_v30 Read.val_main_v29 Read.val_main_v28 Read.val_main_v27 Read.val_main_v26 Read.val_main_v25 Read.val_main_v24 Read.val_main_v23 Read.val_main_v22 Read.val_main_v21 Read.val_main_v20 Read.val_main_v19 Read.val_main_v18 Read.val_main_v17 Read.val_main_v16 Read.val_main_v15 Read.val_main_v14 Read.val_main_v13 Read.val_main_v12 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst Read.val_main_cst_0 Read.val_main_cst_1 Read.val_main_cst_2 Read.val_main_cst_3 Read.val_main_cst_4 Read.val_main_cst_5 Read.val_main_cst_6
  pointwise
  unfold resRow Cert.MergeIdeal.Val.residual merged glu gate
  simp only [zero_sub]

/-- The normed rows of the reference. -/
theorem nrm_at (r : Fin 32768) (k : Fin 1024) :
    (Read.val_main_v56 (F := Ideal) x0 x1 x2 x3 x4 x5 x6 x7 x8 x9 : FVec Ideal S32768x1024 .f32) (ix2 r k)
      = nrm (fun j => (Read.val_main_v43 (F := Ideal) x0 x1 x2 x3 x4 x5 x6 x7 x8 : FVec Ideal S32768x1024 .f32) (ix2 r j)) (fun j => x9 (ix1 j)) k := by
  unfold Read.val_main_v56 Read.val_main_v55 Read.val_main_v54 Read.val_main_v53 Read.val_main_v52 Read.val_main_v51 Read.val_main_v50 Read.val_main_v49 Read.val_main_v48 Read.val_main_v47 Read.val_main_v46 Read.val_main_v45 Read.val_main_v44 Read.val_main_cst_7 Read.val_main_cst_8 Read.val_main_cst_9
  generalize (Read.val_main_v43 (F := Ideal) x0 x1 x2 x3 x4 x5 x6 x7 x8 : FVec Ideal S32768x1024 .f32) = y
  pointwise
  rfl

/-- The queries of the reference. -/
theorem query_at (r : Fin 32768) (c : Fin 512) :
    (Read.val_main_v57 (F := Ideal) x0 x1 x2 x3 x4 x5 x6 x7 x8 x9 x10 : FVec Ideal S32768x512 .f32) (ix2 r c)
      = query (fun j => (Read.val_main_v56 (F := Ideal) x0 x1 x2 x3 x4 x5 x6 x7 x8 x9 : FVec Ideal S32768x1024 .f32) (ix2 r j)) x10 c := by
  unfold Read.val_main_v57
  generalize (Read.val_main_v56 (F := Ideal) x0 x1 x2 x3 x4 x5 x6 x7 x8 x9 : FVec Ideal S32768x1024 .f32) = y
  pointwise
  rfl

/-- The scores of the reference. -/
theorem score_at (r : Fin 32768) (b : Fin 8) (h : Fin 4) (q : Fin 4096) (j : Fin 256) (hr : r.val = b.val * 4096 + q.val) :
    (Read.val_main_v65 (F := Ideal) x0 x1 x2 x3 x4 x5 x6 x7 x8 x9 x10 x11 : FVec Ideal S8x4x4096x256 .f32) (ix4 b h q j)
      = score (fun c => (Read.val_main_v57 (F := Ideal) x0 x1 x2 x3 x4 x5 x6 x7 x8 x9 x10 : FVec Ideal S32768x512 .f32) (ix2 r c)) (memOf x11 r) h j := by
  unfold Read.val_main_v65 Read.val_main_v64 Read.val_main_v63 Read.val_main_cst_10 Read.val_main_v60 Read.val_main_v59 Read.val_main_v58
  generalize (Read.val_main_v57 (F := Ideal) x0 x1 x2 x3 x4 x5 x6 x7 x8 x9 x10 : FVec Ideal S32768x512 .f32) = y
  pointwise
  unfold score memOf
  have hb : r.val / 4096 = b.val := by omega
  have he : (⟨b.val * 4096 + q.val, by omega⟩ : Fin 32768) = r := Fin.ext hr.symm
  simp only [hb, he]

/-- A maximum from a value is at least that value, so taking the maximum with it again changes nothing. -/
theorem max_fold (z : EReal) (f : Fin 256 → EReal) : max z (Finset.fold max z f Finset.univ) = Finset.fold max z f Finset.univ :=
  max_eq_right ((Finset.le_fold_max z).mpr (Or.inl le_rfl))

/-- The last axis of the scores is the one reduced. -/
theorem red : S8x4x4096x256.Reduces [3] S8x4x4096 := by decide

/-- The index the reduction reads at its coordinate. -/
theorem lift_at (b : Fin 8) (h : Fin 4) (q : Fin 4096) (i : Fin 256) : red.lift (ix3 b h q) i = ix4 b h q i :=
  funext fun a => Fin.ext (by match a with | ⟨0, _⟩ => rfl | ⟨1, _⟩ => rfl | ⟨2, _⟩ => rfl | ⟨3, _⟩ => rfl)

/-- A reduction of the scores along the memory's rows, as a fold. -/
theorem fold_at (f : EReal → EReal → EReal) [Std.Commutative f] [Std.Associative f]  (y : S8x4x4096x256.Idx → EReal) (z : S_.Idx → EReal) (b : Fin 8) (h : Fin 4) (q : Fin 4096) :
    Host.reduce f y z reducesTo_S8x4x4096x256_S8x4x4096_d3 h_S_ (ix3 b h q)
      = Finset.fold f (z (Shape.Idx.first h_S_)) (fun i : Fin 256 => y (ix4 b h q i)) Finset.univ := by
  rw [Host.reduce_eq_fold_single f y z reducesTo_S8x4x4096x256_S8x4x4096_d3 red h_S_ (ix3 b h q)]
  exact Finset.fold_congr fun i _ => congrArg y (lift_at b h q i)

/-- The maximum of the scores along the memory's rows. -/
theorem maxr_at (y : FVec Ideal S8x4x4096x256 .f32) (z : FVec Ideal S_ .f32) (b : Fin 8) (h : Fin 4) (q : Fin 4096) :
    Host.reduce (FloatOps.maximumf : Ideal .f32 → Ideal .f32 → Ideal .f32) y z reducesTo_S8x4x4096x256_S8x4x4096_d3 h_S_ (ix3 b h q)
      = Finset.fold max (z (Shape.Idx.first h_S_)) (fun i : Fin 256 => (y (ix4 b h q i) : EReal)) Finset.univ :=
  fold_at max y z b h q

/-- The greatest score of the reference. -/
theorem max_at (b : Fin 8) (h : Fin 4) (q : Fin 4096) :
    (Read.val_main_v66 (F := Ideal) x0 x1 x2 x3 x4 x5 x6 x7 x8 x9 x10 x11 : FVec Ideal S8x4x4096 .f32) (ix3 b h q)
      = top (fun i => (Read.val_main_v65 (F := Ideal) x0 x1 x2 x3 x4 x5 x6 x7 x8 x9 x10 x11 : FVec Ideal S8x4x4096x256 .f32) (ix4 b h q i)) := by
  unfold Read.val_main_v66
  generalize (Read.val_main_v65 (F := Ideal) x0 x1 x2 x3 x4 x5 x6 x7 x8 x9 x10 x11 : FVec Ideal S8x4x4096x256 .f32) = y
  rw [maxr_at, Read.val_main_cst_11_apply]
  rfl

/-- The exponentials of the reference. -/
theorem exp_at (b : Fin 8) (h : Fin 4) (q : Fin 4096) (j : Fin 256) :
    (Read.val_main_v72 (F := Ideal) x0 x1 x2 x3 x4 x5 x6 x7 x8 x9 x10 x11 : FVec Ideal S8x4x4096x256 .f32) (ix4 b h q j)
      = Ideal.exp ((Read.val_main_v65 (F := Ideal) x0 x1 x2 x3 x4 x5 x6 x7 x8 x9 x10 x11 : FVec Ideal S8x4x4096x256 .f32) (ix4 b h q j) - top (fun i => (Read.val_main_v65 (F := Ideal) x0 x1 x2 x3 x4 x5 x6 x7 x8 x9 x10 x11 : FVec Ideal S8x4x4096x256 .f32) (ix4 b h q i))) := by
  have e : Read.idx_main_v69 (Read.idx_main_v70 (ix4 b h q j)) = ix3 b h q := funext fun a => Fin.ext (by match a with | ⟨0, _⟩ => rfl | ⟨1, _⟩ => rfl | ⟨2, _⟩ => rfl)
  rw [Read.val_main_v72_apply, Read.val_main_v71_apply, Read.val_main_v70_apply, Read.val_main_v69_apply, e, Read.val_main_v68_apply, Read.val_main_v67_apply, Read.val_main_cst_12_apply, max_at]
  exact congrArg (fun z => Ideal.exp ((Read.val_main_v65 (F := Ideal) x0 x1 x2 x3 x4 x5 x6 x7 x8 x9 x10 x11 : FVec Ideal S8x4x4096x256 .f32) (ix4 b h q j) - z)) (max_fold _ _)

/-- The sum of the reference's exponentials. -/
theorem sum_at (b : Fin 8) (h : Fin 4) (q : Fin 4096) :
    (Read.val_main_v73 (F := Ideal) x0 x1 x2 x3 x4 x5 x6 x7 x8 x9 x10 x11 : FVec Ideal S8x4x4096 .f32) (ix3 b h q)
      = ∑ i : Fin 256, (Read.val_main_v72 (F := Ideal) x0 x1 x2 x3 x4 x5 x6 x7 x8 x9 x10 x11 : FVec Ideal S8x4x4096x256 .f32) (ix4 b h q i) := by
  rw [Read.val_main_v73_apply, Read.val_main_cst_13_apply]
  generalize (Read.val_main_v72 (F := Ideal) x0 x1 x2 x3 x4 x5 x6 x7 x8 x9 x10 x11 : FVec Ideal S8x4x4096x256 .f32) = y
  have z : (FloatOps.ofBits .f32 0x00000000#32 : Ideal .f32) = (0 : EReal) := by
    show Ideal.ofBits FTy.f32 0x00000000#32 = 0
    pointwise
  rw [z]
  exact (zero_add _).trans (Finset.sum_congr rfl fun k _ => congrArg y (funext fun a => Fin.ext (by match a with | ⟨0, _⟩ => rfl | ⟨1, _⟩ => rfl | ⟨2, _⟩ => rfl | ⟨3, _⟩ => rfl)))

/-- The probabilities of the reference. -/
theorem prob_at (b : Fin 8) (h : Fin 4) (q : Fin 4096) (j : Fin 256) :
    (Read.val_main_v76 (F := Ideal) x0 x1 x2 x3 x4 x5 x6 x7 x8 x9 x10 x11 : FVec Ideal S8x4x4096x256 .f32) (ix4 b h q j)
      = prob (fun i => (Read.val_main_v65 (F := Ideal) x0 x1 x2 x3 x4 x5 x6 x7 x8 x9 x10 x11 : FVec Ideal S8x4x4096x256 .f32) (ix4 b h q i)) j := by
  have hs := sum_at x0 x1 x2 x3 x4 x5 x6 x7 x8 x9 x10 x11 b h q
  have he := exp_at x0 x1 x2 x3 x4 x5 x6 x7 x8 x9 x10 x11 b h q
  unfold Read.val_main_v76 Read.val_main_v75 Read.val_main_v74
  generalize (Read.val_main_v73 (F := Ideal) x0 x1 x2 x3 x4 x5 x6 x7 x8 x9 x10 x11 : FVec Ideal S8x4x4096 .f32) = w at hs ⊢
  generalize (Read.val_main_v72 (F := Ideal) x0 x1 x2 x3 x4 x5 x6 x7 x8 x9 x10 x11 : FVec Ideal S8x4x4096x256 .f32) = z at hs he ⊢
  generalize (Read.val_main_v65 (F := Ideal) x0 x1 x2 x3 x4 x5 x6 x7 x8 x9 x10 x11 : FVec Ideal S8x4x4096x256 .f32) = y at he ⊢
  pointwise
  rw [hs]
  simp only [he]
  rfl

/-- The reference at the row `r` and the feature `d`. -/
theorem ref_at (r : Fin 32768) (d : Fin 1024) :
    (Read.val_main_v81 (F := Ideal) x0 x1 x2 x3 x4 x5 x6 x7 x8 x9 x10 x11 x12 x13 : FVec Ideal S32768x1024 .f32) (ix2 r d) = mergeAt x0 x1 x2 x3 x4 x5 x6 x7 x8 x9 x10 x11 x12 x13 r d := by
  unfold Read.val_main_v81 Read.val_main_v80 Read.val_main_v79 Read.val_main_v78 Read.val_main_v77  Read.val_main_v62 Read.val_main_v61
  have hp : ∀ (h : Fin 4) j, (Read.val_main_v76 (F := Ideal) x0 x1 x2 x3 x4 x5 x6 x7 x8 x9 x10 x11 : FVec Ideal S8x4x4096x256 .f32) (ix4 ⟨r.val / 4096, by omega⟩ h ⟨r.val % 4096, by omega⟩ j)
      = prob (score (query (nrm (resRow x0 x1 x2 x3 x4 x5 x6 x7 x8 r) (fun j => x9 (ix1 j))) x10) (memOf x11 r) h) j := fun h j => by
    rw [prob_at]
    refine congrArg (fun f => prob f j) (funext fun i => ?_)
    rw [score_at x0 x1 x2 x3 x4 x5 x6 x7 x8 x9 x10 x11 r _ h _ i (by dsimp only; omega)]
    refine congrArg (fun f => score f (memOf x11 r) h i) (funext fun c => ?_)
    rw [query_at]
    refine congrArg (fun f => query f x10 c) (funext fun k => ?_)
    rw [nrm_at]
    exact congrArg (fun f => nrm f (fun j => x9 (ix1 j)) k) (funext fun d => res_at x0 x1 x2 x3 x4 x5 x6 x7 x8 r d)
  have h43 := res_at x0 x1 x2 x3 x4 x5 x6 x7 x8 r d
  generalize (Read.val_main_v76 (F := Ideal) x0 x1 x2 x3 x4 x5 x6 x7 x8 x9 x10 x11 : FVec Ideal S8x4x4096x256 .f32) = p at hp ⊢
  generalize (Read.val_main_v43 (F := Ideal) x0 x1 x2 x3 x4 x5 x6 x7 x8 : FVec Ideal S32768x1024 .f32) = z at h43 ⊢
  pointwise
  rw [h43]
  unfold mergeAt outRow attend
  refine congrArg _ (Finset.sum_congr rfl fun c _ => congrArg (· * _) (Finset.sum_congr rfl fun j _ => ?_))
  rw [hp, mul_comm]
  rfl

end Cert.MergeRefIdeal.Val
end
-- ==== Proof.ProjRunIdeal.lean ====
module

public import proofs.«01_k».proof.Proof.Gen.ProjIdeal.Skeleton
public import proofs.«01_k».proof.Proof.Gen.ProjIdeal.Frame
public import Idealize.ShloMosaic.Lib.Pipeline.ValueKit
public import Idealize.ShloMosaic.Lib.Pipeline.TableIdle
public import Idealize.ShloMosaic.Lib.WritesUnit

/-! # The input projection: the pipeline's run

A point `t = 9 i + j` of the grid reads the block `i` of 2048 rows. At `j = 0` the body norms the rows into the scratch; at
`j ≤ 4` it writes the product with the block `j` of the first 3200 columns into the first result's buffer, and later the product with
the block `j - 5` of the other 4096 columns into the second one's. The first result's last block of the row is written
back only at `j = 8`: the buffer keeps it meanwhile. -/

@[expose] public section

set_option maxRecDepth 16384

noncomputable section

namespace Cert.ProjIdeal.Run

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three kinds of points -/

/-- The body's first condition: the first point of a block of rows. -/
abbrev c1 (i : grid0.Coords) : Prop := (Scalar.cmpi .ne (Scalar.extui (Scalar.cmpi .eq (BitVec.ofNat 32 (i 1).val) 0#32)) 0#32) = 1#1

/-- It holds at the points divisible by nine. -/
theorem c1_iff : ∀ t : Fin cfg0.N, c1 (grid0.coords t) ↔ t.val % 9 = 0 := by decide +kernel
/-- The second condition holds at the first five points of a block of rows. -/
theorem c2_iff : ∀ t : Fin cfg0.N, k0_cond2 (grid0.coords t) = 1#1 ↔ t.val % 9 < 5 := by decide +kernel
/-- The third one at the others. -/
theorem c3_iff : ∀ t : Fin cfg0.N, k0_cond3 (grid0.coords t) = 1#1 ↔ ¬ t.val % 9 < 5 := by decide +kernel

/-! ## The body at each kind -/

/-- The offsets of an access to a whole block. -/
theorem z2 : (![0, 0] : Fin 2 → ℕ) = fun _ => 0 := by funext a; fin_cases a <;> rfl

/-- A buffer stored into as a whole holds the value stored. -/
theorem read_store {sp : Space} {s : Shape} {e : EltTy} (v : View sig .tc sp s e) (f : v.ty.Contents (Elt F)) {off : Fin s.rank → ℕ} (inb : ∀ a, off a + s.size a ≤ s.size a)
    (h0 : off = fun _ => 0) (w : s.Idx → Elt F e) : v.read (Elt F) (v.writes (Elt F) f [⟨Rect.unit off s.size inb, w⟩]) = w := by
  funext y
  exact View.read_writes_cons_unit_of_mem v f inb w [] y y h0 (fun a => (Nat.zero_add _).symm)

set_option maxHeartbeats 1000000 in
/-- The first point of a block of rows: the scratch receives the normed rows, the first result's buffer their first product. -/
theorem body_first (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1024x1024 .bf16) (harg5 : arg5.IsWhole) (arg6 : Memref sig .tc .vmem S2048x640 .f32) (harg6 : arg6.IsWhole) (arg7 : Memref sig .tc .vmem S2048x1024 .bf16) (harg7 : arg7.IsWhole) (arg8 : Memref sig .tc .vmem S2048x1024 .bf16) (harg8 : arg8.IsWhole)
    (h1 : c1 i) (h2 : k0_cond2 i = 1#1) (h3 : ¬ k0_cond3 i = 1#1)
    (x0 : Vec F S2048x1024 .f32) (x1 : Vec F S1x1024 .f32) (x2 : Vec F S1024x640 .bf16) (x3 : Vec F S1024x1024 .bf16) (x5 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (k0_pay1 x0 x1) x2) ∗ owns (c : Thread nD τ) arg7 fullShare x5 ∗ owns (c : Thread nD τ) arg8 fullShare (k0_pay1 x0 x1)) -∗ K ⟨⟩))
      ⊢ wp frame (wpE (defs₀ (F := F)) Variants.none c none) E (cc0_norm_matmul2 i arg2 harg2 arg3 harg3 arg4 harg4 arg5 harg5 arg6 harg6 arg7 harg7 arg8 harg8) K := by
  simp only [cc0_norm_matmul2_eq_skeleton]; unfold cc0_norm_matmul2_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf3; obtain rfl := harg7.eq_unread hf5
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store _ _ _ z2 _).trans ?_
    unfold body_first.sl.v9 body_first.sl.H6_1
    simp (disch := decide) only [View.readCov_unit_lit', View.readCov_cons_unit_lit', View.readAt_eq_ld, View.ld_unit_lit', Memref.IsWhole.read_unread]
  isplitl [H5]
  · iexists _; isplitr; · ipureintro; exact harg7.read_unread _
    iexact H5
  iexists _; isplitr
  swap; · iexact H6
  ipureintro
  unfold body_first.sl.H6_1
  refine (read_store _ _ _ z2 _).trans ?_
  simp (disch := decide) only [View.readAt_eq_ld, View.ld_unit_lit', Memref.IsWhole.read_unread]

set_option maxHeartbeats 1000000 in
/-- The next four points: the first result's buffer receives the product of the rows in the scratch. -/
theorem body_mid (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1024x1024 .bf16) (harg5 : arg5.IsWhole) (arg6 : Memref sig .tc .vmem S2048x640 .f32) (harg6 : arg6.IsWhole) (arg7 : Memref sig .tc .vmem S2048x1024 .bf16) (harg7 : arg7.IsWhole) (arg8 : Memref sig .tc .vmem S2048x1024 .bf16) (harg8 : arg8.IsWhole)
    (h1 : ¬ c1 i) (h2 : k0_cond2 i = 1#1) (h3 : ¬ k0_cond3 i = 1#1)
    (x0 : Vec F S2048x1024 .f32) (x1 : Vec F S1x1024 .f32) (x2 : Vec F S1024x640 .bf16) (x3 : Vec F S1024x1024 .bf16) (x5 x6 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x6 x2) ∗ owns (c : Thread nD τ) arg7 fullShare x5 ∗ owns (c : Thread nD τ) arg8 fullShare x6) -∗ K ⟨⟩))
      ⊢ wp frame (wpE (defs₀ (F := F)) Variants.none c none) E (cc0_norm_matmul2 i arg2 harg2 arg3 harg3 arg4 harg4 arg5 harg5 arg6 harg6 arg7 harg7 arg8 harg8) K := by
  simp only [cc0_norm_matmul2_eq_skeleton]; unfold cc0_norm_matmul2_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store _ _ _ z2 _).trans ?_
    simp (disch := decide) only [View.readAt_eq_ld, View.ld_unit_lit', Memref.IsWhole.read_unread]
  isplitl [H5]
  · iexists _; isplitr; · ipureintro; exact harg7.read_unread _
    iexact H5
  iexists _; isplitr; · ipureintro; exact harg8.read_unread _
  iexact H6

set_option maxHeartbeats 1000000 in
/-- The last four points: the second result's buffer receives the product of the rows in the scratch. -/
theorem body_last (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1024x1024 .bf16) (harg5 : arg5.IsWhole) (arg6 : Memref sig .tc .vmem S2048x640 .f32) (harg6 : arg6.IsWhole) (arg7 : Memref sig .tc .vmem S2048x1024 .bf16) (harg7 : arg7.IsWhole) (arg8 : Memref sig .tc .vmem S2048x1024 .bf16) (harg8 : arg8.IsWhole)
    (h1 : ¬ c1 i) (h2 : ¬ k0_cond2 i = 1#1) (h3 : k0_cond3 i = 1#1)
    (x0 : Vec F S2048x1024 .f32) (x1 : Vec F S1x1024 .f32) (x2 : Vec F S1024x640 .bf16) (x3 : Vec F S1024x1024 .bf16) (x4 : Vec F S2048x640 .f32) (x6 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x6 x3) ∗ owns (c : Thread nD τ) arg8 fullShare x6) -∗ K ⟨⟩))
      ⊢ wp frame (wpE (defs₀ (F := F)) Variants.none c none) E (cc0_norm_matmul2 i arg2 harg2 arg3 harg3 arg4 harg4 arg5 harg5 arg6 harg6 arg7 harg7 arg8 harg8) K := by
  simp only [cc0_norm_matmul2_eq_skeleton]; unfold cc0_norm_matmul2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_store _ _ _ z2 _).trans ?_
    simp (disch := decide) only [View.readAt_eq_ld, View.ld_unit_lit', Memref.IsWhole.read_unread]
  iexists _; isplitr; · ipureintro; exact harg8.read_unread _
  iexact H6

/-! ## What the buffers hold -/

/-- The scratch operand, a whole buffer of the kernel's own. -/
abbrev scM : Memref sig .tc .vmem S2048x1024 .bf16 := Memref.whole cc0_scratch0

/-- What the launch hands over and takes back: the scratch at anything, and the generator register. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The blocks of the four inputs at a point. -/
abbrev X0 (c : Dev nD) (t : Fin cfg0.N) : Vec F S2048x1024 .f32 := iblk m c 0 t
/-- The gain. -/
abbrev X1 (c : Dev nD) (t : Fin cfg0.N) : Vec F S1x1024 .f32 := iblk m c 1 t
/-- The columns of the first result. -/
abbrev X2 (c : Dev nD) (t : Fin cfg0.N) : Vec F S1024x640 .bf16 := iblk m c 2 t
/-- The columns of the second one. -/
abbrev X3 (c : Dev nD) (t : Fin cfg0.N) : Vec F S1024x1024 .bf16 := iblk m c 3 t

/-- The normed rows of the point's block. -/
def nrmAt (c : Dev nD) (t : Fin cfg0.N) : Vec F S2048x1024 .bf16 := k0_pay1 (X0 m c t) (X1 m c t)

/-- The block index of the rows. -/
theorem index_rows : ∀ t : Fin cfg0.N, (cfg0.win 0).index t = ![t.val / 9, 0] := by decide +kernel
/-- The gain has one block. -/
theorem index_gain : ∀ t : Fin cfg0.N, (cfg0.win 1).index t = ![0, 0] := by decide +kernel
/-- The block index of the first result's columns. -/
theorem index_wa : ∀ t : Fin cfg0.N, (cfg0.win 2).index t = ![0, min (t.val % 9) 4] := by decide +kernel
/-- The block index of the second result's columns. -/
theorem index_wb : ∀ t : Fin cfg0.N, (cfg0.win 3).index t = ![0, t.val % 9 - 5] := by decide +kernel

/-- The rows' block depends on the point through its index alone. -/
theorem X0_congr (c : Dev nD) {t t' : Fin cfg0.N} (h : (cfg0.win 0).index t = (cfg0.win 0).index t') : X0 m c t = X0 m c t' := by
  funext y
  unfold X0 iblk
  rw [View.read_apply, View.read_apply]
  congr 2
  funext a
  apply Fin.ext
  have h' := congrFun h a
  blk_simp
  rw [h']
/-- So does the gain's. -/
theorem X1_congr (c : Dev nD) {t t' : Fin cfg0.N} (h : (cfg0.win 1).index t = (cfg0.win 1).index t') : X1 m c t = X1 m c t' := by
  funext y
  unfold X1 iblk
  rw [View.read_apply, View.read_apply]
  congr 2
/-- And the columns'. -/
theorem X2_congr (c : Dev nD) {t t' : Fin cfg0.N} (h : (cfg0.win 2).index t = (cfg0.win 2).index t') : X2 m c t = X2 m c t' := by
  funext y
  unfold X2 iblk
  rw [View.read_apply, View.read_apply]
  congr 2
  funext a
  apply Fin.ext
  have h' := congrFun h a
  blk_simp
  rw [h']

/-- The point before. -/
abbrev prev (t : Fin cfg0.N) : Fin cfg0.N := ⟨t.val - 1, Nat.lt_of_le_of_lt (Nat.sub_le _ _) t.isLt⟩

/-- Within a block of rows the normed rows stay. -/
theorem nrm_prev (c : Dev nD) (t : Fin cfg0.N) (h : t.val % 9 ≠ 0) : nrmAt m c (prev t) = nrmAt m c t := by
  have e : (prev t).val / 9 = t.val / 9 := by dsimp only; omega
  unfold nrmAt
  rw [X0_congr m c (t := prev t) (t' := t) (by rw [index_rows, index_rows, e]), X1_congr m c (t := prev t) (t' := t) (by rw [index_gain, index_gain])]

/-- Within the last five points of a block of rows the first result's columns stay. -/
theorem X2_prev (c : Dev nD) (t : Fin cfg0.N) (h : ¬ t.val % 9 < 5) : X2 m c (prev t) = X2 m c t :=
  X2_congr m c (by rw [index_wa, index_wa, show min ((prev t).val % 9) 4 = min (t.val % 9) 4 from by dsimp only; omega])

/-- The invariant before position `n`: at first the launch's, then the scratch at the normed rows of the point before. -/
def Phi (c : Dev nD) : (n : ℕ) → n ≤ cfg0.N → sProp 𝕄
  | 0, _ => Pipeline.ΦA spec0 c
  | n + 1, hn => iprop(owns (c : Thread nD τ) scM fullShare (nrmAt m c ⟨n, hn⟩) ∗ (∃ r, prngReg c r))

/-- Before a point that is not the first. -/
theorem Phi_pos (c : Dev nD) (t : Fin cfg0.N) (hz : t.val ≠ 0) :
    Phi m c t.val (Nat.le_of_lt t.isLt) = iprop(owns (c : Thread nD τ) scM fullShare (nrmAt m c (prev t)) ∗ (∃ r, prngReg c r)) := by
  obtain ⟨n, hn⟩ := t
  cases n with
  | zero => exact absurd rfl hz
  | succ n => rfl

/-- At any position the scratch is at something. -/
theorem Phi_any (c : Dev nD) (n : ℕ) (h : n ≤ cfg0.N) : Phi m c n h ⊢ iprop((∃ d, owns (c : Thread nD τ) scM fullShare d) ∗ (∃ r, prngReg c r)) := by
  cases n with
  | zero => rw [show Phi m c 0 h = Pipeline.ΦA spec0 c from rfl, PhiA_eq]
  | succ n =>
    rw [show Phi m c (n + 1) h = iprop(owns (c : Thread nD τ) scM fullShare (nrmAt m c ⟨n, h⟩) ∗ (∃ r, prngReg c r)) from rfl]
    iintro ⟨HS, Hg⟩
    isplitl [HS]; · iexists _; iexact HS
    iexact Hg

/-- The pipeline's data: the inputs' buffers at their blocks, the results' at the two products, at every point. At the last four points
    of a block of rows the first product is the one of the fifth, which the buffer keeps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (nrmAt m c t) (X2 m c t)
    | ⟨5, _⟩ => k0_pay3 (nrmAt m c t) (X3 m c t)
  Φ t := Phi m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by dsimp only [dats]
/-- What the body leaves in the rows' buffer. -/
theorem after_0 (c : Dev nD) (t : Fin cfg0.N) : (dats m 0 c).after 0 t = iblk m c 0 t := by dsimp only [dats]
/-- In the gain's. -/
theorem after_1 (c : Dev nD) (t : Fin cfg0.N) : (dats m 0 c).after 1 t = iblk m c 1 t := by dsimp only [dats]
/-- In the first columns'. -/
theorem after_2 (c : Dev nD) (t : Fin cfg0.N) : (dats m 0 c).after 2 t = iblk m c 2 t := by dsimp only [dats]
/-- In the second columns'. -/
theorem after_3 (c : Dev nD) (t : Fin cfg0.N) : (dats m 0 c).after 3 t = iblk m c 3 t := by dsimp only [dats]
/-- In the first result's. -/
theorem after_4 (c : Dev nD) (t : Fin cfg0.N) : (dats m 0 c).after 4 t = k0_pay2 (nrmAt m c t) (X2 m c t) := by dsimp only [dats]
/-- In the second result's. -/
theorem after_5 (c : Dev nD) (t : Fin cfg0.N) : (dats m 0 c).after 5 t = k0_pay3 (nrmAt m c t) (X3 m c t) := by dsimp only [dats]

/-- Where the first result's buffer holds nothing of use: at the first five points of a block of rows. -/
theorem fresh_iff (n : ℕ) (h : n ≤ cfg0.N) : cfg0.fresh 4 n = decide (n % 9 < 5) :=
  Pipeline.Cfg.fresh_tab cfg0 4 (fun n => decide (n % 9 < 5)) rfl (by decide +kernel) n h

/-- Where the first result is idle. -/
theorem idle_4 : ∀ t : Fin cfg0.N, cfg0.idle 4 (cfg0.grid.coords t) = decide (¬ t.val % 9 < 5) := by decide +kernel
/-- Where the second one is. -/
theorem idle_5 : ∀ t : Fin cfg0.N, cfg0.idle 5 (cfg0.grid.coords t) = decide (t.val % 9 < 5) := by decide +kernel
/-- Where the second result is idle it is not written back. -/
theorem keep_5 : ∀ t : Fin cfg0.N, t.val % 9 < 5 → (cfg0.win 5).flush t = false := by decide +kernel

/-- At the last four points of a block of rows the first result's buffer already holds its product. -/
theorem before_4 (c : Dev nD) (t : Fin cfg0.N) (h : ¬ t.val % 9 < 5) (d) : (dats m 0 c).before 4 t d = (dats m 0 c).after 4 t := by
  have hc : ∀ t : Fin cfg0.N, ¬ t.val % 9 < 5 → (dats m 0 c).after 4 t = (dats m 0 c).after 4 (prev t) := fun t h => by
    rw [after_4, after_4, nrm_prev m c t (by omega), X2_prev m c t h]
  refine ((dats m 0 c).before_out_traj 4 rfl (fun _ _ => rfl) (fun t _ hi _ => hc t (by rw [idle_4] at hi; exact of_decide_eq_true hi)) t.val t rfl d).trans ?_
  rw [fresh_iff _ (Nat.le_of_lt t.isLt), decide_eq_false h, if_neg Bool.false_ne_true]
  exact (hc t h).symm

/-! ## The body at a point -/

/-- The first result's buffer may be handed back as it was found at the last four points. -/
theorem leaves_4 (c : Dev nD) (t : Fin cfg0.N) (h : ¬ t.val % 9 < 5) (d) :
    owns (c : Thread nD τ) ((cfg0.win 4).stage (cfg0.slots t 4)) fullShare ((dats m 0 c).before 4 t d) ⊢ ((dats m 0 c).leavesExact 4 t : sProp 𝕄) := by
  unfold Dat.leavesExact
  rw [idle_4, decide_eq_true h]
  cases (cfg0.win 4).flush t
  · iintro H; iexists d; iexact H
  · rw [before_4 m c t h d]

/-- A window that is not idle ends at its contents. -/
theorem leaves_live (c : Dev nD) (w : Fin cfg0.W) (t : Fin cfg0.N) (h : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [h]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The invariant at a point's start. -/
theorem Phi_start (c : Dev nD) (t : Fin cfg0.N) : (dats m 0 c).Φ t.castSucc = Phi m c t.val (Nat.le_of_lt t.isLt) := by
  dsimp only [dats]; exact Pipeline.Dat.Φ_castSucc (Phi m c) t

set_option maxHeartbeats 3200000 in
/-- The body at any point, by the three kinds. -/
theorem sound (c : Dev nD) (t : Fin cfg0.N) :
    bodyPre m c t ⊢ wp frame (wpE (defs₀ (F := F)) Variants.none c none) Set.univ (bodyAt0 t) (fun _ => bodyPost m c t) := by
  have b0 := before0_0_of m (dats m 0 c) (A_eq m c 0) (after_0 m c) t
  have b1 := before0_1_of m (dats m 0 c) (A_eq m c 1) (after_1 m c) t
  have b2 := before0_2_of m (dats m 0 c) (A_eq m c 2) (after_2 m c) t
  have b3 := before0_3_of m (dats m 0 c) (A_eq m c 3) (after_3 m c) t
  unfold bodyPre bodyPost bodyAt0
  simp only [b0, b1, b2, b3]
  rw [show (dats m 0 c).owesAt () t.succ = (dats m 0 c).owesAt () t.castSucc from rfl, Phi_start,
    show (dats m 0 c).Φ t.succ = iprop(owns (c : Thread nD τ) scM fullShare (nrmAt m c t) ∗ (∃ r, prngReg c r)) from rfl,
    leaves_live m c 0 t rfl, leaves_live m c 1 t rfl, leaves_live m c 2 t rfl, leaves_live m c 3 t rfl, after_0, after_1, after_2, after_3]
  by_cases h5 : t.val % 9 < 5
  · have i4 : cfg0.idle 4 (cfg0.grid.coords t) = false := by rw [idle_4]; exact decide_eq_false (not_not.mpr h5)
    have i5 : cfg0.idle 5 (cfg0.grid.coords t) = true := by rw [idle_5]; exact decide_eq_true h5
    rw [leaves_live m c 4 t i4, after_4, Dat.leavesExact_idle (dats m 0 c) 5 t i5 (keep_5 t h5)]
    by_cases h0 : t.val % 9 = 0
    · iintro ⟨HP, Ho, ⟨%d0, H0⟩, ⟨%d1, H1⟩, ⟨%d2, H2⟩, ⟨%d3, H3⟩, ⟨%d4, H4⟩, ⟨%d5, H5⟩⟩
      ihave HP := (Phi_any m c t.val (Nat.le_of_lt t.isLt)) $$ HP
      icases HP with ⟨HS, Hg⟩
      iapply (body_first c (grid0.coords t) _ _ _ _ _ _ _ _ _ _ _ _ _ _ ((c1_iff t).mpr h0) ((c2_iff t).mpr h5) (fun h => (c3_iff t).mp h h5) (X0 m c t) (X1 m c t) (X2 m c t) (X3 m c t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_pos m c t (by omega), nrm_prev m c t h0]
      iintro ⟨⟨HS, Hg⟩, Ho, ⟨%d0, H0⟩, ⟨%d1, H1⟩, ⟨%d2, H2⟩, ⟨%d3, H3⟩, ⟨%d4, H4⟩, ⟨%d5, H5⟩⟩
      iapply (body_mid c (grid0.coords t) _ _ _ _ _ _ _ _ _ _ _ _ _ _ (fun h => h0 ((c1_iff t).mp h)) ((c2_iff t).mpr h5) (fun h => (c3_iff t).mp h h5) (X0 m c t) (X1 m c t) (X2 m c t) (X3 m c t) _ (nrmAt m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have i5 : cfg0.idle 5 (cfg0.grid.coords t) = false := by rw [idle_5]; exact decide_eq_false h5
    rw [leaves_live m c 5 t i5, after_5, Phi_pos m c t (by omega), nrm_prev m c t (by omega)]
    iintro ⟨⟨HS, Hg⟩, Ho, ⟨%d0, H0⟩, ⟨%d1, H1⟩, ⟨%d2, H2⟩, ⟨%d3, H3⟩, ⟨%d4, H4⟩, ⟨%d5, H5⟩⟩
    iapply (body_last c (grid0.coords t) _ _ _ _ _ _ _ _ _ _ _ _ _ _ (fun h => h5 (by have := (c1_iff t).mp h; omega)) (fun h => h5 ((c2_iff t).mp h)) ((c3_iff t).mpr h5) (X0 m c t) (X1 m c t) (X2 m c t) (X3 m c t) ((dats m 0 c).before 4 t d4) (nrmAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (leaves_4 m c t h5 d4); iexact H4
    iexact H5

/-- The pipeline's call at a point is the body there. -/
theorem row (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- The launch hands over the invariant before the first point. -/
theorem enter (c : Dev nD) : Pipeline.ΦA spec0 c ⊢ (dats m 0 c).Φ 0 := by
  rw [show (dats m 0 c).Φ 0 = Pipeline.ΦA spec0 c from rfl]

/-- And takes back the one after the last. -/
theorem leave (c : Dev nD) : (dats m 0 c).Φ (Fin.last cfg0.N) ⊢ Pipeline.ΦA spec0 c := by
  rw [PhiA_eq]
  exact (show (dats m 0 c).Φ (Fin.last cfg0.N) = Phi m c cfg0.N le_rfl from rfl) ▸ Phi_any m c cfg0.N le_rfl

/-! ## The run -/

set_option backward.isDefEq.respectTransparency.types false in
/-- The run with every semaphore at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The run. -/
theorem run : θ_run defs (onTc (τ := τ) (main (F := F))) (s₀ m ρ) (Pipeline.FramePost cfgs (dats m) 0 (V m)) :=
  (θ_run defs _ _).mono (fun _ h => h.1) (run_quiet m ρ)

/-- The frame: the arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.ProjIdeal.Run
end
-- ==== Proof.ProjRun.lean ====
module

public import proofs.«01_k».proof.Defs
public import proofs.«01_k».proof.Proof.Gen.Proj
public import proofs.«01_k».proof.Proof.ProjRunIdeal

/-! # The input projection: the frame of the program in bits

The program and its idealization have the same text, so the one run, stated for any floats, serves both. -/

@[expose] public section

noncomputable section

namespace Cert.Proj.Run

open Idealize.ShloMosaic Idealize.ShloMosaic.TcCoe Idealize.SL.Sem

attribute [local instance] Cert.Proj.Gen.facts Cert.ProjIdeal.Gen.facts

set_option backward.isDefEq.respectTransparency.types false

variable {F : FTy → Type} [FloatOps F]

/-- The two programs' kernels are the same. -/
theorem kernels_eq : Cert.Proj.defs₀ (F := F) = Cert.ProjIdeal.defs₀ (F := F) := by
  unfold Cert.Proj.defs₀ Cert.ProjIdeal.defs₀
  refine congrArg Defs.onTc ?_
  funext l a
  match l with
  | (0 : Fin 1) => rfl

/-- So are their pipelines. -/
theorem defs_eq : Cert.Proj.defs (F := F) = Cert.ProjIdeal.defs (F := F) := congrArg (Pipeline.defs Cert.ProjIdeal.pcfgs) kernels_eq

/-- The program runs, leaves its arguments as they were and every counter at zero. -/
theorem frame_proj : Cert.quiescent_Proj := fun m ρ _ => by
  have h := Cert.ProjIdeal.Run.frame (F := Bits) m ρ
  rw [← defs_eq] at h
  exact h

end Cert.Proj.Run
end
-- ==== Proof.ProjValue.lean ====
module

public import proofs.«01_k».proof.Proof.ProjRunIdeal
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The input projection: what the kernel leaves

A block of 2048 rows is met at nine points. The first norms the rows into a scratch; the first five multiply them with
the five blocks of the first weights, the last four with the four blocks of the second. Both weights are columns of one
array, put in another order on the host. -/

@[expose] public section

set_option maxRecDepth 16384

noncomputable section

namespace Cert.ProjIdeal.Val

open Idealize.ShloMosaic Idealize.ShloMosaic.TcCoe Idealize.SL.Sem Cert.ProjIdeal Cert.ProjIdeal.Gen Cert.ProjIdeal.Run

variable (m : (ℓ : Loc nD τ sig) → Buf (Elt Ideal) ℓ)

/-- A block's coordinate on an axis, from its block index there. -/
theorem ax {z w n a r : ℕ} (h : z = w) (g : w * n + a = r) : z * n + a = r := h ▸ g

/-- The same where the block index is zero. -/
theorem ax0 {z w a r : ℕ} (h : z = w) (g : w + a = r) : z + a = r := h ▸ g

abbrev A0 : S32768x1024.Idx → EReal := m (((0 : Dev nD).tc : Thread nD τ).loc main_arg0)
abbrev A1 : S1024.Idx → EReal := m (((0 : Dev nD).tc : Thread nD τ).loc main_arg1)
abbrev A2 : S1024x7176.Idx → EReal := m (((0 : Dev nD).tc : Thread nD τ).loc main_arg2)

/-- The column of the weights that the first result's column `j` comes from. -/
def srcA (j : Fin 3200) : Fin 7176 := ⟨if j.val < 1024 then j.val else j.val + 512, by have := j.isLt; split <;> omega⟩

/-- The column of the weights that the second result's column `j` comes from. -/
def srcB (j : Fin 4096) : Fin 7176 := ⟨if j.val < 512 then j.val + 1024 else j.val + 3080, by have := j.isLt; split <;> omega⟩

/-- The columns of the weights for the first result, zero past the last. -/
def colA (w : S1024x7176.Idx → EReal) (k : Fin 1024) (j : Fin 3200) : EReal := if j.val < 3080 then w (ix2 k (srcA j)) else 0

/-- A column of the first weights, by its number. -/
theorem colA_of (w : S1024x7176.Idx → EReal) (k : Fin 1024) (j : Fin 3200) (q : Fin 7176) (hj : j.val < 3080)
    (hq : q.val = if j.val < 1024 then j.val else j.val + 512) : w (ix2 k q) = colA w k j := by
  rw [colA, if_pos hj]
  exact congrArg (fun q => w (ix2 k q)) (Fin.ext hq)

/-- The columns past the last are zero. -/
theorem colA_rest (w : S1024x7176.Idx → EReal) (k : Fin 1024) (j : Fin 3200) (hj : ¬ j.val < 3080) : (0 : EReal) = colA w k j := by
  rw [colA, if_neg hj]

/-- A column of the second weights, by its number. -/
theorem colB_of (w : S1024x7176.Idx → EReal) (k : Fin 1024) (j : Fin 4096) (q : Fin 7176)
    (hq : q.val = if j.val < 512 then j.val + 1024 else j.val + 3080) : w (ix2 k q) = w (ix2 k (srcB j)) :=
  congrArg (fun q => w (ix2 k q)) (Fin.ext hq)

/-- The scale reaches the call as a single row. -/
theorem V_v19 (k : Fin 1024) : (V m 0 main_v19 : S1x1024.Idx → EReal) (ix2 0 k) = A1 m (ix1 k) := by
  unfold V
  after_reads_at

/-- The second weights are columns of the argument. -/
theorem V_v18 (k : Fin 1024) (j : Fin 4096) : (V m 0 main_v18 : S1024x4096.Idx → EReal) (ix2 k j) = A2 m (ix2 k (srcB j)) := by
  unfold V
  after_reads_at
  split
  · after_reads_at
    exact colB_of (A2 m) k j _ (by dsimp only; split <;> omega)
  split
  · after_reads_at
    exact colB_of (A2 m) k j _ (by dsimp only; split <;> omega)
  split
  · after_reads_at
    exact colB_of (A2 m) k j _ (by dsimp only; split <;> omega)
  split
  · after_reads_at
    exact colB_of (A2 m) k j _ (by dsimp only; split <;> omega)
  · after_reads_at
    exact colB_of (A2 m) k j _ (by dsimp only; split <;> omega)

/-- The first weights are columns of the argument and then zeros. -/
theorem V_v17 (k : Fin 1024) (j : Fin 3200) : (V m 0 main_v17 : S1024x3200.Idx → EReal) (ix2 k j) = colA (A2 m) k j := by
  unfold V
  after_reads_at
  iterate 6
    split
    · after_reads_at
      exact colA_of (A2 m) k j _ (by omega) (by dsimp only; split <;> omega)
  after_reads_at
  split
  · split
    · after_reads_at
      exact colA_of (A2 m) k j _ (by omega) (by dsimp only; split <;> omega)
    · after_reads_at
      exact colA_of (A2 m) k j _ (by omega) (by dsimp only; split <;> omega)
  · refine Eq.trans ?_ (colA_rest (A2 m) k j (by omega))
    pointwise
    show ((((0#32 : BitVec 32).toInt : ℤ) : ℝ) : EReal) = 0
    simp

/-- The rows of the point's block. -/
theorem X0_at (t : Fin grid0.N) (r : Fin 32768) (a : Fin 2048) (k : Fin 1024) (hr : r.val = t.val / 9 * 2048 + a.val) :
    X0 m 0 t (ix2 a k) = A0 m (ix2 r k) := by
  show V m 0 main_arg0 (((cfg0.win 0).blk t).view.emb (ix2 a k)) = _
  rw [V_main_arg0]
  have i0 : (cfg0.win 0).index t 0 = t.val / 9 := congrFun (index_rows t) 0
  have i1 : (cfg0.win 0).index t 1 = 0 := congrFun (index_rows t) 1
  blk_ext []
  · exact ax i0 (by omega)
  · exact ax0 i1 (by omega)

/-- The scale. -/
theorem X1_at (t : Fin grid0.N) (k : Fin 1024) : X1 m 0 t (ix2 0 k) = A1 m (ix1 k) := by
  show V m 0 main_v19 (((cfg0.win 1).blk t).view.emb (ix2 0 k)) = _
  refine Eq.trans ?_ (V_v19 m k)
  have i1 : (cfg0.win 1).index t 1 = 0 := rfl
  blk_ext []
  · rfl
  · exact ax0 i1 (Nat.zero_add _)

/-- The first weights' block. -/
theorem X2_at (t : Fin grid0.N) (k : Fin 1024) (b : Fin 640) (j : Fin 3200) (hj : j.val = min (t.val % 9) 4 * 640 + b.val) :
    X2 m 0 t (ix2 k b) = colA (A2 m) k j := by
  show V m 0 main_v17 (((cfg0.win 2).blk t).view.emb (ix2 k b)) = _
  refine Eq.trans ?_ (V_v17 m k j)
  have i0 : (cfg0.win 2).index t 0 = 0 := congrFun (index_wa t) 0
  have i1 : (cfg0.win 2).index t 1 = min (t.val % 9) 4 := congrFun (index_wa t) 1
  blk_ext []
  · exact ax0 i0 (by omega)
  · exact ax i1 (by omega)

/-- The second weights' block. -/
theorem X3_at (t : Fin grid0.N) (k : Fin 1024) (b : Fin 1024) (j : Fin 4096) (hj : j.val = (t.val % 9 - 5) * 1024 + b.val) :
    X3 m 0 t (ix2 k b) = A2 m (ix2 k (srcB j)) := by
  show V m 0 main_v18 (((cfg0.win 3).blk t).view.emb (ix2 k b)) = _
  refine Eq.trans ?_ (V_v18 m k j)
  have i0 : (cfg0.win 3).index t 0 = 0 := congrFun (index_wb t) 0
  have i1 : (cfg0.win 3).index t 1 = t.val % 9 - 5 := congrFun (index_wb t) 1
  blk_ext []
  · exact ax0 i0 (by omega)
  · exact ax i1 (by omega)

/-- The normed row `r` at the feature `k`. -/
def nrm (x : S32768x1024.Idx → EReal) (g : S1024.Idx → EReal) (r : Fin 32768) (k : Fin 1024) : EReal :=
  x (ix2 r k) * Ideal.rsqrt (Ideal.div (∑ j : Fin 1024, x (ix2 r j) * x (ix2 r j)) (Ideal.ofBits FTy.f32 1149239296#32) + Ideal.ofBits FTy.f32 897988541#32) * g (ix1 k)

/-- The first result at the row `r` and the column `j`. -/
def projA (x : S32768x1024.Idx → EReal) (g : S1024.Idx → EReal) (w : S1024x7176.Idx → EReal) (r : Fin 32768) (j : Fin 3200) : EReal :=
  ∑ k : Fin 1024, nrm x g r k * colA w k j

/-- The second result at the row `r` and the column `j`. -/
def projB (x : S32768x1024.Idx → EReal) (g : S1024.Idx → EReal) (w : S1024x7176.Idx → EReal) (r : Fin 32768) (j : Fin 4096) : EReal :=
  ∑ k : Fin 1024, nrm x g r k * w (ix2 k (srcB j))

/-- The norm of a block of rows. -/
theorem pay1_at (x : FVec Ideal S2048x1024 .f32) (g : FVec Ideal S1x1024 .f32) (a : Fin 2048) (b : Fin 1024) :
    (k0_pay1 x g : FVec Ideal S2048x1024 .bf16) (ix2 a b) = x (ix2 a b) * Ideal.rsqrt (Ideal.div (∑ j : Fin 1024, x (ix2 a j) * x (ix2 a j)) (Ideal.ofBits FTy.f32 1149239296#32) + Ideal.ofBits FTy.f32 897988541#32) * g (ix2 0 b) := by
  unfold k0_pay1; pointwise

/-- A block of the first result. -/
theorem pay2_at (h : FVec Ideal S2048x1024 .bf16) (w : FVec Ideal S1024x640 .bf16) (a : Fin 2048) (b : Fin 640) :
    (k0_pay2 h w : FVec Ideal S2048x640 .f32) (ix2 a b) = ∑ k : Fin 1024, h (ix2 a k) * w (ix2 k b) := by
  unfold k0_pay2; pointwise

/-- A block of the second result. -/
theorem pay3_at (h : FVec Ideal S2048x1024 .bf16) (w : FVec Ideal S1024x1024 .bf16) (a : Fin 2048) (b : Fin 1024) :
    (k0_pay3 h w : FVec Ideal S2048x1024 .bf16) (ix2 a b) = ∑ k : Fin 1024, h (ix2 a k) * w (ix2 k b) := by
  unfold k0_pay3; pointwise

/-- The normed rows of the point's block. -/
theorem nrm_at (t : Fin grid0.N) (r : Fin 32768) (a : Fin 2048) (k : Fin 1024) (hr : r.val = t.val / 9 * 2048 + a.val) :
    (nrmAt m 0 t : FVec Ideal S2048x1024 .bf16) (ix2 a k) = nrm (A0 m) (A1 m) r k := by
  have hx : ∀ k, X0 m 0 t (ix2 a k) = A0 m (ix2 r k) := fun k => X0_at m t r a k hr
  have hg : ∀ k, X1 m 0 t (ix2 0 k) = A1 m (ix1 k) := X1_at m t
  refine (pay1_at _ _ a k).trans ?_
  unfold nrm
  simp only [hx, hg]

/-- The blocks of the first result that are written back cover it. -/
theorem coversA : (cfg0.win 4).Covers := by decide +kernel

/-- So do those of the second. -/
theorem coversB : (cfg0.win 5).Covers := by decide +kernel

/-- Where the first result's blocks lie. -/
theorem index_outA : ∀ t, (cfg0.win 4).index t = ![t.val / 9, min (t.val % 9) 4] := by decide +kernel

/-- Where the second's do. -/
theorem index_outB : ∀ t, (cfg0.win 5).index t = ![t.val / 9, t.val % 9 - 5] := by decide +kernel

/-- The first result after the run. -/
theorem finalA : (dats m 0 0).arrAt 4 cfg0.N = fun i : S32768x3200.Idx => projA (A0 m) (A1 m) (A2 m) (i 0) (i 1) := by
  refine (dats m 0 0).arrAt_eq_of_covers 4 _ coversA fun t hf y => ?_
  have i0 : (cfg0.win 4).index t 0 = t.val / 9 := congrFun (index_outA t) 0
  have i1 : (cfg0.win 4).index t 1 = min (t.val % 9) 4 := congrFun (index_outA t) 1
  blk_simp
  rw [after_4]
  obtain ⟨a, b, rfl⟩ : ∃ (a : Fin 2048) (b : Fin 640), y = ix2 a b := ⟨y (0 : Fin 2), y (1 : Fin 2), by funext k; fin_cases k <;> rfl⟩
  have e0 : (((cfg0.win 4).blk t).view.emb (ix2 a b) (0 : Fin 2)).val = t.val / 9 * 2048 + a.val := by blk_simp; exact ax i0 rfl
  have e1 : (((cfg0.win 4).blk t).view.emb (ix2 a b) (1 : Fin 2)).val = min (t.val % 9) 4 * 640 + b.val := by blk_simp; exact ax i1 rfl
  refine (pay2_at _ _ a b).trans (Finset.sum_congr rfl fun k _ => ?_)
  exact congr (congrArg _ (nrm_at m t _ a k e0)) (X2_at m t k b _ e1)

/-- The second result after the run. -/
theorem finalB : (dats m 0 0).arrAt 5 cfg0.N = fun i : S32768x4096.Idx => projB (A0 m) (A1 m) (A2 m) (i 0) (i 1) := by
  refine (dats m 0 0).arrAt_eq_of_covers 5 _ coversB fun t hf y => ?_
  have i0 : (cfg0.win 5).index t 0 = t.val / 9 := congrFun (index_outB t) 0
  have i1 : (cfg0.win 5).index t 1 = t.val % 9 - 5 := congrFun (index_outB t) 1
  blk_simp
  rw [after_5]
  obtain ⟨a, b, rfl⟩ : ∃ (a : Fin 2048) (b : Fin 1024), y = ix2 a b := ⟨y (0 : Fin 2), y (1 : Fin 2), by funext k; fin_cases k <;> rfl⟩
  have e0 : (((cfg0.win 5).blk t).view.emb (ix2 a b) (0 : Fin 2)).val = t.val / 9 * 2048 + a.val := by blk_simp; exact ax i0 rfl
  have e1 : (((cfg0.win 5).blk t).view.emb (ix2 a b) (1 : Fin 2)).val = (t.val % 9 - 5) * 1024 + b.val := by blk_simp; exact ax i1 rfl
  refine (pay3_at _ _ a b).trans (Finset.sum_congr rfl fun k _ => ?_)
  exact congr (congrArg _ (nrm_at m t _ a k e0)) (X3_at m t k b _ e1)

end Cert.ProjIdeal.Val
end
-- ==== Proof.ProjRef.lean ====
module

public import proofs.«01_k».proof.Proof.Gen.ProjRefIdeal.Run
public import proofs.«01_k».proof.Proof.Gen.ProjRefIdeal.Read
public import proofs.«01_k».proof.Proof.ProjValue

/-! # The reference of the input projection, at one row and one column -/

@[expose] public section

set_option maxRecDepth 16384

noncomputable section

namespace Cert.ProjRefIdeal.Val

open Idealize.ShloMosaic Idealize.ShloMosaic.TcCoe Idealize.SL.Sem Cert.ProjRefIdeal Cert.ProjRefIdeal.Gen
open Cert.ProjIdeal.Val (projA projB colA colA_of colA_rest colB_of srcB nrm)

/-- The reference's product at the row `r` and the column `q` of the weights. -/
theorem product_at (x0 : FVec Ideal S32768x1024 .f32) (x1 : FVec Ideal S1024 .f32) (x2 : FVec Ideal S1024x7176 .f32) (r : Fin 32768) (q : Fin 7176) :
    (Read.val_main_v13 (F := Ideal) x0 x1 x2 : FVec Ideal S32768x7176 .f32) (ix2 r q) = ∑ k : Fin 1024, nrm x0 x1 r k * x2 (ix2 k q) := by
  unfold nrm
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_cst, Read.val_main_cst_0, Read.val_main_cst_1]

/-- A part of the first result. -/
theorem partA (x0 : FVec Ideal S32768x1024 .f32) (x1 : FVec Ideal S1024 .f32) (x2 : FVec Ideal S1024x7176 .f32) (r : Fin 32768) (j : Fin 3200) (q : Fin 7176)
    (hj : j.val < 3080) (hq : q.val = if j.val < 1024 then j.val else j.val + 512) :
    (Read.val_main_v13 (F := Ideal) x0 x1 x2 : FVec Ideal S32768x7176 .f32) (ix2 r q) = projA x0 x1 x2 r j :=
  (product_at x0 x1 x2 r q).trans (Finset.sum_congr rfl fun k _ => congrArg _ (colA_of x2 k j q hj hq))

/-- A part of the second result. -/
theorem partB (x0 : FVec Ideal S32768x1024 .f32) (x1 : FVec Ideal S1024 .f32) (x2 : FVec Ideal S1024x7176 .f32) (r : Fin 32768) (j : Fin 4096) (q : Fin 7176)
    (hq : q.val = if j.val < 512 then j.val + 1024 else j.val + 3080) :
    (Read.val_main_v13 (F := Ideal) x0 x1 x2 : FVec Ideal S32768x7176 .f32) (ix2 r q) = projB x0 x1 x2 r j :=
  (product_at x0 x1 x2 r q).trans (Finset.sum_congr rfl fun k _ => congrArg _ (colB_of x2 k j q hq))

/-- The reference's first result. -/
theorem ref_a (x0 : FVec Ideal S32768x1024 .f32) (x1 : FVec Ideal S1024 .f32) (x2 : FVec Ideal S1024x7176 .f32) (r : Fin 32768) (j : Fin 3200) :
    (Read.val_main_v28 (F := Ideal) x0 x1 x2 : FVec Ideal S32768x3200 .f32) (ix2 r j) = projA x0 x1 x2 r j := by
  unfold Read.val_main_v28
  pointwise
  split
  · unfold Read.val_main_v14
    pointwise
    exact partA x0 x1 x2 r j _ (by omega) (by dsimp only; split <;> omega)
  split
  · unfold Read.val_main_v15
    pointwise
    exact partA x0 x1 x2 r j _ (by omega) (by dsimp only; split <;> omega)
  split
  · unfold Read.val_main_v17
    pointwise
    exact partA x0 x1 x2 r j _ (by omega) (by dsimp only; split <;> omega)
  split
  · unfold Read.val_main_v18
    pointwise
    exact partA x0 x1 x2 r j _ (by omega) (by dsimp only; split <;> omega)
  split
  · unfold Read.val_main_v19
    pointwise
    exact partA x0 x1 x2 r j _ (by omega) (by dsimp only; split <;> omega)
  split
  · unfold Read.val_main_v20
    pointwise
    exact partA x0 x1 x2 r j _ (by omega) (by dsimp only; split <;> omega)
  split
  · unfold Read.val_main_v21
    pointwise
    exact partA x0 x1 x2 r j _ (by omega) (by dsimp only; split <;> omega)
  split
  · unfold Read.val_main_v22
    pointwise
    exact partA x0 x1 x2 r j _ (by omega) (by dsimp only; split <;> omega)
  unfold Read.val_main_v27 Read.val_main_cst_2
  pointwise
  exact (Finset.sum_eq_zero fun k _ => by rw [← colA_rest x2 k j (by omega), mul_zero]).symm

/-- The reference's second result. -/
theorem ref_b (x0 : FVec Ideal S32768x1024 .f32) (x1 : FVec Ideal S1024 .f32) (x2 : FVec Ideal S1024x7176 .f32) (r : Fin 32768) (j : Fin 4096) :
    (Read.val_main_v30 (F := Ideal) x0 x1 x2 : FVec Ideal S32768x4096 .bf16) (ix2 r j) = projB x0 x1 x2 r j := by
  rw [Read.val_main_v30_apply]
  unfold Read.val_main_v29
  pointwise
  split
  · unfold Read.val_main_v16
    pointwise
    exact partB x0 x1 x2 r j _ (by dsimp only; split <;> omega)
  split
  · unfold Read.val_main_v23
    pointwise
    exact partB x0 x1 x2 r j _ (by dsimp only; split <;> omega)
  split
  · unfold Read.val_main_v24
    pointwise
    exact partB x0 x1 x2 r j _ (by dsimp only; split <;> omega)
  split
  · unfold Read.val_main_v25
    pointwise
    exact partB x0 x1 x2 r j _ (by dsimp only; split <;> omega)
  · unfold Read.val_main_v26
    pointwise
    exact partB x0 x1 x2 r j _ (by dsimp only; split <;> omega)

end Cert.ProjRefIdeal.Val
end
-- ==== Proof.MemoryValue.lean ====
module

public import proofs.«01_k».proof.Proof.Gen.MemoryIdeal.Frame
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The norm and projection of the memory: what the kernel leaves

Each of the four points norms 512 rows into a scratch and multiplies them by the whole matrix of weights. -/

@[expose] public section

set_option maxRecDepth 16384

noncomputable section

namespace Cert.MemoryIdeal.Val

open Idealize.ShloMosaic Idealize.ShloMosaic.TcCoe Idealize.SL.Sem Cert.MemoryIdeal Cert.MemoryIdeal.Gen

variable (m : (ℓ : Loc nD τ sig) → Buf (Elt Ideal) ℓ)

/-- The blocks of rows, and of the result: block `t` at the point `t`. -/
theorem rows_index : ∀ t : Fin grid0.N, cc0_transform_0 (grid0.coords t) = ![t.val, 0] := by decide +kernel

/-- The weights are one block. -/
theorem weights_index : ∀ t : Fin grid0.N, cc0_transform_2 (grid0.coords t) = ![0, 0] := by decide +kernel

/-- The result's blocks. -/
theorem result_index : ∀ t : Fin grid0.N, cc0_transform_3 (grid0.coords t) = ![t.val, 0] := by decide +kernel

/-- A block's coordinate on an axis, from its block index there. -/
theorem ax {z w n a r : ℕ} (h : z = w) (g : w * n + a = r) : z * n + a = r := h ▸ g

/-- The same where the block's extent is one, or its index zero. -/
theorem ax0 {z w a r : ℕ} (h : z = w) (g : w + a = r) : z + a = r := h ▸ g

abbrev A0 : S2048x1024.Idx → EReal := m (((0 : Dev nD).tc : Thread nD τ).loc main_arg0)
abbrev A1 : S1024.Idx → EReal := m (((0 : Dev nD).tc : Thread nD τ).loc main_arg1)
abbrev A2 : S1024x512.Idx → EReal := m (((0 : Dev nD).tc : Thread nD τ).loc main_arg2)

/-- The blocks the body reads at the point `t`, at their literal shapes, and the block it leaves. -/
def B0 (t : Fin grid0.N) : FVec Ideal S512x1024 .f32 := iblk m 0 0 t
def B1 (t : Fin grid0.N) : FVec Ideal S1x1024 .f32 := iblk m 0 1 t
def B2 (t : Fin grid0.N) : FVec Ideal S1024x512 .bf16 := iblk m 0 2 t
def resAt (t : Fin grid0.N) : FVec Ideal S512x512 .bf16 := outsAt0 m 0 t

/-- The weights reach the call as they are: the change of format is the identity here. -/
theorem V_v0 (i : S1024x512.Idx) : (V m 0 main_v0 : S1024x512.Idx → EReal) i = A2 m i := by
  unfold V
  after_reads_at

/-- The scale reaches it as a single row. -/
theorem V_v1 (k : Fin 1024) : (V m 0 main_v1 : S1x1024.Idx → EReal) (ix2 0 k) = A1 m (ix1 k) := by
  unfold V
  after_reads_at

/-- The rows of the point's block. -/
theorem B0_at (t : Fin grid0.N) (r : Fin 2048) (a : Fin 512) (k : Fin 1024) (hr : r.val = t.val * 512 + a.val) :
    B0 m t (ix2 a k) = A0 m (ix2 r k) := by
  show V m 0 main_arg0 (((cfg0.win 0).blk t).view.emb (ix2 a k)) = _
  rw [V_main_arg0]
  have i0 : (cfg0.win 0).index t 0 = t.val := congrFun (rows_index t) 0
  have i1 : (cfg0.win 0).index t 1 = 0 := congrFun (rows_index t) 1
  blk_ext []
  · exact ax i0 (by omega)
  · exact ax0 i1 (by omega)

/-- The scale. -/
theorem B1_at (t : Fin grid0.N) (k : Fin 1024) : B1 m t (ix2 0 k) = A1 m (ix1 k) := by
  show V m 0 main_v1 (((cfg0.win 1).blk t).view.emb (ix2 0 k)) = _
  refine Eq.trans ?_ (V_v1 m k)
  have i1 : (cfg0.win 1).index t 1 = 0 := rfl
  blk_ext []
  · rfl
  · exact ax0 i1 (Nat.zero_add _)

/-- The weights. -/
theorem B2_at (t : Fin grid0.N) (a : Fin 1024) (k : Fin 512) : B2 m t (ix2 a k) = A2 m (ix2 a k) := by
  show V m 0 main_v0 (((cfg0.win 2).blk t).view.emb (ix2 a k)) = _
  refine (V_v0 m _).trans ?_
  have i0 : (cfg0.win 2).index t 0 = 0 := congrFun (weights_index t) 0
  have i1 : (cfg0.win 2).index t 1 = 0 := congrFun (weights_index t) 1
  blk_ext []
  · exact ax0 i0 (by omega)
  · exact ax i1 (by omega)

/-- The blocks written back cover the result. -/
theorem covers : (cfg0.win 3).Covers := by decide +kernel

/-- The normed row `r` at the feature `k`. -/
def nrm (x : S2048x1024.Idx → EReal) (g : S1024.Idx → EReal) (r : Fin 2048) (k : Fin 1024) : EReal :=
  x (ix2 r k) * Ideal.rsqrt (Ideal.div (∑ j : Fin 1024, x (ix2 r j) * x (ix2 r j)) (Ideal.ofBits FTy.f32 1149239296#32) + Ideal.ofBits FTy.f32 897988541#32) * g (ix1 k)

/-- The projection of the normed row `r` at the feature `d`. -/
def memAt (x : S2048x1024.Idx → EReal) (g : S1024.Idx → EReal) (w : S1024x512.Idx → EReal) (r : Fin 2048) (d : Fin 512) : EReal :=
  ∑ k : Fin 1024, nrm x g r k * w (ix2 k d)

/-- The norm of a block of rows. -/
theorem pay1_at (x : FVec Ideal S512x1024 .f32) (g : FVec Ideal S1x1024 .f32) (a : Fin 512) (b : Fin 1024) :
    (k0_pay1 x g : FVec Ideal S512x1024 .bf16) (ix2 a b) = x (ix2 a b) * Ideal.rsqrt (Ideal.div (∑ j : Fin 1024, x (ix2 a j) * x (ix2 a j)) (Ideal.ofBits FTy.f32 1149239296#32) + Ideal.ofBits FTy.f32 897988541#32) * g (ix2 0 b) := by
  unfold k0_pay1; pointwise

/-- Its product with the weights. -/
theorem pay2_at (x : FVec Ideal S512x1024 .bf16) (w : FVec Ideal S1024x512 .bf16) (a b : Fin 512) :
    (k0_pay2 x w : FVec Ideal S512x512 .bf16) (ix2 a b) = ∑ k : Fin 1024, x (ix2 a k) * w (ix2 k b) := by
  unfold k0_pay2; pointwise

/-- The norms of equal arguments are equal. -/
theorem pay1_congr {x x' : FVec Ideal S512x1024 .f32} {g g' : FVec Ideal S1x1024 .f32} (hx : x = x') (hg : g = g') :
    k0_pay1 (F := Ideal) x g = k0_pay1 (F := Ideal) x' g' := by
  subst hx hg; rfl

/-- So are the products. -/
theorem pay2_congr {x x' : FVec Ideal S512x1024 .bf16} {w w' : FVec Ideal S1024x512 .bf16} (hx : x = x') (hw : w = w') :
    k0_pay2 (F := Ideal) x w = k0_pay2 (F := Ideal) x' w' := by
  subst hx hw; rfl

/-- What a point leaves is the product of its normed rows and the weights. -/
theorem res_eq (t : Fin grid0.N) : resAt m t = k0_pay2 (k0_pay1 (B0 m t) (B1 m t)) (B2 m t) := by
  funext y
  unfold resAt outsAt0
  frame_out
  exact congrFun (pay2_congr (pay1_congr (by first | exact (hs0_0 t).read_unread _ | rfl) (by first | exact (hs0_1 t).read_unread _ | rfl)) (by first | exact (hs0_2 t).read_unread _ | rfl)) y

/-- At one row and one feature. -/
theorem res_at (t : Fin grid0.N) (r : Fin 2048) (a b : Fin 512) (hr : r.val = t.val * 512 + a.val) :
    resAt m t (ix2 a b) = memAt (A0 m) (A1 m) (A2 m) r b := by
  have hx : ∀ k, B0 m t (ix2 a k) = A0 m (ix2 r k) := fun k => B0_at m t r a k hr
  have hg : ∀ k, B1 m t (ix2 0 k) = A1 m (ix1 k) := B1_at m t
  have hw : ∀ k, B2 m t (ix2 k b) = A2 m (ix2 k b) := fun k => B2_at m t k b
  rw [res_eq, pay2_at]
  unfold memAt nrm
  simp only [pay1_at, hx, hg, hw]

/-- The result after the run. -/
theorem final : (dats m 0 0).arrAt 3 cfg0.N = fun i : S2048x512.Idx => memAt (A0 m) (A1 m) (A2 m) (i 0) (i 1) := by
  refine (dats m 0 0).arrAt_eq_of_covers 3 _ covers fun t hf y => ?_
  have i0 : (cfg0.win 3).index t 0 = t.val := congrFun (result_index t) 0
  have i1 : (cfg0.win 3).index t 1 = 0 := congrFun (result_index t) 1
  blk_simp
  rw [after0_3]
  obtain ⟨a, b, rfl⟩ : ∃ (a : Fin 512) (b : Fin 512), y = ix2 a b := ⟨y (0 : Fin 2), y (1 : Fin 2), by funext k; fin_cases k <;> rfl⟩
  have e1 : ((cfg0.win 3).blk t).view.emb (ix2 a b) (1 : Fin 2) = b := Fin.ext (by blk_simp; exact ax i1 (by omega))
  have e0 : (((cfg0.win 3).blk t).view.emb (ix2 a b) (0 : Fin 2)).val = t.val * 512 + a.val := by blk_simp; exact ax i0 rfl
  rw [e1]
  exact res_at m t _ a b e0

end Cert.MemoryIdeal.Val
end
-- ==== Proof.MemoryRef.lean ====
module

public import proofs.«01_k».proof.Proof.Gen.MemoryRefIdeal.Run
public import proofs.«01_k».proof.Proof.Gen.MemoryRefIdeal.Read
public import proofs.«01_k».proof.Proof.MemoryValue

/-! # The reference of the projection of the memory, at one row and one feature -/

@[expose] public section

set_option maxRecDepth 16384

noncomputable section

namespace Cert.MemoryRefIdeal.Val

open Idealize.ShloMosaic Idealize.ShloMosaic.TcCoe Idealize.SL.Sem Cert.MemoryRefIdeal Cert.MemoryRefIdeal.Gen
open Cert.MemoryIdeal.Val (memAt nrm)

/-- The reference at the row `r` and the feature `d`. -/
theorem ref_at (x0 : FVec Ideal S2048x1024 .f32) (x1 : FVec Ideal S1024 .f32) (x2 : FVec Ideal S1024x512 .f32) (r : Fin 2048) (d : Fin 512) :
    (Read.val_main_v14 (F := Ideal) x0 x1 x2 : FVec Ideal S2048x512 .bf16) (ix2 r d) = memAt x0 x1 x2 r d := by
  rw [← Read.val_main_v14_eq]
  pointwise
  unfold memAt nrm
  rfl

end Cert.MemoryRefIdeal.Val
end
-- ==== Proof.RopeValue.lean ====
module

public import proofs.«01_k».proof.Proof.Gen.RopeIdeal.Frame
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The rotary tables: what the kernel leaves

A point multiplies 1024 positions by the 128 frequencies of a row, four times the 32 of a head, and writes the cosines and
the sines, the latter negated in the first half of each head. -/

@[expose] public section

set_option maxRecDepth 16384

noncomputable section

namespace Cert.RopeIdeal.Val

open Idealize.ShloMosaic Idealize.ShloMosaic.TcCoe Idealize.SL.Sem Cert.RopeIdeal Cert.RopeIdeal.Gen

variable (m : (ℓ : Loc nD τ sig) → Buf (Elt Ideal) ℓ)

/-- The blocks of positions: block `t` at the point `t`. -/
theorem pos_index : ∀ t : Fin grid0.N, cc0_transform_0 (grid0.coords t) = ![t.val, 0] := by decide +kernel

/-- The blocks of the cosines. -/
theorem cos_index : ∀ t : Fin grid0.N, cc0_transform_2 (grid0.coords t) = ![t.val, 0] := by decide +kernel

/-- The blocks of the sines. -/
theorem sin_index : ∀ t : Fin grid0.N, cc0_transform_3 (grid0.coords t) = ![t.val, 0] := by decide +kernel

/-- A block's coordinate on an axis, from its block index there. -/
theorem ax {z w n a r : ℕ} (h : z = w) (g : w * n + a = r) : z * n + a = r := h ▸ g

/-- The same where the block's extent is one, or its index zero. -/
theorem ax0 {z w a r : ℕ} (h : z = w) (g : w + a = r) : z + a = r := h ▸ g

abbrev A0 : S8x4096.Idx → BitVec 32 := m (((0 : Dev nD).tc : Thread nD τ).loc main_arg0)
abbrev A1 : S32.Idx → EReal := m (((0 : Dev nD).tc : Thread nD τ).loc main_arg1)

/-- The blocks the body reads at the point `t`, at their literal shapes. -/
def B0 (t : Fin grid0.N) : FVec Ideal S1024x1 .f32 := iblk m 0 0 t
def B1 (t : Fin grid0.N) : FVec Ideal S1x128 .f32 := iblk m 0 1 t

/-- The position of the row `r`, as a number. -/
def position (p : S8x4096.Idx → BitVec 32) (r : Fin 32768) : EReal :=
  FloatOps.sitofp (F := Ideal) FTy.f32 (p (ix2 ⟨r.val / 4096, by omega⟩ ⟨r.val % 4096, by omega⟩))

/-- The angle of the row `r` in the lane `d`. -/
def angle (p : S8x4096.Idx → BitVec 32) (v : S32.Idx → EReal) (r : Fin 32768) (d : Fin 128) : EReal :=
  position p r * v (ix1 ⟨d.val % 32, by omega⟩)

/-- The signed sine of the row `r` in the lane `d`. -/
def sinAt (p : S8x4096.Idx → BitVec 32) (v : S32.Idx → EReal) (r : Fin 32768) (d : Fin 128) : EReal :=
  if d.val % 64 < 32 then 0 - Ideal.sin (angle p v r d) else Ideal.sin (angle p v r d)

/-- The row of frequencies is the 32 ones four times. -/
theorem V_v3 (k : Fin 128) : (V m 0 main_v3 : S1x128.Idx → EReal) (ix2 0 k) = A1 m (ix1 ⟨k.val % 32, by omega⟩) := by
  unfold V
  after_reads_at

/-- The column of positions is the positions in their order. -/
theorem V_v5 (r : Fin 32768) : (V m 0 main_v5 : S32768x1.Idx → EReal) (ix2 r 0) = position (A0 m) r := by
  unfold V
  after_reads_at
  rfl

/-- The positions of the point's block. -/
theorem B0_at (t : Fin grid0.N) (r : Fin 32768) (a : Fin 1024) (hr : r.val = t.val * 1024 + a.val) :
    B0 m t (ix2 a 0) = position (A0 m) r := by
  show V m 0 main_v5 (((cfg0.win 0).blk t).view.emb (ix2 a 0)) = _
  refine Eq.trans ?_ (V_v5 m r)
  have i0 : (cfg0.win 0).index t 0 = t.val := congrFun (pos_index t) 0
  have i1 : (cfg0.win 0).index t 1 = 0 := congrFun (pos_index t) 1
  blk_ext []
  exact ax i0 (by omega)

/-- The frequencies. -/
theorem B1_at (t : Fin grid0.N) (k : Fin 128) : B1 m t (ix2 0 k) = A1 m (ix1 ⟨k.val % 32, by omega⟩) := by
  show V m 0 main_v3 (((cfg0.win 1).blk t).view.emb (ix2 0 k)) = _
  refine Eq.trans ?_ (V_v3 m k)
  have i1 : (cfg0.win 1).index t 1 = 0 := rfl
  blk_ext []
  · rfl
  · exact ax0 i1 (Nat.zero_add _)

/-- The blocks written back cover the cosines. -/
theorem covers2 : (cfg0.win 2).Covers := by decide +kernel

/-- And the sines. -/
theorem covers3 : (cfg0.win 3).Covers := by decide +kernel

/-- The cosines of a block. -/
theorem pay2_at (p : FVec Ideal S1024x1 .f32) (v : FVec Ideal S1x128 .f32) (a : Fin 1024) (b : Fin 128) :
    (k0_pay2 p v : FVec Ideal S1024x128 .f32) (ix2 a b) = Ideal.cos (p (ix2 a 0) * v (ix2 0 b)) := by
  unfold k0_pay2 k0_pay1; pointwise

/-- The lane's remainder by 64 as the body computes it. -/
abbrev lane (b : Fin 128) : BitVec 32 :=
  IntOp.remsi ArithUnit.vector (BitVec.ofNat 32 b.val) (Scalar.select (Scalar.cmpi CmpIPredicate.eq 64#32 0#32) 1#32 64#32)

/-- Its test for the first half of a head. -/
theorem mask_at : ∀ b : Fin 128, IntOp.cmpi CmpIPredicate.slt
    (Scalar.select (IntOp.andi (IntOp.xori (IntOp.cmpi CmpIPredicate.slt (lane b) 0#32)
      (Scalar.cmpi CmpIPredicate.slt (Scalar.select (Scalar.cmpi CmpIPredicate.eq 64#32 0#32) 1#32 64#32) 0#32))
      (IntOp.cmpi CmpIPredicate.ne (lane b) 0#32))
      (IntOp.addi (lane b) (Scalar.select (Scalar.cmpi CmpIPredicate.eq 64#32 0#32) 1#32 64#32)) (lane b)) 32#32
    = if b.val % 64 < 32 then 1#1 else 0#1 := by decide +kernel

/-- The signed sines of a block. -/
theorem pay3_at (p : FVec Ideal S1024x1 .f32) (v : FVec Ideal S1x128 .f32) (a : Fin 1024) (b : Fin 128) :
    (k0_pay3 p v : FVec Ideal S1024x128 .f32) (ix2 a b)
      = if b.val % 64 < 32 then 0 - Ideal.sin (p (ix2 a 0) * v (ix2 0 b)) else Ideal.sin (p (ix2 a 0) * v (ix2 0 b)) := by
  unfold k0_pay3 k0_pay1
  pointwise
  rw [mask_at]
  split <;> rfl

/-- The cosines a point leaves. -/
theorem cos_eq (t : Fin grid0.N) : out0_2 (F := Ideal) (iblk m 0 0 t) (iblk m 0 1 t) = k0_pay2 (F := Ideal) (B0 m t) (B1 m t) := by
  unfold out0_2
  frame_out
  rfl

/-- The sines a point leaves. -/
theorem sin_eq (t : Fin grid0.N) : out0_3 (F := Ideal) (iblk m 0 0 t) (iblk m 0 1 t) = k0_pay3 (F := Ideal) (B0 m t) (B1 m t) := by
  unfold out0_3
  frame_out
  rfl

/-- The cosines after the run. -/
theorem final_cos : (dats m 0 0).arrAt 2 cfg0.N = fun i : S32768x128.Idx => Ideal.cos (angle (A0 m) (A1 m) (i 0) (i 1)) := by
  refine (dats m 0 0).arrAt_eq_of_covers 2 _ covers2 fun t hf y => ?_
  have i0 : (cfg0.win 2).index t 0 = t.val := congrFun (cos_index t) 0
  have i1 : (cfg0.win 2).index t 1 = 0 := congrFun (cos_index t) 1
  blk_simp
  rw [after0_2, cos_eq]
  obtain ⟨a, b, rfl⟩ : ∃ (a : Fin 1024) (b : Fin 128), y = ix2 a b := ⟨y (0 : Fin 2), y (1 : Fin 2), by funext k; fin_cases k <;> rfl⟩
  have e1 : ((cfg0.win 2).blk t).view.emb (ix2 a b) (1 : Fin 2) = b := Fin.ext (by blk_simp; exact ax i1 (by omega))
  have e0 : (((cfg0.win 2).blk t).view.emb (ix2 a b) (0 : Fin 2)).val = t.val * 1024 + a.val := by blk_simp; exact ax i0 rfl
  rw [e1]
  refine (pay2_at _ _ a b).trans ?_
  rw [B0_at m t _ a e0, B1_at]
  rfl

/-- The sines after the run. -/
theorem final_sin : (dats m 0 0).arrAt 3 cfg0.N = fun i : S32768x128.Idx => sinAt (A0 m) (A1 m) (i 0) (i 1) := by
  refine (dats m 0 0).arrAt_eq_of_covers 3 _ covers3 fun t hf y => ?_
  have i0 : (cfg0.win 3).index t 0 = t.val := congrFun (sin_index t) 0
  have i1 : (cfg0.win 3).index t 1 = 0 := congrFun (sin_index t) 1
  blk_simp
  rw [after0_3, sin_eq]
  obtain ⟨a, b, rfl⟩ : ∃ (a : Fin 1024) (b : Fin 128), y = ix2 a b := ⟨y (0 : Fin 2), y (1 : Fin 2), by funext k; fin_cases k <;> rfl⟩
  have e1 : ((cfg0.win 3).blk t).view.emb (ix2 a b) (1 : Fin 2) = b := Fin.ext (by blk_simp; exact ax i1 (by omega))
  have e0 : (((cfg0.win 3).blk t).view.emb (ix2 a b) (0 : Fin 2)).val = t.val * 1024 + a.val := by blk_simp; exact ax i0 rfl
  rw [e1]
  refine (pay3_at _ _ a b).trans ?_
  rw [B0_at m t _ a e0, B1_at]
  rfl

end Cert.RopeIdeal.Val
end
-- ==== Proof.RopeRef.lean ====
module

public import proofs.«01_k».proof.Proof.Gen.RopeRefIdeal.Run
public import proofs.«01_k».proof.Proof.Gen.RopeRefIdeal.Read
public import proofs.«01_k».proof.Proof.RopeValue

/-! # The reference of the rotary tables, at one row and one lane -/

@[expose] public section

set_option maxRecDepth 16384

noncomputable section

namespace Cert.RopeRefIdeal.Val

open Idealize.ShloMosaic Idealize.ShloMosaic.TcCoe Idealize.SL.Sem Cert.RopeRefIdeal Cert.RopeRefIdeal.Gen
open Cert.RopeIdeal.Val (position angle sinAt)

/-- The reference's cosines at the row `r` and the lane `d`. -/
theorem cos_at (x0 : IVec S8x4096 32) (x1 : FVec Ideal S32 .f32) (r : Fin 32768) (d : Fin 128) :
    (Read.val_main_v9 (F := Ideal) x0 x1 : FVec Ideal S32768x128 .f32) (ix2 r d) = Ideal.cos (angle x0 x1 r d) := by
  unfold Read.val_main_v9 Read.val_main_v8 Read.val_main_v6 Read.val_main_v5 Read.val_main_v4 Read.val_main_v3 Read.val_main_v2 Read.val_main_v1 Read.val_main_v0
  pointwise
  split_ifs <;> exact congrArg (fun e => Ideal.cos (position x0 r * x1 (ix1 e))) (Fin.ext (by dsimp only; omega))

/-- Its signed sines. -/
theorem sin_at (x0 : IVec S8x4096 32) (x1 : FVec Ideal S32 .f32) (r : Fin 32768) (d : Fin 128) :
    (Read.val_main_v13 (F := Ideal) x0 x1 : FVec Ideal S32768x128 .f32) (ix2 r d) = sinAt x0 x1 r d := by
  unfold Read.val_main_v13 Read.val_main_v12 Read.val_main_v11 Read.val_main_v10 Read.val_main_v7 Read.val_main_v5 Read.val_main_v4 Read.val_main_v3 Read.val_main_v2 Read.val_main_v1 Read.val_main_v0
  pointwise
  unfold sinAt
  simp only [zero_sub]
  split_ifs <;> first
    | exact (congrArg (fun e => -Ideal.sin (position x0 r * x1 (ix1 e))) (Fin.ext (by dsimp only; omega))).trans (if_pos (by omega)).symm
    | exact (congrArg (fun e => Ideal.sin (position x0 r * x1 (ix1 e))) (Fin.ext (by dsimp only; omega))).trans (if_neg (by omega)).symm

end Cert.RopeRefIdeal.Val
end
-- ==== Proof.DiscValue.lean ====
module

public import proofs.«01_k».proof.Proof.Gen.DiscIdeal.Frame
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The discretisation of the S5 layer: what the kernel leaves

One point works on all 2048 states, each a row: state `r % 64` of the group `r / 64`. -/

@[expose] public section

set_option maxRecDepth 16384

noncomputable section

namespace Cert.DiscIdeal.Val

open Idealize.ShloMosaic Idealize.ShloMosaic.TcCoe Idealize.SL.Sem Cert.DiscIdeal Cert.DiscIdeal.Gen

variable (m : (ℓ : Loc nD τ sig) → Buf (Elt Ideal) ℓ)

abbrev A0 : S32x64.Idx → EReal := m (((0 : Dev nD).tc : Thread nD τ).loc main_arg0)
abbrev A1 : S32x64.Idx → EReal := m (((0 : Dev nD).tc : Thread nD τ).loc main_arg1)
abbrev A2 : S32.Idx → EReal := m (((0 : Dev nD).tc : Thread nD τ).loc main_arg2)
abbrev A3 : S32x64x16.Idx → EReal := m (((0 : Dev nD).tc : Thread nD τ).loc main_arg3)
abbrev A4 : S32x64x16.Idx → EReal := m (((0 : Dev nD).tc : Thread nD τ).loc main_arg4)

/-- The group and the state of the row `r`. -/
def grp (r : Fin 2048) : Fin 32 := ⟨r.val / 64, by omega⟩
def st (r : Fin 2048) : Fin 64 := ⟨r.val % 64, by omega⟩

/-- The real part of `exp ((a + b i) exp l)`. -/
def expRe (a b l : EReal) : EReal := Ideal.exp (a * Ideal.exp l) * Ideal.cos (b * Ideal.exp l)

/-- Its imaginary part. -/
def expIm (a b l : EReal) : EReal := Ideal.exp (a * Ideal.exp l) * Ideal.sin (b * Ideal.exp l)

/-- The real part of `(exp ((a + b i) exp l) - 1) / (a + b i)`. -/
def quotRe (a b l : EReal) : EReal := Ideal.div ((expRe a b l - 1) * a + expIm a b l * b) (a * a + b * b)

/-- Its imaginary part. -/
def quotIm (a b l : EReal) : EReal := Ideal.div (expIm a b l * a - (expRe a b l - 1) * b) (a * a + b * b)

/-- The real part of its product with `x + y i`. -/
def inRe (a b l x y : EReal) : EReal := quotRe a b l * x - quotIm a b l * y

/-- Its imaginary part. -/
def inIm (a b l x y : EReal) : EReal := quotRe a b l * y + quotIm a b l * x

/-- The real part of the discretised diagonal, at the state `r`. -/
def outA (f : EReal → EReal → EReal → EReal) (a b : S32x64.Idx → EReal) (l : S32.Idx → EReal) (r : Fin 2048) : EReal :=
  f (a (ix2 (grp r) (st r))) (b (ix2 (grp r) (st r))) (l (ix1 (grp r)))

/-- An entry of the discretised input matrix, at the state `r` and the channel `n`. -/
def outB (f : EReal → EReal → EReal → EReal → EReal → EReal) (a b : S32x64.Idx → EReal) (l : S32.Idx → EReal) (x y : S32x64x16.Idx → EReal) (r : Fin 2048) (n : Fin 16) : EReal :=
  f (a (ix2 (grp r) (st r))) (b (ix2 (grp r) (st r))) (l (ix1 (grp r))) (x (ix3 (grp r) (st r) n)) (y (ix3 (grp r) (st r) n))

/-- The blocks the body reads, at their literal shapes. -/
def B0 (t : Fin grid0.N) : FVec Ideal S2048x1 .f32 := iblk m 0 0 t
def B1 (t : Fin grid0.N) : FVec Ideal S2048x1 .f32 := iblk m 0 1 t
def B2 (t : Fin grid0.N) : FVec Ideal S2048x1 .f32 := iblk m 0 2 t
def B3 (t : Fin grid0.N) : FVec Ideal S2048x16 .f32 := iblk m 0 3 t
def B4 (t : Fin grid0.N) : FVec Ideal S2048x16 .f32 := iblk m 0 4 t

/-- The point takes block 0 of the array. -/
theorem idx0 : ∀ (t : Fin grid0.N) (k : Fin 2), win0_0.index t k = 0 := by decide +kernel

/-- The real parts of the diagonal reach the call as a column. -/
theorem V_v2 (r : Fin 2048) : (V m 0 main_v2 : S2048x1.Idx → EReal) (ix2 r 0) = A0 m (ix2 (grp r) (st r)) := by
  unfold V
  after_reads_at
  rfl

/-- The block is the whole column. -/
theorem B0_at (t : Fin grid0.N) (r : Fin 2048) : B0 m t (ix2 r 0) = A0 m (ix2 (grp r) (st r)) := by
  show V m 0 main_v2 (((cfg0.win 0).blk t).view.emb (ix2 r 0)) = _
  refine Eq.trans ?_ (V_v2 m r)
  blk_ext []
  all_goals
    rw [idx0] <;> omega

/-- The point takes block 0 of the array. -/
theorem idx1 : ∀ (t : Fin grid0.N) (k : Fin 2), win0_1.index t k = 0 := by decide +kernel

/-- So do the imaginary parts. -/
theorem V_v3 (r : Fin 2048) : (V m 0 main_v3 : S2048x1.Idx → EReal) (ix2 r 0) = A1 m (ix2 (grp r) (st r)) := by
  unfold V
  after_reads_at
  rfl

/-- The block is the whole column. -/
theorem B1_at (t : Fin grid0.N) (r : Fin 2048) : B1 m t (ix2 r 0) = A1 m (ix2 (grp r) (st r)) := by
  show V m 0 main_v3 (((cfg0.win 1).blk t).view.emb (ix2 r 0)) = _
  refine Eq.trans ?_ (V_v3 m r)
  blk_ext []
  all_goals
    rw [idx1] <;> omega

/-- The point takes block 0 of the array. -/
theorem idx2 : ∀ (t : Fin grid0.N) (k : Fin 2), win0_2.index t k = 0 := by decide +kernel

/-- The steps are repeated over the states of a group. -/
theorem V_v4 (r : Fin 2048) : (V m 0 main_v4 : S2048x1.Idx → EReal) (ix2 r 0) = A2 m (ix1 (grp r)) := by
  unfold V
  after_reads_at
  rfl

/-- The block is the whole column. -/
theorem B2_at (t : Fin grid0.N) (r : Fin 2048) : B2 m t (ix2 r 0) = A2 m (ix1 (grp r)) := by
  show V m 0 main_v4 (((cfg0.win 2).blk t).view.emb (ix2 r 0)) = _
  refine Eq.trans ?_ (V_v4 m r)
  blk_ext []
  all_goals
    rw [idx2] <;> omega

/-- The point takes block 0 of the array. -/
theorem idx3 : ∀ (t : Fin grid0.N) (k : Fin 2), win0_3.index t k = 0 := by decide +kernel

/-- The real parts of the input matrices reach it state by state. -/
theorem V_v5 (r : Fin 2048) (n : Fin 16) : (V m 0 main_v5 : S2048x16.Idx → EReal) (ix2 r n) = A3 m (ix3 (grp r) (st r) n) := by
  unfold V
  after_reads_at
  rfl

/-- The block is the whole array. -/
theorem B3_at (t : Fin grid0.N) (r : Fin 2048) (n : Fin 16) : B3 m t (ix2 r n) = A3 m (ix3 (grp r) (st r) n) := by
  show V m 0 main_v5 (((cfg0.win 3).blk t).view.emb (ix2 r n)) = _
  refine Eq.trans ?_ (V_v5 m r n)
  blk_ext []
  all_goals
    rw [idx3] <;> omega

/-- The point takes block 0 of the array. -/
theorem idx4 : ∀ (t : Fin grid0.N) (k : Fin 2), win0_4.index t k = 0 := by decide +kernel

/-- So do the imaginary parts. -/
theorem V_v6 (r : Fin 2048) (n : Fin 16) : (V m 0 main_v6 : S2048x16.Idx → EReal) (ix2 r n) = A4 m (ix3 (grp r) (st r) n) := by
  unfold V
  after_reads_at
  rfl

/-- The block is the whole array. -/
theorem B4_at (t : Fin grid0.N) (r : Fin 2048) (n : Fin 16) : B4 m t (ix2 r n) = A4 m (ix3 (grp r) (st r) n) := by
  show V m 0 main_v6 (((cfg0.win 4).blk t).view.emb (ix2 r n)) = _
  refine Eq.trans ?_ (V_v6 m r n)
  blk_ext []
  all_goals
    rw [idx4] <;> omega

/-- What the body writes for the diagonal's real part. -/
theorem re_at (a b l : FVec Ideal S2048x1 .f32) (r : Fin 2048) :
    (k0_pay6 a b l : FVec Ideal S2048x1 .f32) (ix2 r 0) = expRe (a (ix2 r 0)) (b (ix2 r 0)) (l (ix2 r 0)) := by
  unfold k0_pay6 k0_pay5 k0_pay4 k0_pay3 k0_pay2; pointwise; rfl

/-- For its imaginary part. -/
theorem im_at (a b l : FVec Ideal S2048x1 .f32) (r : Fin 2048) :
    (k0_pay7 a b l : FVec Ideal S2048x1 .f32) (ix2 r 0) = expIm (a (ix2 r 0)) (b (ix2 r 0)) (l (ix2 r 0)) := by
  unfold k0_pay7 k0_pay5 k0_pay4 k0_pay3 k0_pay2; pointwise; rfl

/-- For the input matrix's real part. -/
theorem inRe_at (a b l : FVec Ideal S2048x1 .f32) (x y : FVec Ideal S2048x16 .f32) (r : Fin 2048) (n : Fin 16) :
    (k0_pay14 a b l x y : FVec Ideal S2048x16 .f32) (ix2 r n) = inRe (a (ix2 r 0)) (b (ix2 r 0)) (l (ix2 r 0)) (x (ix2 r n)) (y (ix2 r n)) := by
  unfold k0_pay14 k0_pay13 k0_pay12 k0_pay11 k0_pay10 k0_pay9 k0_pay8 k0_pay7 k0_pay6 k0_pay5 k0_pay4 k0_pay3 k0_pay2; pointwise; rfl

/-- For its imaginary part. -/
theorem inIm_at (a b l : FVec Ideal S2048x1 .f32) (x y : FVec Ideal S2048x16 .f32) (r : Fin 2048) (n : Fin 16) :
    (k0_pay1 (k0_pay10 a b l) (k0_pay11 a b l) (k0_pay12 x) (k0_pay13 y) : FVec Ideal S2048x16 .f32) (ix2 r n) = inIm (a (ix2 r 0)) (b (ix2 r 0)) (l (ix2 r 0)) (x (ix2 r n)) (y (ix2 r n)) := by
  unfold k0_pay1 k0_pay13 k0_pay12 k0_pay11 k0_pay10 k0_pay9 k0_pay8 k0_pay7 k0_pay6 k0_pay5 k0_pay4 k0_pay3 k0_pay2; pointwise; rfl

/-- The point writes block 0 of the array. -/
theorem idx5 : ∀ (t : Fin grid0.N) (k : Fin 2), win0_5.index t k = 0 := by decide +kernel

/-- The block is the whole array. -/
theorem emb5 (t : Fin grid0.N) (a : Fin 2048) : ((win0_5.blk t).view.emb (ix2 a 0) : S2048x1.Idx) = ix2 a 0 := by
  blk_ext []
  all_goals
    rw [idx5] <;> omega

/-- What the point leaves for the diagonal's real part. -/
theorem out5_eq (t : Fin grid0.N) : out0_5 (F := Ideal) (iblk m 0 0 t) (iblk m 0 1 t) (iblk m 0 2 t) (iblk m 0 3 t) (iblk m 0 4 t) = k0_pay6 (F := Ideal) (B0 m t) (B1 m t) (B2 m t) := by
  unfold out0_5
  frame_out
  rfl

/-- The block written back covers the array. -/
theorem covers5 : (cfg0.win 5).Covers := by decide +kernel

/-- The array after the run. -/
theorem final5 : (dats m 0 0).arrAt 5 cfg0.N = fun i : S2048x1.Idx => outA expRe (A0 m) (A1 m) (A2 m) (i 0) := by
  refine (dats m 0 0).arrAt_eq_of_covers 5 _ covers5 fun t hf y => ?_
  blk_simp
  rw [after0_5, out5_eq]
  obtain ⟨a, rfl⟩ : ∃ (a : Fin 2048), y = ix2 a 0 := ⟨y (0 : Fin 2), by funext k; fin_cases k; rfl; exact Subsingleton.elim (α := Fin 1) _ _⟩
  refine (re_at _ _ _ a).trans ?_
  rw [B0_at, B1_at, B2_at]
  exact congrArg (fun i : S2048x1.Idx => outA expRe (A0 m) (A1 m) (A2 m) (i 0)) (emb5 t a).symm

/-- The point writes block 0 of the array. -/
theorem idx6 : ∀ (t : Fin grid0.N) (k : Fin 2), win0_6.index t k = 0 := by decide +kernel

/-- The block is the whole array. -/
theorem emb6 (t : Fin grid0.N) (a : Fin 2048) : ((win0_6.blk t).view.emb (ix2 a 0) : S2048x1.Idx) = ix2 a 0 := by
  blk_ext []
  all_goals
    rw [idx6] <;> omega

/-- What the point leaves for the diagonal's imaginary part. -/
theorem out6_eq (t : Fin grid0.N) : out0_6 (F := Ideal) (iblk m 0 0 t) (iblk m 0 1 t) (iblk m 0 2 t) (iblk m 0 3 t) (iblk m 0 4 t) = k0_pay7 (F := Ideal) (B0 m t) (B1 m t) (B2 m t) := by
  unfold out0_6
  frame_out
  rfl

/-- The block written back covers the array. -/
theorem covers6 : (cfg0.win 6).Covers := by decide +kernel

/-- The array after the run. -/
theorem final6 : (dats m 0 0).arrAt 6 cfg0.N = fun i : S2048x1.Idx => outA expIm (A0 m) (A1 m) (A2 m) (i 0) := by
  refine (dats m 0 0).arrAt_eq_of_covers 6 _ covers6 fun t hf y => ?_
  blk_simp
  rw [after0_6, out6_eq]
  obtain ⟨a, rfl⟩ : ∃ (a : Fin 2048), y = ix2 a 0 := ⟨y (0 : Fin 2), by funext k; fin_cases k; rfl; exact Subsingleton.elim (α := Fin 1) _ _⟩
  refine (im_at _ _ _ a).trans ?_
  rw [B0_at, B1_at, B2_at]
  exact congrArg (fun i : S2048x1.Idx => outA expIm (A0 m) (A1 m) (A2 m) (i 0)) (emb6 t a).symm

/-- The point writes block 0 of the array. -/
theorem idx7 : ∀ (t : Fin grid0.N) (k : Fin 2), win0_7.index t k = 0 := by decide +kernel

/-- The block is the whole array. -/
theorem emb7 (t : Fin grid0.N) (a : Fin 2048) (b : Fin 16) : ((win0_7.blk t).view.emb (ix2 a b) : S2048x16.Idx) = ix2 a b := by
  blk_ext []
  all_goals
    rw [idx7] <;> omega

/-- What the point leaves for the input matrix's real part. -/
theorem out7_eq (t : Fin grid0.N) : out0_7 (F := Ideal) (iblk m 0 0 t) (iblk m 0 1 t) (iblk m 0 2 t) (iblk m 0 3 t) (iblk m 0 4 t) = k0_pay14 (F := Ideal) (B0 m t) (B1 m t) (B2 m t) (B3 m t) (B4 m t) := by
  unfold out0_7
  frame_out
  rfl

/-- The block written back covers the array. -/
theorem covers7 : (cfg0.win 7).Covers := by decide +kernel

/-- The array after the run. -/
theorem final7 : (dats m 0 0).arrAt 7 cfg0.N = fun i : S2048x16.Idx => outB inRe (A0 m) (A1 m) (A2 m) (A3 m) (A4 m) (i 0) (i 1) := by
  refine (dats m 0 0).arrAt_eq_of_covers 7 _ covers7 fun t hf y => ?_
  blk_simp
  rw [after0_7, out7_eq]
  obtain ⟨a, b, rfl⟩ : ∃ (a : Fin 2048) (b : Fin 16), y = ix2 a b := ⟨y (0 : Fin 2), y (1 : Fin 2), by funext k; fin_cases k <;> rfl⟩
  refine (inRe_at _ _ _ _ _ a b).trans ?_
  rw [B0_at, B1_at, B2_at, B3_at, B4_at]
  have e : _ = outB inRe (A0 m) (A1 m) (A2 m) (A3 m) (A4 m) a b := Eq.symm (by unfold outB; rfl)
  refine e.trans ?_
  have ey := emb7 t a b
  exact congrArg₂ (outB inRe (A0 m) (A1 m) (A2 m) (A3 m) (A4 m)) (congrFun ey 0).symm (congrFun ey 1).symm

/-- The point writes block 0 of the array. -/
theorem idx8 : ∀ (t : Fin grid0.N) (k : Fin 2), win0_8.index t k = 0 := by decide +kernel

/-- The block is the whole array. -/
theorem emb8 (t : Fin grid0.N) (a : Fin 2048) (b : Fin 16) : ((win0_8.blk t).view.emb (ix2 a b) : S2048x16.Idx) = ix2 a b := by
  blk_ext []
  all_goals
    rw [idx8] <;> omega

/-- What the point leaves for the input matrix's imaginary part. -/
theorem out8_eq (t : Fin grid0.N) : out0_8 (F := Ideal) (iblk m 0 0 t) (iblk m 0 1 t) (iblk m 0 2 t) (iblk m 0 3 t) (iblk m 0 4 t) = k0_pay1 (F := Ideal) (k0_pay10 (F := Ideal) (B0 m t) (B1 m t) (B2 m t)) (k0_pay11 (F := Ideal) (B0 m t) (B1 m t) (B2 m t)) (k0_pay12 (F := Ideal) (B3 m t)) (k0_pay13 (F := Ideal) (B4 m t)) := by
  unfold out0_8
  frame_out
  rfl

/-- The block written back covers the array. -/
theorem covers8 : (cfg0.win 8).Covers := by decide +kernel

/-- The array after the run. -/
theorem final8 : (dats m 0 0).arrAt 8 cfg0.N = fun i : S2048x16.Idx => outB inIm (A0 m) (A1 m) (A2 m) (A3 m) (A4 m) (i 0) (i 1) := by
  refine (dats m 0 0).arrAt_eq_of_covers 8 _ covers8 fun t hf y => ?_
  blk_simp
  rw [after0_8, out8_eq]
  obtain ⟨a, b, rfl⟩ : ∃ (a : Fin 2048) (b : Fin 16), y = ix2 a b := ⟨y (0 : Fin 2), y (1 : Fin 2), by funext k; fin_cases k <;> rfl⟩
  refine (inIm_at _ _ _ _ _ a b).trans ?_
  rw [B0_at, B1_at, B2_at, B3_at, B4_at]
  have e : _ = outB inIm (A0 m) (A1 m) (A2 m) (A3 m) (A4 m) a b := Eq.symm (by unfold outB; rfl)
  refine e.trans ?_
  have ey := emb8 t a b
  exact congrArg₂ (outB inIm (A0 m) (A1 m) (A2 m) (A3 m) (A4 m)) (congrFun ey 0).symm (congrFun ey 1).symm

end Cert.DiscIdeal.Val
end
-- ==== Proof.DiscRef.lean ====
module

public import proofs.«01_k».proof.Proof.Gen.DiscRefIdeal.Run
public import proofs.«01_k».proof.Proof.Gen.DiscRefIdeal.Read
public import proofs.«01_k».proof.Proof.DiscValue

/-! # The reference of the discretisation, at one state and one channel -/

@[expose] public section

set_option maxRecDepth 16384

noncomputable section

namespace Cert.DiscRefIdeal.Val

open Idealize.ShloMosaic Idealize.ShloMosaic.TcCoe Idealize.SL.Sem Cert.DiscRefIdeal Cert.DiscRefIdeal.Gen
open Cert.DiscIdeal.Val (outA outB expRe expIm inRe inIm)

/-- The real part of the reference's diagonal. -/
theorem expRe_at (x0 x1 : FVec Ideal S32x64 .f32) (x2 : FVec Ideal S32 .f32) (r : Fin 2048) :
    (Read.val_main_v42 (F := Ideal) x0 x1 x2 : FVec Ideal S2048x1 .f32) (ix2 r 0) = outA expRe x0 x1 x2 r := by
  rw [← Read.val_main_v42_eq]
  pointwise
  rfl

/-- Its imaginary part. -/
theorem expIm_at (x0 x1 : FVec Ideal S32x64 .f32) (x2 : FVec Ideal S32 .f32) (r : Fin 2048) :
    (Read.val_main_v43 (F := Ideal) x0 x1 x2 : FVec Ideal S2048x1 .f32) (ix2 r 0) = outA expIm x0 x1 x2 r := by
  rw [← Read.val_main_v43_eq]
  pointwise
  rfl

/-- The real part of the reference's input matrix. -/
theorem inRe_at (x0 x1 : FVec Ideal S32x64 .f32) (x2 : FVec Ideal S32 .f32) (x3 x4 : FVec Ideal S32x64x16 .f32) (r : Fin 2048) (n : Fin 16) :
    (Read.val_main_v44 (F := Ideal) x0 x1 x2 x3 x4 : FVec Ideal S2048x16 .f32) (ix2 r n) = outB inRe x0 x1 x2 x3 x4 r n := by
  rw [← Read.val_main_v44_eq]
  pointwise
  rfl

/-- Its imaginary part. -/
theorem inIm_at (x0 x1 : FVec Ideal S32x64 .f32) (x2 : FVec Ideal S32 .f32) (x3 x4 : FVec Ideal S32x64x16 .f32) (r : Fin 2048) (n : Fin 16) :
    (Read.val_main_v45 (F := Ideal) x0 x1 x2 x3 x4 : FVec Ideal S2048x16 .f32) (ix2 r n) = outB inIm x0 x1 x2 x3 x4 r n := by
  rw [← Read.val_main_v45_eq]
  pointwise
  rfl

end Cert.DiscRefIdeal.Val
end
-- ==== Proof.RouterValue.lean ====
module

public import proofs.«01_k».proof.Proof.Gen.RouterIdeal.Frame
public import proofs.«01_k».proof.Proof.RouterReal
public import Idealize.ShloMosaic.Lib.Pipeline.ValueKit
public import Idealize.ShloMosaic.Lib.Pipeline.ReadBack
public import Idealize.ShloMosaic.Lib.StableHlo.ReadAt
public import Idealize.ShloMosaic.Lib.Pipeline.Covers

/-! # The router: what the kernel leaves

A point norms 512 rows, scores them against the experts, padded to 128 lanes, and writes each row's two greatest scores'
lanes and weights, and the normed rows. -/

@[expose] public section

set_option maxRecDepth 16384

noncomputable section

namespace Cert.RouterIdeal.Val

open Idealize.ShloMosaic Idealize.ShloMosaic.TcCoe Idealize.SL.Sem Cert.RouterIdeal Cert.RouterIdeal.Gen Cert.RouterPick

variable (m : (ℓ : Loc nD τ sig) → Buf (Elt Ideal) ℓ)

/-- The blocks of rows: block `t` at the point `t`. -/
theorem rows_index : ∀ t : Fin grid0.N, cc0_transform_0 (grid0.coords t) = ![t.val, 0] := by decide +kernel

/-- The weights are one block. -/
theorem weights_index : ∀ t : Fin grid0.N, cc0_transform_2 (grid0.coords t) = ![0, 0] := by decide +kernel

/-- So are their remainders. -/
theorem rest_index : ∀ t : Fin grid0.N, cc0_transform_3 (grid0.coords t) = ![0, 0] := by decide +kernel

/-- The blocks of routes. -/
theorem route_index : ∀ t : Fin grid0.N, cc0_transform_4 (grid0.coords t) = ![t.val, 0] := by decide +kernel

/-- The blocks of normed rows. -/
theorem normed_index : ∀ t : Fin grid0.N, cc0_transform_5 (grid0.coords t) = ![t.val, 0] := by decide +kernel

/-- A block's coordinate on an axis, from its block index there. -/
theorem ax {z w n a r : ℕ} (h : z = w) (g : w * n + a = r) : z * n + a = r := h ▸ g

/-- The same where the block's extent is one, or its index zero. -/
theorem ax0 {z w a r : ℕ} (h : z = w) (g : w + a = r) : z + a = r := h ▸ g

abbrev A0 : S32768x1024.Idx → EReal := m (((0 : Dev nD).tc : Thread nD τ).loc main_arg0)
abbrev A1 : S1024.Idx → EReal := m (((0 : Dev nD).tc : Thread nD τ).loc main_arg1)
abbrev A2 : S1024x8.Idx → EReal := m (((0 : Dev nD).tc : Thread nD τ).loc main_arg2)

/-- The blocks the body reads at the point `t`, at their literal shapes. -/
def B0 (t : Fin grid0.N) : FVec Ideal S512x1024 .f32 := iblk m 0 0 t
def B1 (t : Fin grid0.N) : FVec Ideal S1x1024 .f32 := iblk m 0 1 t
def B2 (t : Fin grid0.N) : FVec Ideal S1024x128 .bf16 := iblk m 0 2 t
def B3 (t : Fin grid0.N) : FVec Ideal S1024x128 .bf16 := iblk m 0 3 t

/-- The weights in 128 lanes. -/
def wide (w : S1024x8.Idx → EReal) (k : Fin 1024) (b : Fin 128) : EReal := if h : b.val < 8 then w (ix2 k ⟨b.val, h⟩) else 0

/-- The padding value. -/
theorem zero_word : (FloatOps.sitofp (F := Ideal) FTy.f32 0#32) = (0 : EReal) := by
  show ((((0#32 : BitVec 32).toInt : ℤ) : ℝ) : EReal) = 0
  simp

/-- The scale reaches the call as a single row. -/
theorem V_v5 (k : Fin 1024) : (V m 0 main_v5 : S1x1024.Idx → EReal) (ix2 0 k) = A1 m (ix1 k) := by
  unfold V
  after_reads_at

/-- The weights reach it padded with zeros. -/
theorem V_v1 (k : Fin 1024) (b : Fin 128) : (V m 0 main_v1 : S1024x128.Idx → EReal) (ix2 k b) = wide (A2 m) k b := by
  unfold V
  after_reads_at
  rw [zero_word]
  rfl

/-- Their remainders are the differences. -/
theorem V_v4 (k : Fin 1024) (b : Fin 128) : (V m 0 main_v4 : S1024x128.Idx → EReal) (ix2 k b) = wide (A2 m) k b - wide (A2 m) k b := by
  unfold V
  after_reads_at
  rw [zero_word]
  rfl

/-- The rows of the point's block. -/
theorem B0_at (t : Fin grid0.N) (r : Fin 32768) (a : Fin 512) (k : Fin 1024) (hr : r.val = t.val * 512 + a.val) :
    B0 m t (ix2 a k) = A0 m (ix2 r k) := by
  show V m 0 main_arg0 (((cfg0.win 0).blk t).view.emb (ix2 a k)) = _
  rw [V_main_arg0]
  have i0 : (cfg0.win 0).index t 0 = t.val := congrFun (rows_index t) 0
  have i1 : (cfg0.win 0).index t 1 = 0 := congrFun (rows_index t) 1
  blk_ext []
  · exact ax i0 (by omega)
  · exact ax0 i1 (by omega)

/-- The scale. -/
theorem B1_at (t : Fin grid0.N) (k : Fin 1024) : B1 m t (ix2 0 k) = A1 m (ix1 k) := by
  show V m 0 main_v5 (((cfg0.win 1).blk t).view.emb (ix2 0 k)) = _
  refine Eq.trans ?_ (V_v5 m k)
  have i1 : (cfg0.win 1).index t 1 = 0 := rfl
  blk_ext []
  · rfl
  · exact ax0 i1 (Nat.zero_add _)

/-- The weights. -/
theorem B2_at (t : Fin grid0.N) (k : Fin 1024) (b : Fin 128) : B2 m t (ix2 k b) = wide (A2 m) k b := by
  show V m 0 main_v1 (((cfg0.win 2).blk t).view.emb (ix2 k b)) = _
  refine Eq.trans ?_ (V_v1 m k b)
  have i0 : (cfg0.win 2).index t 0 = 0 := congrFun (weights_index t) 0
  have i1 : (cfg0.win 2).index t 1 = 0 := congrFun (weights_index t) 1
  blk_ext []
  · exact ax0 i0 (by omega)
  · exact ax0 i1 (by omega)

/-- Their remainders. -/
theorem B3_at (t : Fin grid0.N) (k : Fin 1024) (b : Fin 128) : B3 m t (ix2 k b) = wide (A2 m) k b - wide (A2 m) k b := by
  show V m 0 main_v4 (((cfg0.win 3).blk t).view.emb (ix2 k b)) = _
  refine Eq.trans ?_ (V_v4 m k b)
  have i0 : (cfg0.win 3).index t 0 = 0 := congrFun (rest_index t) 0
  have i1 : (cfg0.win 3).index t 1 = 0 := congrFun (rest_index t) 1
  blk_ext []
  · exact ax0 i0 (by omega)
  · exact ax0 i1 (by omega)

/-- The blocks written back cover the routes. -/
theorem covers4 : (cfg0.win 4).Covers := by decide +kernel

/-- And the normed rows. -/
theorem covers5 : (cfg0.win 5).Covers := by decide +kernel

/-- The routes from the lanes' numbers and their scores. -/
def leave (u v : FVec Ideal S512x128 .f32) : FVec Ideal S512x128 .f32 :=
  k0_pay1 u (k0_pay11 u v) (k0_pay12 u v) (k0_pay13 u) (Scalar.ofBits .f32 0x00000000#32) (k0_pay14 u v)

/-- The routes a point leaves. -/
theorem route_eq (t : Fin grid0.N) : out0_4 (F := Ideal) (iblk m 0 0 t) (iblk m 0 1 t) (iblk m 0 2 t) (iblk m 0 3 t)
    = leave (k0_pay4 (F := Ideal)) (k0_pay5 (F := Ideal) (B0 m t) (B1 m t) (B2 m t) (B3 m t) (B2 m t)) := by
  unfold out0_4 k0_pay15 k0_pay16 leave
  frame_out
  rfl

/-- The normed rows a point leaves. -/
theorem normed_eq (t : Fin grid0.N) : out0_5 (F := Ideal) (iblk m 0 0 t) (iblk m 0 1 t) (iblk m 0 2 t) (iblk m 0 3 t) = k0_pay3 (F := Ideal) (B0 m t) (B1 m t) := by
  unfold out0_5
  frame_out
  rfl

/-- The norm of a block of rows. -/
theorem pay2_at (x : FVec Ideal S512x1024 .f32) (g : FVec Ideal S1x1024 .f32) (a : Fin 512) (b : Fin 1024) :
    (k0_pay2 x g : FVec Ideal S512x1024 .f32) (ix2 a b) = normed (fun j => x (ix2 a j)) (fun j => g (ix2 0 j)) b := by
  unfold k0_pay2 normed; pointwise

/-- The same, in the narrower format. -/
theorem pay3_at (x : FVec Ideal S512x1024 .f32) (g : FVec Ideal S1x1024 .f32) (a : Fin 512) (b : Fin 1024) :
    (k0_pay3 x g : FVec Ideal S512x1024 .bf16) (ix2 a b) = normed (fun j => x (ix2 a j)) (fun j => g (ix2 0 j)) b := by
  unfold k0_pay3
  refine Eq.trans ?_ (pay2_at x g a b)
  pointwise

/-- The normed rows after the run. -/
theorem final_normed : (dats m 0 0).arrAt 5 cfg0.N = fun i : S32768x1024.Idx => normed (fun j => A0 m (ix2 (i 0) j)) (fun j => A1 m (ix1 j)) (i 1) := by
  refine (dats m 0 0).arrAt_eq_of_covers 5 _ covers5 fun t hf y => ?_
  have i0 : (cfg0.win 5).index t 0 = t.val := congrFun (normed_index t) 0
  have i1 : (cfg0.win 5).index t 1 = 0 := congrFun (normed_index t) 1
  blk_simp
  rw [after0_5, normed_eq]
  obtain ⟨a, b, rfl⟩ : ∃ (a : Fin 512) (b : Fin 1024), y = ix2 a b := ⟨y (0 : Fin 2), y (1 : Fin 2), by funext k; fin_cases k <;> rfl⟩
  have e1 : ((cfg0.win 5).blk t).view.emb (ix2 a b) (1 : Fin 2) = b := Fin.ext (by blk_simp; exact ax i1 (by omega))
  have e0 : (((cfg0.win 5).blk t).view.emb (ix2 a b) (0 : Fin 2)).val = t.val * 512 + a.val := by blk_simp; exact ax i0 rfl
  rw [e1]
  refine (pay3_at _ _ a b).trans ?_
  rw [show (fun j => B0 m t (ix2 a j)) = fun j => A0 m (ix2 _ j) from funext fun j => B0_at m t _ a j e0, show (fun j => B1 m t (ix2 0 j)) = fun j => A1 m (ix1 j) from funext fun j => B1_at m t j]

/-- The number of a lane. -/
theorem pay4_at (a : Fin 512) (b : Fin 128) : (k0_pay4 : FVec Ideal S512x128 .f32) (ix2 a b) = ((b.val : ℝ) : EReal) := by
  refine Eq.trans ?_ (word_real b)
  unfold k0_pay4; pointwise

/-- The greatest of a row's lanes. -/
theorem pay6_at (v : FVec Ideal S512x128 .f32) (a : Fin 512) :
    (k0_pay6 v : FVec Ideal S512x1 .f32) (ix2 a 0) = Finset.univ.sup fun j : Fin 128 => v (ix2 a j) := by
  unfold k0_pay6
  pointwise
  rw [lit_bot]
  rfl

/-- The first lane that holds it. -/
theorem pay7_at (u v : FVec Ideal S512x128 .f32) (a : Fin 512) (hu : ∀ j : Fin 128, u (ix2 a j) = ((j.val : ℝ) : EReal)) :
    (k0_pay7 u v : FVec Ideal S512x1 .f32) (ix2 a 0) = laneOf (fun j => v (ix2 a j)) ((k0_pay6 v : FVec Ideal S512x1 .f32) (ix2 a 0)) := by
  unfold k0_pay7
  pointwise
  simp only [lit_top, lit_128, hu]
  rfl

/-- The lanes with that one masked. -/
theorem pay8_at (u v : FVec Ideal S512x128 .f32) (a : Fin 512) (b : Fin 128) (hu : ∀ j : Fin 128, u (ix2 a j) = ((j.val : ℝ) : EReal)) :
    (k0_pay8 u v : FVec Ideal S512x128 .f32) (ix2 a b) = if ((b.val : ℝ) : EReal) = (k0_pay7 u v : FVec Ideal S512x1 .f32) (ix2 a 0) then ⊥ else v (ix2 a b) := by
  unfold k0_pay8
  pointwise
  simp only [lit_bot, hu]

/-- Their greatest. -/
theorem pay9_at (u v : FVec Ideal S512x128 .f32) (a : Fin 512) :
    (k0_pay9 u v : FVec Ideal S512x1 .f32) (ix2 a 0) = Finset.univ.sup fun j : Fin 128 => (k0_pay8 u v : FVec Ideal S512x128 .f32) (ix2 a j) := by
  unfold k0_pay9
  pointwise
  rw [lit_bot]
  rfl

/-- The second pick's share. -/
theorem pay10_at (u v : FVec Ideal S512x128 .f32) (a : Fin 512) :
    (k0_pay10 u v : FVec Ideal S512x1 .f32) (ix2 a 0) = Ideal.exp ((k0_pay9 u v : FVec Ideal S512x1 .f32) (ix2 a 0) - (k0_pay6 v : FVec Ideal S512x1 .f32) (ix2 a 0)) := by
  unfold k0_pay10
  pointwise

/-- The second weight. -/
theorem pay11_at (u v : FVec Ideal S512x128 .f32) (a : Fin 512) :
    (k0_pay11 u v : FVec Ideal S512x1 .f32) (ix2 a 0) = Ideal.div ((k0_pay10 u v : FVec Ideal S512x1 .f32) (ix2 a 0)) (1 + (k0_pay10 u v : FVec Ideal S512x1 .f32) (ix2 a 0)) := by
  unfold k0_pay11
  pointwise

/-- The first weight. -/
theorem pay14_at (u v : FVec Ideal S512x128 .f32) (a : Fin 512) :
    (k0_pay14 u v : FVec Ideal S512x1 .f32) (ix2 a 0) = Ideal.div 1 (1 + (k0_pay10 u v : FVec Ideal S512x1 .f32) (ix2 a 0)) := by
  unfold k0_pay14
  pointwise

/-- The lanes of the picks. -/
theorem pay12_at (u v : FVec Ideal S512x128 .f32) (a : Fin 512) (b : Fin 128) (hu : ∀ j : Fin 128, u (ix2 a j) = ((j.val : ℝ) : EReal)) :
    (k0_pay12 u v : FVec Ideal S512x128 .f32) (ix2 a b)
      = (if ((b.val : ℝ) : EReal) = 0 then (k0_pay7 u v : FVec Ideal S512x1 .f32) (ix2 a 0) else 0)
        + (if ((b.val : ℝ) : EReal) = 1 then laneOf (fun j => (k0_pay8 u v : FVec Ideal S512x128 .f32) (ix2 a j)) ((k0_pay9 u v : FVec Ideal S512x1 .f32) (ix2 a 0)) else 0) := by
  unfold k0_pay12
  pointwise
  simp only [lit_top, lit_128, hu]
  rfl

/-- The whole row: lanes of the picks, then their weights. -/
theorem pay1_at (u v : FVec Ideal S512x128 .f32) (a : Fin 512) (b : Fin 128) (hu : ∀ j : Fin 128, u (ix2 a j) = ((j.val : ℝ) : EReal)) :
    leave u v (ix2 a b)
      = (k0_pay12 u v : FVec Ideal S512x128 .f32) (ix2 a b)
        + (if ((b.val : ℝ) : EReal) = ((2 : ℝ) : EReal) then (k0_pay14 u v : FVec Ideal S512x1 .f32) (ix2 a 0) else 0)
        + (if ((b.val : ℝ) : EReal) = ((3 : ℝ) : EReal) then (k0_pay11 u v : FVec Ideal S512x1 .f32) (ix2 a 0) else 0) := by
  unfold leave k0_pay1 k0_pay13
  pointwise
  simp only [lit_2, lit_3, hu]

/-- The scores in their lanes. -/
theorem pay5_at (x : FVec Ideal S512x1024 .f32) (g : FVec Ideal S1x1024 .f32) (w w' : FVec Ideal S1024x128 .bf16) (a : Fin 512) (b : Fin 128) :
    (k0_pay5 x g w w' w : FVec Ideal S512x128 .f32) (ix2 a b)
      = if ((b.val : ℝ) : EReal) < ((8 : ℝ) : EReal) then
          (∑ k : Fin 1024, (k0_pay3 x g : FVec Ideal S512x1024 .bf16) (ix2 a k) * w (ix2 k b))
            + ((∑ k : Fin 1024, (k0_pay3 x g : FVec Ideal S512x1024 .bf16) (ix2 a k) * w' (ix2 k b))
              + ∑ k : Fin 1024, ((k0_pay2 x g : FVec Ideal S512x1024 .f32) (ix2 a k) - (k0_pay3 x g : FVec Ideal S512x1024 .bf16) (ix2 a k)) * w (ix2 k b))
        else ⊥ := by
  rw [← word_real b]
  unfold k0_pay5 k0_pay4
  pointwise
  simp only [lit_8, lit_bot]

/-- The scores, with a finite scale and finite weights: what the two formats leave out is zero. -/
theorem scores_at (x : FVec Ideal S512x1024 .f32) (g : FVec Ideal S1x1024 .f32) (w w' : FVec Ideal S1024x128 .bf16) (a : Fin 512)
    (X G : Fin 1024 → EReal) (W : S1024x8.Idx → EReal) (hX : ∀ k, x (ix2 a k) = X k) (hG : ∀ k, g (ix2 0 k) = G k)
    (hW : ∀ k b, w (ix2 k b) = wide W k b) (hW' : ∀ k b, w' (ix2 k b) = wide W k b - wide W k b)
    (rG : ∀ k, IsReal (G k)) (rW : ∀ k e, IsReal (W (ix2 k e))) (b : Fin 128) :
    (k0_pay5 x g w w' w : FVec Ideal S512x128 .f32) (ix2 a b) = RouterPick.pad (logit X G fun k e => W (ix2 k e)) b := by
  obtain rfl : (fun k => x (ix2 a k)) = X := funext hX
  obtain rfl : (fun k => g (ix2 0 k)) = G := funext hG
  rw [pay5_at]
  unfold RouterPick.pad
  have hlt : ((b.val : ℝ) : EReal) < ((8 : ℝ) : EReal) ↔ b.val < 8 := by
    rw [EReal.coe_lt_coe_iff]
    exact_mod_cast Iff.rfl
  by_cases h : b.val < 8
  · rw [if_pos (hlt.mpr h), dif_pos h]
    have hw : ∀ k, wide W k b = W (ix2 k ⟨b.val, h⟩) := fun k => dif_pos h
    have e1 : ∀ k : Fin 1024, W (ix2 k ⟨b.val, h⟩) - W (ix2 k ⟨b.val, h⟩) = 0 := fun k => (rW k ⟨b.val, h⟩).sub_self
    have e2 := fun k : Fin 1024 => (normed_real (x := fun k => x (ix2 a k)) rG k).sub_self
    simp only [pay3_at, pay2_at, hW, hW', hw, e1, e2, mul_zero, zero_mul, Finset.sum_const_zero, add_zero]
    rfl
  · rw [if_neg fun h' => h (hlt.mp h'), dif_neg h]

/-- A lane's number against a constant. -/
theorem lane_eq (b : Fin 128) (n : ℕ) {v : EReal} (hv : v = ((n : ℝ) : EReal)) : ((b.val : ℝ) : EReal) = v ↔ b.val = n := by
  rw [hv, EReal.coe_eq_coe_iff]
  exact Nat.cast_inj

/-- What a row of scores leaves. -/
theorem leave_at (u v : FVec Ideal S512x128 .f32) (a : Fin 512) (b : Fin 128) (f : Fin 8 → EReal) (hu : ∀ j : Fin 128, u (ix2 a j) = ((j.val : ℝ) : EReal))
    (hv : ∀ j, v (ix2 a j) = RouterPick.pad f j) (hf : ∀ i, f i ≠ ⊥) : leave u v (ix2 a b) = route f b := by
  have hp : Picks f (pick f 0) (pick f 1) := picks_sorted f
  have hv' : (fun j => v (ix2 a j)) = RouterPick.pad f := funext hv
  have e6 : (k0_pay6 v : FVec Ideal S512x1 .f32) (ix2 a 0) = f (pick f 0) := by rw [pay6_at, hv', sup_pad hp]
  have e7 : (k0_pay7 u v : FVec Ideal S512x1 .f32) (ix2 a 0) = (((pick f 0).val : ℝ) : EReal) := by rw [pay7_at u v a hu, e6, hv', lane_first hp hf]
  have e8 : (fun j => (k0_pay8 u v : FVec Ideal S512x128 .f32) (ix2 a j)) = padBut f (pick f 0) := by
    funext j
    rw [pay8_at u v a j hu, e7, hv]
    unfold padBut
    exact if_congr (lane_eq j (pick f 0).val rfl) rfl rfl
  have e9 : (k0_pay9 u v : FVec Ideal S512x1 .f32) (ix2 a 0) = f (pick f 1) := by rw [pay9_at, e8, sup_padBut hp]
  have e10 : (k0_pay10 u v : FVec Ideal S512x1 .f32) (ix2 a 0) = share f := by rw [pay10_at, e9, e6]; rfl
  rw [pay1_at u v a b hu, pay12_at u v a b hu, pay14_at, pay11_at, e10, e7, e9, e8, lane_second hp hf]
  unfold route
  simp only [lane_eq b 0 (v := 0) (by simp), lane_eq b 1 (v := 1) (by simp), lane_eq b 2 (v := ((2 : ℝ) : EReal)) (by norm_num), lane_eq b 3 (v := ((3 : ℝ) : EReal)) (by norm_num)]
  by_cases h0 : b.val = 0
  · simp [h0]
  by_cases h1 : b.val = 1
  · simp [h1]
  by_cases h2 : b.val = 2
  · simp [h2]
  by_cases h3 : b.val = 3
  · simp [h3]
  simp [h0, h1, h2, h3]

/-- The routes after the run, with a finite scale and finite weights. -/
theorem final_route (rG : ∀ k, IsReal (A1 m (ix1 k))) (rW : ∀ k e, IsReal (A2 m (ix2 k e))) :
    (dats m 0 0).arrAt 4 cfg0.N = fun i : S32768x128.Idx =>
      route (logit (fun k => A0 m (ix2 (i 0) k)) (fun k => A1 m (ix1 k)) fun k e => A2 m (ix2 k e)) (i 1) := by
  refine (dats m 0 0).arrAt_eq_of_covers 4 _ covers4 fun t hf y => ?_
  have i0 : (cfg0.win 4).index t 0 = t.val := congrFun (route_index t) 0
  have i1 : (cfg0.win 4).index t 1 = 0 := congrFun (route_index t) 1
  blk_simp
  rw [after0_4, route_eq]
  obtain ⟨a, b, rfl⟩ : ∃ (a : Fin 512) (b : Fin 128), y = ix2 a b := ⟨y (0 : Fin 2), y (1 : Fin 2), by funext k; fin_cases k <;> rfl⟩
  have e1 : ((cfg0.win 4).blk t).view.emb (ix2 a b) (1 : Fin 2) = b := Fin.ext (by blk_simp; exact ax i1 (by omega))
  have e0 : (((cfg0.win 4).blk t).view.emb (ix2 a b) (0 : Fin 2)).val = t.val * 512 + a.val := by blk_simp; exact ax i0 rfl
  rw [e1]
  exact leave_at _ _ a b _ (pay4_at a) (scores_at _ _ _ _ a _ _ (A2 m) (fun k => B0_at m t _ a k e0) (B1_at m t) (B2_at m t) (B3_at m t) rG rW) fun e => (logit_real rG (fun k e => rW k e) e).ne_bot

end Cert.RouterIdeal.Val
end
-- ==== Proof.RouterRef.lean ====
module

public import proofs.«01_k».proof.Proof.Gen.RouterRefIdeal.Run
public import proofs.«01_k».proof.Proof.Gen.RouterRefIdeal.Read
public import proofs.«01_k».proof.Proof.RouterPick
public import Idealize.ShloMosaic.Lib.Pipeline.ValueKit

/-! # The reference of the router, at one row -/

@[expose] public section

set_option maxRecDepth 16384

noncomputable section

namespace Cert.RouterRefIdeal.Val

open Idealize.ShloMosaic Idealize.ShloMosaic.TcCoe Idealize.SL.Sem Cert.RouterRefIdeal Cert.RouterRefIdeal.Gen
open Cert.RouterPick

variable (x0 : FVec Ideal S32768x1024 .f32) (x1 : FVec Ideal S1024 .f32) (x2 : FVec Ideal S1024x8 .f32)

/-- The scores of the row `r`. -/
abbrev scores (r : Fin 32768) : Fin 8 → EReal := logit (fun k => x0 (ix2 r k)) (fun k => x1 (ix1 k)) (fun k e => x2 (ix2 k e))

/-- The normed rows. -/
theorem normed_at (r : Fin 32768) (k : Fin 1024) :
    (Read.val_main_v28 (F := Ideal) x0 x1 : FVec Ideal S32768x1024 .bf16) (ix2 r k) = normed (fun k => x0 (ix2 r k)) (fun k => x1 (ix1 k)) k := by
  rw [← Read.val_main_v28_eq]
  pointwise
  rfl

/-- The scores. -/
theorem scores_at (r : Fin 32768) (e : Fin 8) : (Read.val_main_v13 (F := Ideal) x0 x1 x2 : FVec Ideal S32768x8 .f32) (ix2 r e) = scores x0 x1 x2 r e := by
  unfold Read.val_main_v13 Read.val_main_v12 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst Read.val_main_cst_0 Read.val_main_cst_1
  pointwise
  rfl

/-- A row's position along the second axis. -/
theorem along_eq (r : Fin 32768) (k e : Fin 8) : (ix2 r k : S32768x8.Idx).along 1 e = ix2 r e := by
  funext a
  fin_cases a <;> rfl

/-- The order the sort asks, along the row. -/
theorem order_eq (y : S32768x8.Idx → EReal) (r : Fin 32768) (j : Fin 8) :
    (fun k k' : Fin 8 => FloatOps.cmpfTotal (F := Ideal) (φ := .f32) .gt (y ((ix2 r j : S32768x8.Idx).along 1 k)) (y ((ix2 r j : S32768x8.Idx).along 1 k')) == 1#1)
      = greater fun e => y (ix2 r e) := by
  funext k k'
  rw [along_eq, along_eq]
  rfl

/-- The first two columns of an array. -/
theorem slice_at {α : Type} (y : S32768x8.Idx → α) (r : Fin 32768) (k : Fin 2) :
    extractStridedSlice S32768x2 (fun _ => 0) y sliceFits_S32768x8_S32768x2 (ix2 r k) = y (ix2 r ⟨k.val, by omega⟩) := by
  unfold extractStridedSlice
  refine congrArg y (funext fun a => Fin.ext ?_)
  fin_cases a
  · exact Nat.zero_add _
  · exact Nat.zero_add _

/-- The values the reference takes off a row. -/
theorem top_values (y : S32768x8.Idx → EReal) (r : Fin 32768) (k : Fin 2) :
    (Host.topK (α := Ideal .f32) S32768x2 1 (FloatOps.cmpfTotal (F := Ideal) (φ := .f32) .gt) y sliceFits_S32768x8_S32768x2).1 (ix2 r k)
      = y (ix2 r (pick (fun e => y (ix2 r e)) ⟨k.val, by omega⟩)) := by
  unfold Host.topK
  dsimp only
  rw [slice_at]
  unfold Host.sort2
  rw [dif_pos (show 1 < S32768x8.rank by decide)]
  unfold pick
  rw [← order_eq y r ⟨k.val, by omega⟩]
  exact congrArg y (along_eq r ⟨k.val, by omega⟩ _)

/-- The positions it takes. -/
theorem top_indices (y : S32768x8.Idx → EReal) (r : Fin 32768) (k : Fin 2) :
    (Host.topK (α := Ideal .f32) S32768x2 1 (FloatOps.cmpfTotal (F := Ideal) (φ := .f32) .gt) y sliceFits_S32768x8_S32768x2).2 (ix2 r k)
      = BitVec.ofNat 32 (pick (fun e => y (ix2 r e)) ⟨k.val, by omega⟩).val := by
  unfold Host.topK
  dsimp only
  rw [slice_at]
  unfold Host.sort2
  rw [dif_pos (show 1 < S32768x8.rank by decide)]
  unfold pick
  rw [← order_eq y r ⟨k.val, by omega⟩]
  rfl

/-- The two values of a row. -/
theorem values_at (r : Fin 32768) (k : Fin 2) : (Read.val_main_values (F := Ideal) x0 x1 x2 : FVec Ideal S32768x2 .f32) (ix2 r k)
    = scores x0 x1 x2 r (pick (scores x0 x1 x2 r) ⟨k.val, by omega⟩) := by
  unfold Read.val_main_values
  rw [top_values, scores_at]
  have e : (fun e => (Read.val_main_v13 (F := Ideal) x0 x1 x2 : FVec Ideal S32768x8 .f32) (ix2 r e)) = scores x0 x1 x2 r := funext (scores_at x0 x1 x2 r)
  rw [e]

/-- The two positions of a row, as extended reals. -/
theorem index_at (r : Fin 32768) (k : Fin 2) : (Read.val_main_v26 (F := Ideal) x0 x1 x2 : FVec Ideal S32768x2 .f32) (ix2 r k)
    = (((pick (scores x0 x1 x2 r) ⟨k.val, by omega⟩).val : ℝ) : EReal) := by
  have e : (fun e => (Read.val_main_v13 (F := Ideal) x0 x1 x2 : FVec Ideal S32768x8 .f32) (ix2 r e)) = scores x0 x1 x2 r := funext (scores_at x0 x1 x2 r)
  unfold Read.val_main_v26 Read.val_main_indices
  pointwise
  rw [top_indices, e]
  exact word_real _

/-- The greater of the two values is the first. -/
theorem max_at (r : Fin 32768) : (Read.val_main_v16 (F := Ideal) x0 x1 x2 : FVec Ideal S32768 .f32) (ix1 r) = scores x0 x1 x2 r (pick (scores x0 x1 x2 r) 0) := by
  unfold Read.val_main_v16 Read.val_main_v15 Read.val_main_v14 Read.val_main_cst_2 Read.val_main_cst_3
  pointwise
  simp only [values_at]
  rw [lit_bot]
  refine (max_eq_right bot_le).trans ?_
  have h : ∀ g : Fin 2 → EReal, Finset.fold max ⊥ g Finset.univ = max (g 0) (g 1) := fun g => by
    rw [show (Finset.univ : Finset (Fin 2)) = {0, 1} from rfl, Finset.fold_insert (by decide), Finset.fold_singleton]
    rw [max_eq_left (bot_le : (⊥ : EReal) ≤ g 1)]
  refine (h _).trans (max_eq_left ?_)
  exact (picks_sorted (scores x0 x1 x2 r)).second_le

/-- The exponentials. -/
theorem exp_at (r : Fin 32768) (k : Fin 2) : (Read.val_main_v20 (F := Ideal) x0 x1 x2 : FVec Ideal S32768x2 .f32) (ix2 r k)
    = Ideal.exp (scores x0 x1 x2 r (pick (scores x0 x1 x2 r) ⟨k.val, by omega⟩) - scores x0 x1 x2 r (pick (scores x0 x1 x2 r) 0)) := by
  unfold Read.val_main_v20 Read.val_main_v19 Read.val_main_v18 Read.val_main_v17
  pointwise
  rw [values_at, max_at]

/-- The weights. -/
theorem weight_at (r : Fin 32768) (k : Fin 2) (hf : ∀ e, scores x0 x1 x2 r e ≠ ⊥) (hf' : ∀ e, scores x0 x1 x2 r e ≠ ⊤) :
    (Read.val_main_v24 (F := Ideal) x0 x1 x2 : FVec Ideal S32768x2 .f32) (ix2 r k)
      = if k.val = 0 then Ideal.div 1 (1 + share (scores x0 x1 x2 r)) else Ideal.div (share (scores x0 x1 x2 r)) (1 + share (scores x0 x1 x2 r)) := by
  have e0 : (Read.val_main_v20 (F := Ideal) x0 x1 x2 : FVec Ideal S32768x2 .f32) (ix2 r 0) = 1 := by
    rw [exp_at]
    exact (congrArg Ideal.exp (EReal.sub_self (hf' _) (hf _))).trans exp_zero'
  have e1 : (Read.val_main_v20 (F := Ideal) x0 x1 x2 : FVec Ideal S32768x2 .f32) (ix2 r 1) = share (scores x0 x1 x2 r) := by
    rw [exp_at]
    rfl
  unfold Read.val_main_v24 Read.val_main_v23 Read.val_main_v22 Read.val_main_v21 Read.val_main_cst_4
  pointwise
  rw [Fin.sum_univ_two, e0, e1]
  fin_cases k
  · exact (congrArg (fun z => Ideal.div z _) e0).trans (if_pos rfl).symm
  · exact (congrArg (fun z => Ideal.div z _) e1).trans (if_neg (by decide)).symm

set_option maxRecDepth 65536 in
/-- The reference's array of routes. -/
theorem route_at (r : Fin 32768) (b : Fin 128) (hf : ∀ e, scores x0 x1 x2 r e ≠ ⊥) (hf' : ∀ e, scores x0 x1 x2 r e ≠ ⊤) :
    (Read.val_main_v27 (F := Ideal) x0 x1 x2 : FVec Ideal S32768x128 .f32) (ix2 r b) = route (scores x0 x1 x2 r) b := by
  have hi := index_at x0 x1 x2 r
  have hw := fun k => weight_at x0 x1 x2 r k hf hf'
  unfold Read.val_main_v27 Read.val_main_v25 Read.val_main_cst_5
  revert hi hw
  generalize Read.val_main_v24 (F := Ideal) x0 x1 x2 = u
  generalize Read.val_main_v26 (F := Ideal) x0 x1 x2 = v
  intro hi hw
  pointwise
  unfold route
  by_cases h0 : b.val = 0
  · rw [if_pos h0, dif_pos (by omega), show (⟨b.val, by omega⟩ : Fin 2) = 0 from Fin.ext h0]
    exact hi 0
  rw [if_neg h0]
  by_cases h1 : b.val = 1
  · rw [if_pos h1, dif_pos (by omega), show (⟨b.val, by omega⟩ : Fin 2) = 1 from Fin.ext h1]
    exact hi 1
  rw [if_neg h1, dif_neg (by omega)]
  by_cases h2 : b.val = 2
  · rw [if_pos h2, dif_pos (by omega), show (⟨b.val - 2, by omega⟩ : Fin 2) = 0 from Fin.ext (by show b.val - 2 = 0; omega)]
    exact (hw 0).trans (if_pos rfl)
  rw [if_neg h2]
  by_cases h3 : b.val = 3
  · rw [if_pos h3, dif_pos (by omega), show (⟨b.val - 2, by omega⟩ : Fin 2) = 1 from Fin.ext (by show b.val - 2 = 1; omega)]
    exact (hw 1).trans (if_neg (by decide))
  rw [if_neg h3, dif_neg (by omega)]

end Cert.RouterRefIdeal.Val
end
-- ==== Proof.PrepIdealRunA.lean ====
module

public import proofs.«01_k».proof.Proof.Gen.PrepIdeal.Frame.Runs

@[expose] public section

-- membership in a rectangle of production extents (`View.cover_of_tiled`): the elaborator's structural look
-- recurses once per coordinate of the long axes
set_option maxRecDepth 16384

noncomputable section

namespace Cert.PrepIdeal.Run

open Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the first loop stores in the three scratch buffers. -/
def scr (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : List (View.Piece (Elt F) S4096x128 .f32) × List (View.Piece (Elt F) S4096x128 .f32) × List (View.Piece (Elt F) S4096x128 .f32) :=
  (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (harg4.unread x2) (harg7.unread x5) (harg8.unread x6) (harg9.unread x7) (Scf.trips k0_t1_loop.lb k0_t1_loop.ub k0_t1_loop.st))

/-- What the second loop stores in the six outputs, from the scratch as the first loop leaves it. -/
def pcs (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : List (View.Piece (Elt F) S4096x128 .f32) × List (View.Piece (Elt F) S4096x128 .bf16) × List (View.Piece (Elt F) S4096x128 .bf16) × List (View.Piece (Elt F) S1x1x64x128x64 .bf16) × List (View.Piece (Elt F) S1x1x64x64x64 .bf16) × List (View.Piece (Elt F) S1x1x64x128 .f32) :=
  (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay39 k0_pay40 k0_pay41 k0_pay42 k0_pay43 (k0_pay44 (arg10.view.readAt (Elt F) (Rect.unit (s := S4) (k0_off3 i) S1.size (k0_off3_inb i)).toLoadRect (harg10.unread x8) (Shape.Idx.first (numel1_S1.symm ▸ Nat.one_pos)))) (arg11.view.readAt (Elt F) (Rect.unit (s := S4) (k0_off3 i) S1.size (k0_off3_inb i)).toLoadRect (harg11.unread x9) (Shape.Idx.first (numel1_S1.symm ▸ Nat.one_pos))) (harg5.unread x3) (harg6.unread x4) (arg18.view.writes (Elt F) arg18.view.junk (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1) (arg19.view.writes (Elt F) arg19.view.junk (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1) (arg20.view.writes (Elt F) arg20.view.junk (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2) (Scf.trips k0_t2_loop.lb k0_t2_loop.ub k0_t2_loop.st))

/-- Stores that cover a whole buffer leave what they write, whatever stood there. -/
theorem settle {s : Shape} {e : EltTy} {sp : Space} (r : Memref sig .tc sp s e) (hr : r.IsWhole) (f g : BufTy.Contents (Elt F) r.view.ty)
    (L : List (View.Piece (Elt F) s e)) (h : ∀ y, ∃ p ∈ L, y ∈ p.1.set) : r.view.writes (Elt F) f L = r.view.writes (Elt F) g L :=
  hr.read_bijective.1 (View.read_writes_of_cover r.view f r.view g L h)

/-- The first loop's stores cover the scratch buffer 18. -/
theorem scr_cover18 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : ∀ y, ∃ p ∈ (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1, y ∈ p.1.set :=
  fun y => View.cover_of_tiledL (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1 S256x128.size (by sl_kernel_rfl) y

/-- The first loop's stores cover the scratch buffer 19. -/
theorem scr_cover19 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : ∀ y, ∃ p ∈ (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1, y ∈ p.1.set :=
  fun y => View.cover_of_tiledL (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1 S256x128.size (by sl_kernel_rfl) y

/-- The first loop's stores cover the scratch buffer 20. -/
theorem scr_cover20 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : ∀ y, ∃ p ∈ (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2, y ∈ p.1.set :=
  fun y => View.cover_of_tiledL (scr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2 S256x128.size (by sl_kernel_rfl) y

set_option maxHeartbeats 8000000 in
/-- The body runs on whole buffers: the inputs stay as they were, the outputs end with the pieces of the second loop
    written. -/
theorem run_body (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1) ∗ (∃ f, arg13.view.loc (c : Thread nD τ) ↦[arg13.view.set]{fullShare} arg13.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1) ∗ (∃ f, arg14.view.loc (c : Thread nD τ) ↦[arg14.view.set]{fullShare} arg14.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1) ∗ (∃ f, arg15.view.loc (c : Thread nD τ) ↦[arg15.view.set]{fullShare} arg15.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1) ∗ (∃ f, arg16.view.loc (c : Thread nD τ) ↦[arg16.view.set]{fullShare} arg16.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.1) ∗ (∃ f, arg17.view.loc (c : Thread nD τ) ↦[arg17.view.set]{fullShare} arg17.view.writes (Elt F) f (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.2) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gdn_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_gdn_prep_eq_skeleton]; unfold cc0_gdn_prep_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    rw [settle arg18 harg18 fs0 arg18.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (harg4.unread x2) (harg7.unread x5) (harg8.unread x6) (harg9.unread x7) (Scf.trips k0_t1_loop.lb k0_t1_loop.ub k0_t1_loop.st)).1 (scr_cover18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9), settle arg19 harg19 fs1 arg19.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (harg4.unread x2) (harg7.unread x5) (harg8.unread x6) (harg9.unread x7) (Scf.trips k0_t1_loop.lb k0_t1_loop.ub k0_t1_loop.st)).2.1 (scr_cover19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9), settle arg20 harg20 fs2 arg20.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (harg4.unread x2) (harg7.unread x5) (harg8.unread x6) (harg9.unread x7) (Scf.trips k0_t1_loop.lb k0_t1_loop.ub k0_t1_loop.st)).2.2 (scr_cover20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces of the six outputs, with the run that writes them. -/
noncomputable def kernelRun0_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) :
    Σ' (L10 : List (View.Piece (Elt F) S4096x128 .f32)), Σ' (L11 : List (View.Piece (Elt F) S4096x128 .bf16)), Σ' (L12 : List (View.Piece (Elt F) S4096x128 .bf16)), Σ' (L13 : List (View.Piece (Elt F) S1x1x64x128x64 .bf16)), Σ' (L14 : List (View.Piece (Elt F) S1x1x64x64x64 .bf16)), { L15 : List (View.Piece (Elt F) S1x1x64x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gdn_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } :=
  ⟨(pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1, (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1, (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1, (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1, (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.1, (pcs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.2, run_body c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9⟩

end Cert.PrepIdeal.Run

end
-- ==== Proof.PrepIdealFrame.lean ====
module

public import proofs.«01_k».proof.Proof.PrepIdealRunA
public import Idealize.ShloMosaic.Lib.Claim

/-! # The preparation of the delta rule: the whole call runs -/

@[expose] public section

set_option maxRecDepth 16384

noncomputable section

namespace Cert.PrepIdeal.Run

open Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The stores into this output cover its block. -/
theorem cover0_A_10 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1 S1024x128.size (by sl_kernel_rfl) y

/-- What a point leaves in this output's buffer. -/
def out0_A_10 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S4096x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1)

/-- The stores into this output cover its block. -/
theorem cover0_A_11 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1 S1024x128.size (by sl_kernel_rfl) y

/-- What a point leaves in this output's buffer. -/
def out0_A_11 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S4096x128 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1)

/-- The stores into this output cover its block. -/
theorem cover0_A_12 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1 S1024x128.size (by sl_kernel_rfl) y

/-- What a point leaves in this output's buffer. -/
def out0_A_12 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S4096x128 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1)

/-- The stores into this output cover its block. -/
theorem cover0_A_13 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S1x1x64x128x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1 S1x1x16x128x64.size (by sl_kernel_rfl) y

/-- What a point leaves in this output's buffer. -/
def out0_A_13 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S1x1x64x128x64 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1)

/-- The stores into this output cover its block. -/
theorem cover0_A_14 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S1x1x64x64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.1 S1x1x16x64x64.size (by sl_kernel_rfl) y

/-- What a point leaves in this output's buffer. -/
def out0_A_14 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S1x1x64x64x64 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.1)

/-- The stores into this output cover its block. -/
theorem cover0_A_15 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) (y : S1x1x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.2.1 S1x1x16x128.size (by sl_kernel_rfl) y

/-- What a point leaves in this output's buffer. -/
def out0_A_15 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec F S4096x128 .f32) (x1 : Vec F S4096x128 .f32) (x2 : Vec F S4096x128 .f32) (x3 : Vec F S1x1x64x64 .f32) (x4 : Vec F S1x1x64x64 .f32) (x5 : Vec F S4x128 .f32) (x6 : Vec F S4x128 .f32) (x7 : Vec F S4x128 .f32) (x8 : Vec F S4 .f32) (x9 : Vec F S4 .f32) : Vec F S1x1x64x128 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.2.2.1)

/-- What the six outputs' buffers hold after a point. -/
def outsAt0 (c : Dev nD) (t : Fin cfg0.N) : Vec F S4096x128 .f32 × Vec F S4096x128 .bf16 × Vec F S4096x128 .bf16 × Vec F S1x1x64x128x64 .bf16 × Vec F S1x1x64x64x64 .bf16 × Vec F S1x1x64x128 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))

/-- The data of the run: each input's buffer at its block, each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2.1
    | ⟨12, _⟩ => (outsAt0 m c t).2.2.1
    | ⟨13, _⟩ => (outsAt0 m c t).2.2.2.1
    | ⟨14, _⟩ => (outsAt0 m c t).2.2.2.2.1
    | ⟨15, _⟩ => (outsAt0 m c t).2.2.2.2.2
    | ⟨_ + 16, h⟩ => absurd h (Nat.not_lt.2 (Nat.le_add_left _ _))
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

/-- What a buffer holds after a point. -/
theorem after0_0 (c : Dev nD) (t : Fin cfg0.N) : (dats m 0 c).after 0 t = iblk m c 0 t := by dsimp only [dats]
/-- What a buffer holds after a point. -/
theorem after0_1 (c : Dev nD) (t : Fin cfg0.N) : (dats m 0 c).after 1 t = iblk m c 1 t := by dsimp only [dats]
/-- What a buffer holds after a point. -/
theorem after0_2 (c : Dev nD) (t : Fin cfg0.N) : (dats m 0 c).after 2 t = iblk m c 2 t := by dsimp only [dats]
/-- What a buffer holds after a point. -/
theorem after0_3 (c : Dev nD) (t : Fin cfg0.N) : (dats m 0 c).after 3 t = iblk m c 3 t := by dsimp only [dats]
/-- What a buffer holds after a point. -/
theorem after0_4 (c : Dev nD) (t : Fin cfg0.N) : (dats m 0 c).after 4 t = iblk m c 4 t := by dsimp only [dats]
/-- What a buffer holds after a point. -/
theorem after0_5 (c : Dev nD) (t : Fin cfg0.N) : (dats m 0 c).after 5 t = iblk m c 5 t := by dsimp only [dats]
/-- What a buffer holds after a point. -/
theorem after0_6 (c : Dev nD) (t : Fin cfg0.N) : (dats m 0 c).after 6 t = iblk m c 6 t := by dsimp only [dats]
/-- What a buffer holds after a point. -/
theorem after0_7 (c : Dev nD) (t : Fin cfg0.N) : (dats m 0 c).after 7 t = iblk m c 7 t := by dsimp only [dats]
/-- What a buffer holds after a point. -/
theorem after0_8 (c : Dev nD) (t : Fin cfg0.N) : (dats m 0 c).after 8 t = iblk m c 8 t := by dsimp only [dats]
/-- What a buffer holds after a point. -/
theorem after0_9 (c : Dev nD) (t : Fin cfg0.N) : (dats m 0 c).after 9 t = iblk m c 9 t := by dsimp only [dats]
/-- What a buffer holds after a point. -/
theorem after0_10 (c : Dev nD) (t : Fin cfg0.N) : (dats m 0 c).after 10 t = (outsAt0 m c t).1 := by dsimp only [dats]
/-- What a buffer holds after a point. -/
theorem after0_11 (c : Dev nD) (t : Fin cfg0.N) : (dats m 0 c).after 11 t = (outsAt0 m c t).2.1 := by dsimp only [dats]
/-- What a buffer holds after a point. -/
theorem after0_12 (c : Dev nD) (t : Fin cfg0.N) : (dats m 0 c).after 12 t = (outsAt0 m c t).2.2.1 := by dsimp only [dats]
/-- What a buffer holds after a point. -/
theorem after0_13 (c : Dev nD) (t : Fin cfg0.N) : (dats m 0 c).after 13 t = (outsAt0 m c t).2.2.2.1 := by dsimp only [dats]
/-- What a buffer holds after a point. -/
theorem after0_14 (c : Dev nD) (t : Fin cfg0.N) : (dats m 0 c).after 14 t = (outsAt0 m c t).2.2.2.2.1 := by dsimp only [dats]
/-- What a buffer holds after a point. -/
theorem after0_15 (c : Dev nD) (t : Fin cfg0.N) : (dats m 0 c).after 15 t = (outsAt0 m c t).2.2.2.2.2 := by dsimp only [dats]

/-- An input's buffer holds its block when the point begins. -/
theorem before0_0 (c : Dev nD) (t : Fin cfg0.N) (d) : (dats m 0 c).before 0 t d = iblk m c 0 t :=
  before0_0_of m (dats m 0 c) (A_eq m c 0) (after0_0 m c) t d
/-- An input's buffer holds its block when the point begins. -/
theorem before0_1 (c : Dev nD) (t : Fin cfg0.N) (d) : (dats m 0 c).before 1 t d = iblk m c 1 t :=
  before0_1_of m (dats m 0 c) (A_eq m c 1) (after0_1 m c) t d
/-- An input's buffer holds its block when the point begins. -/
theorem before0_2 (c : Dev nD) (t : Fin cfg0.N) (d) : (dats m 0 c).before 2 t d = iblk m c 2 t :=
  before0_2_of m (dats m 0 c) (A_eq m c 2) (after0_2 m c) t d
/-- An input's buffer holds its block when the point begins. -/
theorem before0_3 (c : Dev nD) (t : Fin cfg0.N) (d) : (dats m 0 c).before 3 t d = iblk m c 3 t :=
  before0_3_of m (dats m 0 c) (A_eq m c 3) (after0_3 m c) t d
/-- An input's buffer holds its block when the point begins. -/
theorem before0_4 (c : Dev nD) (t : Fin cfg0.N) (d) : (dats m 0 c).before 4 t d = iblk m c 4 t :=
  before0_4_of m (dats m 0 c) (A_eq m c 4) (after0_4 m c) t d
/-- An input's buffer holds its block when the point begins. -/
theorem before0_5 (c : Dev nD) (t : Fin cfg0.N) (d) : (dats m 0 c).before 5 t d = iblk m c 5 t :=
  before0_5_of m (dats m 0 c) (A_eq m c 5) (after0_5 m c) t d
/-- An input's buffer holds its block when the point begins. -/
theorem before0_6 (c : Dev nD) (t : Fin cfg0.N) (d) : (dats m 0 c).before 6 t d = iblk m c 6 t :=
  before0_6_of m (dats m 0 c) (A_eq m c 6) (after0_6 m c) t d
/-- An input's buffer holds its block when the point begins. -/
theorem before0_7 (c : Dev nD) (t : Fin cfg0.N) (d) : (dats m 0 c).before 7 t d = iblk m c 7 t :=
  before0_7_of m (dats m 0 c) (A_eq m c 7) (after0_7 m c) t d
/-- An input's buffer holds its block when the point begins. -/
theorem before0_8 (c : Dev nD) (t : Fin cfg0.N) (d) : (dats m 0 c).before 8 t d = iblk m c 8 t :=
  before0_8_of m (dats m 0 c) (A_eq m c 8) (after0_8 m c) t d
/-- An input's buffer holds its block when the point begins. -/
theorem before0_9 (c : Dev nD) (t : Fin cfg0.N) (d) : (dats m 0 c).before 9 t d = iblk m c 9 t :=
  before0_9_of m (dats m 0 c) (A_eq m c 9) (after0_9 m c) t d

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 1600000 in
/-- The body keeps its promise at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold outsAt0
  unfold out0_A_10 out0_A_11 out0_A_12 out0_A_13 out0_A_14 out0_A_15; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, ⟨%e10, H10⟩, ⟨%e11, H11⟩, ⟨%e12, H12⟩, ⟨%e13, H13⟩, ⟨%e14, H14⟩, ⟨%e15, H15⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _)

/-- The body at a point's buffers. -/
theorem defs₀_row (t : Fin cfg0.N) :
    defs₀ (F := F) .tc cfg0.body (cfg0.bodyArgs t (cfg0.slots t)) = bodyAt0 t := by
  unfold defs₀; rw [Defs.onTc_tc]

/-- The same in the pipeline's terms. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call ends with its arrays as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The call ends with its arrays as the data say. -/
theorem run_main : θ_run defs (onTc (τ := τ) (main (F := F))) (s₀ m ρ) (Pipeline.FramePost cfgs (dats m) 0 (V m)) :=
  (θ_run defs _ _).mono (fun _ h => h.1) (run_main_quiescent m ρ)

/-- It leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Both: the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.PrepIdeal.Run

end
-- ==== Proof.PrepPay.lean ====
module

public import proofs.«01_k».proof.Proof.Gen.PrepIdeal.Skeleton
public import Idealize.ShloMosaic.Lib.Pipeline.ValueKit
public import Idealize.ShloMosaic.Lib.Pipeline.ReadBack

/-! # The preparation of the delta rule: the decays, entry by entry -/

@[expose] public section

set_option maxRecDepth 16384

noncomputable section

namespace Cert.PrepIdeal.Pay

open Cert.PrepIdeal.Gen
open Idealize.ShloMosaic Idealize.ShloMosaic.TcCoe Idealize.SL.Sem

/-- The soft maximum of a number and zero. -/
def soft (z : EReal) : EReal := max z 0 + Ideal.log (1 + Ideal.exp (0 - max z (-z)))

/-- The factor by which the chunk `c` of the head `h` decays the state. -/
def decayAt (x : (⟨4, ![8, 4, 64, 64]⟩ : Shape).Idx → EReal) (w d : (⟨1, ![4]⟩ : Shape).Idx → EReal) (b : Fin 8) (h : Fin 4) (c : Fin 64) : EReal :=
  Ideal.exp (∑ j : Fin 64, (0 - Ideal.exp (w (ix1 h))) * soft (x (ix4 b h c j) + d (ix1 h)))

/-- The log decays, summed up to the position `b`. -/
theorem pay12_at (w : FVec Ideal S64x64 .f32) (g : FVec Ideal S1x64 .f32) (d : EReal) (x : FVec Ideal S1x1x16x64 .f32) (a : Fin 16) (b : Fin 64) :
    (k0_pay12 (F := Ideal) w g d x : FVec Ideal S16x64 .f32) (ix2 a b) = ∑ j : Fin 64, (g (ix2 0 j) * soft (x (ix4 0 0 a j) + d)) * w (ix2 j b) := by
  unfold k0_pay12 soft
  pointwise
  rfl

/-- The last column of the triangle of ones. -/
theorem pay43_at (j : Fin 64) : (k0_pay43 (F := Ideal) : FVec Ideal S64x64 .f32) (ix2 j 63) = 1 := by
  unfold k0_pay43
  pointwise
  revert j
  have h : ∀ j : Fin 64, IntOp.cmpi CmpIPredicate.sle (BitVec.ofNat 32 j.val) 63#32 = 1#1 := by decide +kernel
  intro j
  rw [h j]
  rfl

/-- The head's factor. -/
theorem pay44_at (e : EReal) (j : Fin 64) : (k0_pay44 (F := Ideal) e : FVec Ideal S1x64 .f32) (ix2 0 j) = 0 - Ideal.exp e := by
  unfold k0_pay44
  pointwise

/-- The chunk's decay, in every lane. -/
theorem pay36_at (v : FVec Ideal S16x64 .f32) (a : Fin 16) (b : Fin 128) :
    (k0_pay36 (F := Ideal) v : FVec Ideal S16x128 .f32) (ix2 a b) = Ideal.exp (v (ix2 a 63)) := by
  unfold k0_pay36
  pointwise

/-- The same, at the block's shape. -/
theorem pay1_at (v : FVec Ideal S16x128 .f32) (a : Fin 16) (b : Fin 128) :
    (k0_pay1 (F := Ideal) v : FVec Ideal S1x1x16x128 .f32) (ix4 0 0 a b) = v (ix2 a b) := by
  unfold k0_pay1
  pointwise

end Cert.PrepIdeal.Pay
-- ==== Proof.PrepLoop.lean ====
module

public import proofs.«01_k».proof.Proof.Gen.PrepIdeal.Loops
public import Idealize.ShloMosaic.Lib.Pipeline.ValueKit
public import Idealize.ShloMosaic.Lib.Pipeline.ReadBack
public import Idealize.ShloMosaic.Lib.WritesUnit

/-! # The preparation of the delta rule: the loop that writes the decays -/

@[expose] public section

set_option maxRecDepth 16384

noncomputable section

namespace Cert.PrepIdeal.Loop

open Cert.PrepIdeal.Gen
open Idealize.ShloMosaic Idealize.ShloMosaic.TcCoe Idealize.SL.Sem

variable {F : FTy → Type} [FloatOps F]

/-- What the trip `k` writes into the chunk decays: sixteen chunks' rows. -/
theorem trip_decay (𝒱 : Variants) (c : Dev nD) (bd : Option 𝒱.V) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (v19 : IVec S1024x64 1) (v20 : IVec S1024x64 1) (v23 : IVec S16x64x64 1) (v27 : FVec F S16x64x64 .f32) (v33 : FVec F S64x64 .f32) (v39 : FVec F S1x64 .f32) (v41 : Elt F .f32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (k : Fin k0_t2_loop.trips) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v20 v23 v27 v33 v39 v41 X_arg5 X_arg6 X_arg18 X_arg19 X_arg20 k).2.2.2.2.2.1
      = [⟨Rect.unit (s := S1x1x64x128) (k0_off8 k) S1x1x16x128.size (k0_off8_inb k), k0_pay1 (k0_pay36 (k0_pay12 v33 v39 v41 (arg5.view.readAt (Elt F) (Rect.unit (s := S1x1x64x64) (k0_off5 k) S1x1x16x64.size (k0_off5_inb k)).toLoadRect X_arg5)))⟩] := by
  unfold trip_k0_t2
  rfl

/-- Where the trip writes. -/
theorem off8_eq : ∀ k : Fin k0_t2_loop.trips, k0_off8 k = ![0, 0, 16 * k.val, 0] := by decide +kernel

/-- Where it reads. -/
theorem off5_eq : ∀ k : Fin k0_t2_loop.trips, k0_off5 k = ![0, 0, 16 * k.val, 0] := by decide +kernel

/-- The rows of a trip among the chunk decays, once it has run. -/
theorem pieces_decay (𝒱 : Variants) (c : Dev nD) (bd : Option 𝒱.V) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (v19 : IVec S1024x64 1) (v20 : IVec S1024x64 1) (v23 : IVec S16x64x64 1) (v27 : FVec F S16x64x64 .f32) (v33 : FVec F S64x64 .f32) (v39 : FVec F S1x64 .f32) (v41 : Elt F .f32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (v : View sig .tc .vmem S1x1x64x128 .f32) (f : v.ty.Contents (Elt F)) (k : Fin k0_t2_loop.trips) (a : Fin 16) (b : Fin 128) (r : Fin 64) (hr : r.val = 16 * k.val + a.val) (n : ℕ) (hn : n ≤ k0_t2_loop.trips) (hk : k.val < n) :
    v.read (Elt F) (v.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v20 v23 v27 v33 v39 v41 X_arg5 X_arg6 X_arg18 X_arg19 X_arg20 n).2.2.2.2.2) (ix4 0 0 r b)
      = k0_pay1 (k0_pay36 (k0_pay12 v33 v39 v41 (arg5.view.readAt (Elt F) (Rect.unit (s := S1x1x64x64) (k0_off5 k) S1x1x16x64.size (k0_off5_inb k)).toLoadRect X_arg5))) (ix4 0 0 a b) := by
  induction n with
  | zero => exact absurd hk (Nat.not_lt_zero _)
  | succ n ih =>
    have e := congrArg (fun p => p.2.2.2.2.2) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v20 v23 v27 v33 v39 v41 X_arg5 X_arg6 X_arg18 X_arg19 X_arg20 ⟨n, hn⟩)
    refine (congrArg (fun L => v.read (Elt F) (v.writes (Elt F) f L) (ix4 0 0 r b)) e).trans ?_
    dsimp only
    rw [trip_decay]
    by_cases h : k.val = n
    · obtain rfl : k = ⟨n, hn⟩ := Fin.ext h
      refine View.read_writes_cons_unit_of_mem v f _ _ _ (ix4 0 0 r b) (ix4 0 0 a b) (off8_eq _) ?_
      intro x
      fin_cases x
      · rfl
      · rfl
      · exact hr
      · exact (Nat.zero_add _).symm
    · refine (View.read_writes_cons_unit_of_not_mem v f _ _ _ (ix4 0 0 r b) (off8_eq _) (2 : Fin 4) ?_).trans (ih (Nat.le_of_succ_le hn) (Nat.lt_of_le_of_ne (Nat.le_of_lt_succ hk) h))
      left
      show r.val < 16 * n
      have := a.isLt
      omega

end Cert.PrepIdeal.Loop
-- ==== Proof.PrepValue.lean ====
module

public import proofs.«01_k».proof.Proof.PrepIdealFrame
public import proofs.«01_k».proof.Proof.PrepLoop
public import proofs.«01_k».proof.Proof.PrepPay
public import Idealize.ShloMosaic.Lib.Pipeline.ValueKit
public import Idealize.ShloMosaic.Lib.Pipeline.ReadBack
public import Idealize.ShloMosaic.Lib.StableHlo.ReadAt
public import Idealize.ShloMosaic.Lib.Pipeline.Covers
public import Idealize.ShloMosaic.Lib.WholeRead

/-! # The preparation of the delta rule: the chunk decays the call leaves

A point has one head of one sequence: four trips of sixteen chunks, each writing its chunks' decays. -/

@[expose] public section

set_option maxRecDepth 16384

noncomputable section

namespace Cert.PrepIdeal.Val

open Idealize.ShloMosaic Idealize.ShloMosaic.TcCoe Idealize.SL.Sem Cert.PrepIdeal Cert.PrepIdeal.Gen Cert.PrepIdeal.Run Cert.PrepIdeal.Pay

variable (m : (ℓ : Loc nD τ sig) → Buf (Elt Ideal) ℓ)

/-- Where the body reads a head's two numbers. -/
theorem off3_eq (i : grid0.Coords) : k0_off3 i = ![(i 1).val] := by
  revert i; decide +kernel

/-- A head's number among the four. -/
theorem head_at (i : grid0.Coords) (h : Fin 4) (hh : (i 1).val = h.val) (r : Memref sig .tc .smem S4 .f32) (hr : r.IsWhole) (x : Vec Ideal S4 .f32) (y : S1.Idx) :
    r.view.readAt (Elt Ideal) (Rect.unit (s := S4) (k0_off3 i) S1.size (k0_off3_inb i)).toLoadRect (hr.unread x) y = x (ix1 h) := by
  rw [Memref.IsWhole.readAt_unread]
  refine congrArg x ?_
  funext a
  fin_cases a
  refine Fin.ext ?_
  have e : k0_off3 i 0 = (i 1).val := congrFun (off3_eq i) 0
  have y0 : (y 0).val = 0 := Nat.lt_one_iff.mp (y 0).isLt
  show k0_off3 i 0 + 1 * (y 0).val = h.val
  rw [e, y0, hh, Nat.mul_zero, Nat.add_zero]

/-- The rows of a trip's chunks. -/
theorem rows_at (k : Fin k0_t2_loop.trips) (a : Fin 16) (j : Fin 64) (q : Fin 64) (hq : q.val = 16 * k.val + a.val) (r : Memref sig .tc .vmem S1x1x64x64 .f32) (hr : r.IsWhole) (x : Vec Ideal S1x1x64x64 .f32) :
    r.view.readAt (Elt Ideal) (Rect.unit (s := S1x1x64x64) (k0_off5 k) S1x1x16x64.size (k0_off5_inb k)).toLoadRect (hr.unread x) (ix4 0 0 a j) = x (ix4 0 0 q j) := by
  rw [Memref.IsWhole.readAt_unread]
  refine congrArg x ?_
  have e := Loop.off5_eq k
  funext b
  refine Fin.ext ?_
  fin_cases b
  · show k0_off5 k 0 + 1 * 0 = 0
    rw [e]; rfl
  · show k0_off5 k 1 + 1 * 0 = 0
    rw [e]; rfl
  · show k0_off5 k 2 + 1 * a.val = q.val
    rw [e, hq, Nat.one_mul]; rfl
  · show k0_off5 k 3 + 1 * j.val = j.val
    rw [e, Nat.one_mul]; exact Nat.zero_add _

/-- The decays a point leaves, whatever its buffers. -/
theorem out_at (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x64x64 .f32) (harg5 : arg5.IsWhole) (arg6 : Memref sig .tc .vmem S1x1x64x64 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .smem S4 .f32) (harg10 : arg10.IsWhole) (arg11 : Memref sig .tc .smem S4 .f32) (harg11 : arg11.IsWhole) (arg12 : Memref sig .tc .vmem S4096x128 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x64x128x64 .bf16) (harg15 : arg15.IsWhole) (arg16 : Memref sig .tc .vmem S1x1x64x64x64 .bf16) (harg16 : arg16.IsWhole) (arg17 : Memref sig .tc .vmem S1x1x64x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole)
    (x0 : Vec Ideal S4096x128 .f32) (x1 : Vec Ideal S4096x128 .f32) (x2 : Vec Ideal S4096x128 .f32) (x3 : Vec Ideal S1x1x64x64 .f32) (x4 : Vec Ideal S1x1x64x64 .f32) (x5 : Vec Ideal S4x128 .f32) (x6 : Vec Ideal S4x128 .f32) (x7 : Vec Ideal S4x128 .f32) (x8 : Vec Ideal S4 .f32) (x9 : Vec Ideal S4 .f32) (h : Fin 4) (hh : (i 1).val = h.val) (q : Fin 64) (l : Fin 128) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 (ix4 0 0 q l)
      = Ideal.exp (∑ j : Fin 64, (0 - Ideal.exp (x8 (ix1 h))) * soft (x3 (ix4 0 0 q j) + x9 (ix1 h))) := by
  have hk : q.val / 16 < k0_t2_loop.trips := Nat.lt_of_lt_of_le (by omega : q.val / 16 < 4) (by decide +kernel)
  have hq : q.val = 16 * (⟨q.val / 16, hk⟩ : Fin k0_t2_loop.trips).val + (⟨q.val % 16, Nat.mod_lt _ (by omega)⟩ : Fin 16).val := by dsimp only; omega
  unfold out0_A_15
  refine (Loop.pieces_decay (F := Ideal) _ _ _ _ _ _ _ _ _ _ _ _ _ _ _ _ _ _ _ _ _ _ _ _ _ _ _ _ _ _ _ _ _ _ _ _ _ _ _ _ _ _ _ _ _ _ _ _ _ _ _ _ _ _ VO0_15 VO0_15.junk ⟨q.val / 16, hk⟩ ⟨q.val % 16, Nat.mod_lt _ (by omega)⟩ l q hq k0_t2_loop.trips le_rfl hk).trans ?_
  rw [pay1_at, pay36_at, pay12_at]
  refine congrArg Ideal.exp (Finset.sum_congr rfl fun j _ => ?_)
  rw [pay43_at, mul_one, pay44_at, rows_at _ _ _ q hq, head_at i h hh, head_at i h hh]

/-- The blocks of the rows: the point `t` is the head `t % 4` of the sequence `t / 4`. -/
theorem rows_index : ∀ t : Fin grid0.N, cc0_transform_3 (grid0.coords t) = ![t.val / 4, t.val % 4, 0, 0] := by decide +kernel

/-- The blocks of the decays. -/
theorem decay_index : ∀ t : Fin grid0.N, cc0_transform_15 (grid0.coords t) = ![t.val / 4, t.val % 4, 0, 0] := by decide +kernel

/-- The head of a point. -/
theorem head_eq : ∀ t : Fin grid0.N, (grid0.coords t 1).val = t.val % 4 := by decide +kernel

/-- A block's coordinate on an axis, from its block index there. -/
theorem ax {z w n a r : ℕ} (h : z = w) (g : w * n + a = r) : z * n + a = r := h ▸ g

/-- The same where the block's extent is one, or its index zero. -/
theorem ax0 {z w a r : ℕ} (h : z = w) (g : w + a = r) : z + a = r := h ▸ g

abbrev A1 : S8x4x64x64.Idx → EReal := m (((0 : Dev nD).tc : Thread nD τ).loc main_arg1)
abbrev A4 : S4.Idx → EReal := m (((0 : Dev nD).tc : Thread nD τ).loc main_arg4)
abbrev A5 : S4.Idx → EReal := m (((0 : Dev nD).tc : Thread nD τ).loc main_arg5)

/-- The three blocks the decays need, at their literal shapes. -/
def B3 (t : Fin grid0.N) : FVec Ideal S1x1x64x64 .f32 := iblk m 0 3 t
def B8 (t : Fin grid0.N) : FVec Ideal S4 .f32 := iblk m 0 8 t
def B9 (t : Fin grid0.N) : FVec Ideal S4 .f32 := iblk m 0 9 t

/-- The rows of a point. -/
theorem B3_at (t : Fin grid0.N) (b : Fin 8) (h : Fin 4) (hb : b.val = t.val / 4) (hh : h.val = t.val % 4) (q j : Fin 64) :
    B3 m t (ix4 0 0 q j) = A1 m (ix4 b h q j) := by
  show V m 0 main_arg1 (((cfg0.win 3).blk t).view.emb (ix4 0 0 q j)) = _
  refine Eq.trans ?_ (rfl : V m 0 main_arg1 (ix4 b h q j) = _)
  have i0 : (cfg0.win 3).index t 0 = t.val / 4 := congrFun (rows_index t) 0
  have i1 : (cfg0.win 3).index t 1 = t.val % 4 := congrFun (rows_index t) 1
  have i2 : (cfg0.win 3).index t 2 = 0 := congrFun (rows_index t) 2
  have i3 : (cfg0.win 3).index t 3 = 0 := congrFun (rows_index t) 3
  blk_ext []
  · exact ax0 i0 (by omega)
  · exact ax0 i1 (by omega)
  · exact ax i2 (by omega)
  · exact ax i3 (by omega)

/-- The heads' rates. -/
theorem B8_at (t : Fin grid0.N) (h : Fin 4) : B8 m t (ix1 h) = A4 m (ix1 h) := by
  show V m 0 main_arg4 (((cfg0.win 8).blk t).view.emb (ix1 h)) = _
  refine Eq.trans ?_ (rfl : V m 0 main_arg4 (ix1 h) = _)
  have i0 : (cfg0.win 8).index t 0 = 0 := rfl
  blk_ext []
  exact ax i0 (by omega)

/-- The heads' offsets. -/
theorem B9_at (t : Fin grid0.N) (h : Fin 4) : B9 m t (ix1 h) = A5 m (ix1 h) := by
  show V m 0 main_arg5 (((cfg0.win 9).blk t).view.emb (ix1 h)) = _
  refine Eq.trans ?_ (rfl : V m 0 main_arg5 (ix1 h) = _)
  have i0 : (cfg0.win 9).index t 0 = 0 := rfl
  blk_ext []
  exact ax i0 (by omega)

/-- The blocks written back cover the decays. -/
theorem covers15 : (cfg0.win 15).Covers := by decide +kernel

/-- The decays a point leaves. -/
theorem point_at (t : Fin grid0.N) (b : Fin 8) (h : Fin 4) (hb : b.val = t.val / 4) (hh : h.val = t.val % 4) (q : Fin 64) (l : Fin 128) :
    ((outsAt0 m 0 t).2.2.2.2.2 : FVec Ideal S1x1x64x128 .f32) (ix4 0 0 q l) = decayAt (A1 m) (A4 m) (A5 m) b h q := by
  unfold outsAt0
  dsimp only
  refine (out_at _ _ _ _ _ _ _ _ _ _ _ _ _ _ _ _ _ _ _ _ _ _ _ _ _ _ _ _ _ _ _ _ _ _ _ _ _ _ _ _ _ _ _ _ _ _ _ _ _ _ h ((head_eq t).trans hh.symm) q l).trans ?_
  show Ideal.exp (∑ j : Fin 64, (0 - Ideal.exp (B8 m t (ix1 h))) * soft (B3 m t (ix4 0 0 q j) + B9 m t (ix1 h))) = _
  rw [B8_at, B9_at]
  simp only [B3_at m t b h hb hh]
  rfl

/-- The decays after the run. -/
theorem final : (dats m 0 0).arrAt 15 cfg0.N = fun i : S8x4x64x128.Idx => decayAt (A1 m) (A4 m) (A5 m) (i 0) (i 1) (i 2) := by
  refine (dats m 0 0).arrAt_eq_of_covers 15 _ covers15 fun t hf y => ?_
  have i0 : (cfg0.win 15).index t 0 = t.val / 4 := congrFun (decay_index t) 0
  have i1 : (cfg0.win 15).index t 1 = t.val % 4 := congrFun (decay_index t) 1
  have i2 : (cfg0.win 15).index t 2 = 0 := congrFun (decay_index t) 2
  blk_simp
  rw [after0_15]
  obtain ⟨q, l, rfl⟩ : ∃ (q : Fin 64) (l : Fin 128), y = ix4 0 0 q l := ⟨y (2 : Fin 4), y (3 : Fin 4), by funext k; fin_cases k <;> first | rfl | exact Subsingleton.elim (α := Fin 1) _ _⟩
  have e0 : (((cfg0.win 15).blk t).view.emb (ix4 0 0 q l) (0 : Fin 4)).val = t.val / 4 := by blk_simp; exact ax0 i0 rfl
  have e1 : (((cfg0.win 15).blk t).view.emb (ix4 0 0 q l) (1 : Fin 4)).val = t.val % 4 := by blk_simp; exact ax0 i1 rfl
  have e2 : ((cfg0.win 15).blk t).view.emb (ix4 0 0 q l) (2 : Fin 4) = q := Fin.ext (by blk_simp; exact ax i2 (by omega))
  rw [e2]
  exact point_at m t _ _ e0 e1 q l

end Cert.PrepIdeal.Val
end
-- ==== Proof.PrepRef.lean ====
module

public import proofs.«01_k».proof.Proof.Gen.PrepRefIdeal.Run
public import proofs.«01_k».proof.Proof.Gen.PrepRefIdeal.Read
public import proofs.«01_k».proof.Proof.PrepPay

/-! # The reference of the chunk decays, at one entry -/

@[expose] public section

set_option maxRecDepth 16384

noncomputable section

namespace Cert.PrepRefIdeal.Val

open Idealize.ShloMosaic Idealize.ShloMosaic.TcCoe Idealize.SL.Sem Cert.PrepRefIdeal Cert.PrepRefIdeal.Gen
open Cert.PrepIdeal.Pay (soft decayAt)

/-- The reference's log decay at a position. -/
theorem log_at (x1 : FVec Ideal S8x4x64x64 .f32) (x4 x5 : FVec Ideal S4 .f32) (b : Fin 8) (h : Fin 4) (c j : Fin 64) :
    (Read.val_main_v8 (F := Ideal) x1 x4 x5 : FVec Ideal S8x4x64x64 .f32) (ix4 b h c j) = (0 - Ideal.exp (x4 (ix1 h))) * soft (x1 (ix4 b h c j) + x5 (ix1 h)) := by
  unfold Read.val_main_v8 Read.val_main_v7 Read.val_main_v6 Read.val_main_call0_v11 Read.val_main_call0_v10 Read.val_main_call0_v9 Read.val_main_call0_v8 Read.val_main_call0_v7 Read.val_main_call0_v6 Read.val_main_call0_v5 Read.val_main_call0_v4 Read.val_main_call0_v3 Read.val_main_call0_v2 Read.val_main_call0_v1 Read.val_main_call0_v0 Read.val_main_v5 Read.val_main_v4 Read.val_main_v3 Read.val_main_v2 Read.val_main_v1 Read.val_main_v0 Read.val_main_call0_cst soft
  pointwise
  rw [if_neg (fun h => h rfl), zero_sub, zero_sub]
  rfl

/-- The reference's chunk decay. -/
theorem decay_at (x1 : FVec Ideal S8x4x64x64 .f32) (x4 x5 : FVec Ideal S4 .f32) (b : Fin 8) (h : Fin 4) (c : Fin 64) (l : Fin 128) :
    (Read.val_main_v12 (F := Ideal) x1 x4 x5 : FVec Ideal S8x4x64x128 .f32) (ix4 b h c l) = decayAt x1 x4 x5 b h c := by
  unfold Read.val_main_v12 Read.val_main_v11 Read.val_main_v10 Read.val_main_v9 Read.val_main_cst decayAt
  pointwise
  simp only [log_at]

end Cert.PrepRefIdeal.Val
end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscIdeal.Value
public import proofs.«01_k».proof.Proof.Gen.DiscRefIdeal
public import proofs.«01_k».proof.Proof.Gen.DiscRefIdeal.Run
public import proofs.«01_k».proof.Proof.Gen.DiscRefIdeal.Read
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Loops
public import proofs.«01_k».proof.Proof.Gen.Prep.Frame.Runs
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Loops
public import proofs.«01_k».proof.Proof.Gen.PrepIdeal.Frame.Runs
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_experts_in_range
public import proofs.«01_k».proof.Proof.MoeTable
public import proofs.«01_k».proof.Proof.Gen.Pre_router_finite
public import proofs.«01_k».proof.Proof.RouterPre
public import proofs.«01_k».proof.Proof.MoeValue
public import proofs.«01_k».proof.Proof.MoeRef
public import proofs.«01_k».proof.Proof.FfnValue
public import proofs.«01_k».proof.Proof.FfnRef
public import proofs.«01_k».proof.Proof.MergeValue
public import proofs.«01_k».proof.Proof.MergeRef
public import proofs.«01_k».proof.Proof.ProjRun
public import proofs.«01_k».proof.Proof.ProjRunIdeal
public import proofs.«01_k».proof.Proof.ProjValue
public import proofs.«01_k».proof.Proof.ProjRef
public import proofs.«01_k».proof.Proof.MemoryValue
public import proofs.«01_k».proof.Proof.MemoryRef
public import proofs.«01_k».proof.Proof.RopeValue
public import proofs.«01_k».proof.Proof.RopeRef
public import proofs.«01_k».proof.Proof.DiscValue
public import proofs.«01_k».proof.Proof.DiscRef
public import proofs.«01_k».proof.Proof.RouterValue
public import proofs.«01_k».proof.Proof.RouterRef
public import proofs.«01_k».proof.Proof.PrepRunA
public import proofs.«01_k».proof.Proof.PrepFrame
public import proofs.«01_k».proof.Proof.PrepIdealRunA
public import proofs.«01_k».proof.Proof.PrepIdealFrame
public import proofs.«01_k».proof.Proof.PrepPay
public import proofs.«01_k».proof.Proof.PrepLoop
public import proofs.«01_k».proof.Proof.PrepValue
public import proofs.«01_k».proof.Proof.PrepRef
public import Idealize.ShloMosaic.Adequacy
public import Idealize.ShloMosaic.Init

@[expose] public section

noncomputable section

namespace Cert.Proof

open Idealize.ShloMosaic Idealize.ShloMosaic.TcCoe Idealize.SL.Sem

attribute [local instance] Cert.Moe.Gen.facts Cert.MoeIdeal.Gen.facts Cert.MoeRefIdeal.Gen.facts Cert.Ffn.Gen.facts Cert.FfnIdeal.Gen.facts Cert.FfnRefIdeal.Gen.facts Cert.Merge.Gen.facts Cert.MergeIdeal.Gen.facts Cert.MergeRefIdeal.Gen.facts Cert.Proj.Gen.facts Cert.ProjIdeal.Gen.facts Cert.ProjRefIdeal.Gen.facts Cert.Memory.Gen.facts Cert.MemoryIdeal.Gen.facts Cert.MemoryRefIdeal.Gen.facts Cert.Rope.Gen.facts Cert.RopeIdeal.Gen.facts Cert.RopeRefIdeal.Gen.facts Cert.Disc.Gen.facts Cert.DiscIdeal.Gen.facts Cert.DiscRefIdeal.Gen.facts Cert.Router.Gen.facts Cert.RouterIdeal.Gen.facts Cert.RouterRefIdeal.Gen.facts Cert.Prep.Gen.facts Cert.PrepIdeal.Gen.facts Cert.PrepRefIdeal.Gen.facts Cert.Pre_experts_in_range.Gen.facts Cert.Pre_router_finite.Gen.facts

/-- The kernel runs, leaves its arguments as they were and every counter at zero. -/
theorem frame_moe : Cert.quiescent_Moe := fun m ρ h => Cert.Moe.Gen.frame m ρ (Cert.Moe.Val.ok_of_pre m h)

/-- So does its idealization. -/
theorem frame_moe_ideal : Cert.quiescent_MoeIdeal := fun m ρ h => Cert.MoeIdeal.Gen.frame m ρ (Cert.MoeIdeal.Val.ok_of_pre m h)

/-- So does the reference, from any memory. -/
theorem frame_moe_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- And so from any memory of the precondition. -/
theorem frame_moe_ref_pre : Cert.quiescent_MoeRefIdeal_pre_experts_in_range := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The kernel and the reference end with the same array, `moeAt` at every row and feature. -/
theorem moe_eq_ref : Cert.algebraic_MoeIdeal_MoeRefIdeal := by
  intro m ρ m' ρ' hpre hag
  have hO := Cert.MoeIdeal.Val.ok_of_pre m hpre
  have hE : ∀ b, (Cert.MoeIdeal.Val.word0 m b).toNat < 8 := fun b => expert_lt _ _ _ _ _ _ _ (hpre 0) (ix1 b)
  refine ⟨fun c => (fun i : Cert.MoeIdeal.S69632x1024.Idx => Cert.MoeIdeal.Val.moeAt (Cert.MoeIdeal.Val.A0 m) (Cert.MoeIdeal.Val.A1 m) (Cert.MoeIdeal.Val.A2 m) (Cert.MoeIdeal.Val.A3 m) (Cert.MoeIdeal.Val.A4 m) (Cert.MoeIdeal.Val.A5 m) (Cert.MoeIdeal.Val.A6 m) (i 0) (i 1)), ?_, ?_⟩
  · refine (θ_run Cert.MoeIdeal.defs _ _).mono (fun r h c => ?_) (θ_run_and (Cert.MoeIdeal.Gen.run_main m ρ hO) (Cert.MoeIdeal.Gen.unchanged m ρ hO))
    obtain rfl : c = 0 := Subsingleton.elim (α := Fin 1) _ _
    exact ⟨(h.1.out_eq 0 5).trans (Cert.MoeIdeal.Val.final m hO hE), h.2 0⟩
  · refine (θ_run Cert.MoeRefIdeal.defs _ _).mono (fun r h c => ⟨(h c).1.trans ?_, (h c).2⟩) (Cert.MoeRefIdeal.Value.run (F := Ideal) m' ρ')
    obtain rfl : c = 0 := Subsingleton.elim (α := Fin 1) _ _
    obtain ⟨h0, h1, h2, h3, h4, h5, h6⟩ := hag 0
    rw [h0, h1, h2, h3, h4, h5, h6]
    refine funext fun i => ?_
    obtain ⟨a, b, rfl⟩ : ∃ (a : Fin 69632) (b : Fin 1024), i = ix2 a b := ⟨i (0 : Fin 2), i (1 : Fin 2), by funext k; fin_cases k <;> rfl⟩
    exact (congrFun (Cert.MoeRefIdeal.Read.val_main_v31_eq _ _ _ _ _ _ _) _).trans
      (Cert.MoeRefIdeal.Val.ref_at _ _ _ _ _ _ _ (fun b => by
        obtain ⟨b, rfl⟩ : ∃ b' : Fin 136, b = ix1 b' := ⟨b (0 : Fin 1), by funext k; fin_cases k; rfl⟩
        exact hE b) a b)

/-- The dense feed-forward runs, leaves its arguments as they were and every counter at zero. -/
theorem frame_ffn : Cert.quiescent_Ffn := fun m ρ _ => Cert.Ffn.Gen.frame m ρ

/-- So does its idealization. -/
theorem frame_ffn_ideal : Cert.quiescent_FfnIdeal := fun m ρ _ => Cert.FfnIdeal.Gen.frame m ρ

/-- So does its reference. -/
theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The dense feed-forward and its reference end with the same array, `ffnAt` at every row and feature. -/
theorem ffn_eq_ref : Cert.algebraic_FfnIdeal_FfnRefIdeal := by
  intro m ρ m' ρ' hpre hag
  refine ⟨fun c => (fun i : Cert.FfnIdeal.S32768x1024.Idx => Cert.FfnIdeal.Val.ffnAt (Cert.FfnIdeal.Val.A0 m) (Cert.FfnIdeal.Val.A1 m) (Cert.FfnIdeal.Val.A2 m) (Cert.FfnIdeal.Val.A3 m) (Cert.FfnIdeal.Val.A4 m) (i 0) (i 1)), ?_, ?_⟩
  · refine (θ_run Cert.FfnIdeal.defs _ _).mono (fun r h c => ?_) (θ_run_and (Cert.FfnIdeal.Gen.run_main m ρ) (Cert.FfnIdeal.Gen.unchanged m ρ))
    obtain rfl : c = 0 := Subsingleton.elim (α := Fin 1) _ _
    exact ⟨(h.1.out_eq 0 5).trans (Cert.FfnIdeal.Val.final m), h.2 0⟩
  · refine (θ_run Cert.FfnRefIdeal.defs _ _).mono (fun r h c => ⟨(h c).1.trans ?_, (h c).2⟩) (Cert.FfnRefIdeal.Value.run (F := Ideal) m' ρ')
    obtain rfl : c = 0 := Subsingleton.elim (α := Fin 1) _ _
    obtain ⟨h0, h1, h2, h3, h4⟩ := hag 0
    rw [h0, h1, h2, h3, h4]
    refine funext fun i => ?_
    obtain ⟨a, b, rfl⟩ : ∃ (a : Fin 32768) (b : Fin 1024), i = ix2 a b := ⟨i (0 : Fin 2), i (1 : Fin 2), by funext k; fin_cases k <;> rfl⟩
    exact (congrFun (Cert.FfnRefIdeal.Read.val_main_v18_eq _ _ _ _ _) _).trans (Cert.FfnRefIdeal.Val.ref_at _ _ _ _ _ a b)

/-- The merge and attention runs, leaves its arguments as they were and every counter at zero. -/
theorem frame_merge : Cert.quiescent_Merge := fun m ρ _ => Cert.Merge.Gen.frame m ρ

/-- So does its idealization. -/
theorem frame_merge_ideal : Cert.quiescent_MergeIdeal := fun m ρ _ => Cert.MergeIdeal.Gen.frame m ρ

/-- So does its reference. -/
theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge and attention and its reference end with the same array, `mergeAt` at every row and feature. -/
theorem merge_eq_ref : Cert.algebraic_MergeIdeal_MergeRefIdeal := by
  intro m ρ m' ρ' hpre hag
  refine ⟨fun c => (fun i : Cert.MergeIdeal.S32768x1024.Idx => Cert.MergeIdeal.Val.mergeAt (Cert.MergeIdeal.Val.A0 m) (Cert.MergeIdeal.Val.A1 m) (Cert.MergeIdeal.Val.A2 m) (Cert.MergeIdeal.Val.A3 m) (Cert.MergeIdeal.Val.A4 m) (Cert.MergeIdeal.Val.A5 m) (Cert.MergeIdeal.Val.A6 m) (Cert.MergeIdeal.Val.A7 m) (Cert.MergeIdeal.Val.A8 m) (Cert.MergeIdeal.Val.A9 m) (Cert.MergeIdeal.Val.A10 m) (Cert.MergeIdeal.Val.A11 m) (Cert.MergeIdeal.Val.A12 m) (Cert.MergeIdeal.Val.A13 m) (i 0) (i 1)), ?_, ?_⟩
  · refine (θ_run Cert.MergeIdeal.defs _ _).mono (fun r h c => ?_) (θ_run_and (Cert.MergeIdeal.Gen.run_main m ρ) (Cert.MergeIdeal.Gen.unchanged m ρ))
    obtain rfl : c = 0 := Subsingleton.elim (α := Fin 1) _ _
    exact ⟨(h.1.out_eq 0 16).trans (Cert.MergeIdeal.Val.final m), h.2 0⟩
  · refine (θ_run Cert.MergeRefIdeal.defs _ _).mono (fun r h c => ⟨(h c).1.trans ?_, (h c).2⟩) (Cert.MergeRefIdeal.Value.run (F := Ideal) m' ρ')
    obtain rfl : c = 0 := Subsingleton.elim (α := Fin 1) _ _
    refine (Cert.MergeRefIdeal.Read.val_main_v81_eq m' 0).trans ?_
    obtain ⟨h0, h1, h2, h3, h4, h5, h6, h7, h8, h9, h10, h11, h12, h13⟩ := hag 0
    rw [h0, h1, h2, h3, h4, h5, h6, h7, h8, h9, h10, h11, h12, h13]
    refine funext fun i => ?_
    obtain ⟨a, b, rfl⟩ : ∃ (a : Fin 32768) (b : Fin 1024), i = ix2 a b := ⟨i (0 : Fin 2), i (1 : Fin 2), by funext k; fin_cases k <;> rfl⟩
    exact Cert.MergeRefIdeal.Val.ref_at _ _ _ _ _ _ _ _ _ _ _ _ _ _ a b

/-- The input projection runs, leaves its arguments as they were and every counter at zero. -/
theorem frame_proj : Cert.quiescent_Proj := Cert.Proj.Run.frame_proj

/-- So does its idealization. -/
theorem frame_proj_ideal : Cert.quiescent_ProjIdeal := fun m ρ _ => Cert.ProjIdeal.Run.frame m ρ

/-- So does its reference. -/
theorem frame_proj_ref : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The input projection and its reference end with the same two arrays, `projA` and `projB` at every row and column. -/
theorem proj_eq_ref : Cert.algebraic_ProjIdeal_ProjRefIdeal := by
  intro m ρ m' ρ' hpre hag
  refine ⟨fun c => (fun i : Cert.ProjIdeal.S32768x3200.Idx => Cert.ProjIdeal.Val.projA (Cert.ProjIdeal.Val.A0 m) (Cert.ProjIdeal.Val.A1 m) (Cert.ProjIdeal.Val.A2 m) (i 0) (i 1)),
    fun c => (fun i : Cert.ProjIdeal.S32768x4096.Idx => Cert.ProjIdeal.Val.projB (Cert.ProjIdeal.Val.A0 m) (Cert.ProjIdeal.Val.A1 m) (Cert.ProjIdeal.Val.A2 m) (i 0) (i 1)), ?_, ?_⟩
  · refine (θ_run Cert.ProjIdeal.defs _ _).mono (fun r h c => ?_) (θ_run_and (Cert.ProjIdeal.Run.run m ρ) (Cert.ProjIdeal.Run.frame m ρ))
    obtain rfl : c = 0 := Subsingleton.elim (α := Fin 1) _ _
    exact ⟨(h.1.out_eq 0 4).trans (Cert.ProjIdeal.Val.finalA m), (h.1.out_eq 0 5).trans (Cert.ProjIdeal.Val.finalB m), h.2.1 0⟩
  · refine (θ_run Cert.ProjRefIdeal.defs _ _).mono (fun r h c => ⟨(h c).1.trans ?_, (h c).2.1.trans ?_, (h c).2.2⟩) (Cert.ProjRefIdeal.Value.run (F := Ideal) m' ρ')
    · obtain rfl : c = 0 := Subsingleton.elim (α := Fin 1) _ _
      refine (Cert.ProjRefIdeal.Read.val_main_v28_eq m' 0).trans ?_
      obtain ⟨h0, h1, h2⟩ := hag 0
      rw [h0, h1, h2]
      refine funext fun i => ?_
      obtain ⟨a, b, rfl⟩ : ∃ (a : Fin 32768) (b : Fin 3200), i = ix2 a b := ⟨i (0 : Fin 2), i (1 : Fin 2), by funext k; fin_cases k <;> rfl⟩
      exact Cert.ProjRefIdeal.Val.ref_a _ _ _ a b
    · obtain rfl : c = 0 := Subsingleton.elim (α := Fin 1) _ _
      refine (Cert.ProjRefIdeal.Read.val_main_v30_eq m' 0).trans ?_
      obtain ⟨h0, h1, h2⟩ := hag 0
      rw [h0, h1, h2]
      refine funext fun i => ?_
      obtain ⟨a, b, rfl⟩ : ∃ (a : Fin 32768) (b : Fin 4096), i = ix2 a b := ⟨i (0 : Fin 2), i (1 : Fin 2), by funext k; fin_cases k <;> rfl⟩
      exact Cert.ProjRefIdeal.Val.ref_b _ _ _ a b

/-- The norm and projection of the memory runs, leaves its arguments as they were and every counter at zero. -/
theorem frame_mem : Cert.quiescent_Memory := fun m ρ _ => Cert.Memory.Gen.frame m ρ

/-- So does its idealization. -/
theorem frame_mem_ideal : Cert.quiescent_MemoryIdeal := fun m ρ _ => Cert.MemoryIdeal.Gen.frame m ρ

/-- So does its reference. -/
theorem frame_mem_ref : Cert.quiescent_MemoryRefIdeal := fun m ρ _ =>
  (θ_run Cert.MemoryRefIdeal.defs _ _).mono (fun r h => ⟨fun c => (h c).2, sem_eq_zero_of_no_sems (by decide) r.2⟩)
    (Cert.MemoryRefIdeal.Value.run (F := Ideal) m ρ)

/-- The projection of the memory and its reference end with the same array, `memAt` at every row and feature. -/
theorem mem_eq_ref : Cert.algebraic_MemoryIdeal_MemoryRefIdeal := by
  intro m ρ m' ρ' hpre hag
  refine ⟨fun c => (fun i : Cert.MemoryIdeal.S2048x512.Idx => Cert.MemoryIdeal.Val.memAt (Cert.MemoryIdeal.Val.A0 m) (Cert.MemoryIdeal.Val.A1 m) (Cert.MemoryIdeal.Val.A2 m) (i 0) (i 1)), ?_, ?_⟩
  · refine (θ_run Cert.MemoryIdeal.defs _ _).mono (fun r h c => ?_) (θ_run_and (Cert.MemoryIdeal.Gen.run_main m ρ) (Cert.MemoryIdeal.Gen.unchanged m ρ))
    obtain rfl : c = 0 := Subsingleton.elim (α := Fin 1) _ _
    exact ⟨(h.1.out_eq 0 3).trans (Cert.MemoryIdeal.Val.final m), h.2 0⟩
  · refine (θ_run Cert.MemoryRefIdeal.defs _ _).mono (fun r h c => ⟨(h c).1.trans ?_, (h c).2⟩) (Cert.MemoryRefIdeal.Value.run (F := Ideal) m' ρ')
    obtain rfl : c = 0 := Subsingleton.elim (α := Fin 1) _ _
    obtain ⟨h0, h1, h2⟩ := hag 0
    rw [h0, h1, h2]
    refine funext fun i => ?_
    obtain ⟨a, b, rfl⟩ : ∃ (a : Fin 2048) (b : Fin 512), i = ix2 a b := ⟨i (0 : Fin 2), i (1 : Fin 2), by funext k; fin_cases k <;> rfl⟩
    exact (congrFun (Cert.MemoryRefIdeal.Read.val_main_v14_eq _ _ _) _).trans (Cert.MemoryRefIdeal.Val.ref_at _ _ _ a b)

/-- The rotary tables' call runs, leaves its arguments as they were and every counter at zero. -/
theorem frame_rope : Cert.quiescent_Rope := fun m ρ _ => Cert.Rope.Gen.frame m ρ

/-- So does its idealization. -/
theorem frame_rope_ideal : Cert.quiescent_RopeIdeal := fun m ρ _ => Cert.RopeIdeal.Gen.frame m ρ

/-- So does its reference. -/
theorem frame_rope_ref : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The rotary tables' call and its reference end with the same two arrays: the cosines of `angle`, and `sinAt`. -/
theorem rope_eq_ref : Cert.algebraic_RopeIdeal_RopeRefIdeal := by
  intro m ρ m' ρ' hpre hag
  refine ⟨fun c => (fun i : Cert.RopeIdeal.S32768x128.Idx => Ideal.cos (Cert.RopeIdeal.Val.angle (Cert.RopeIdeal.Val.A0 m) (Cert.RopeIdeal.Val.A1 m) (i 0) (i 1))),
    fun c => (fun i : Cert.RopeIdeal.S32768x128.Idx => Cert.RopeIdeal.Val.sinAt (Cert.RopeIdeal.Val.A0 m) (Cert.RopeIdeal.Val.A1 m) (i 0) (i 1)), ?_, ?_⟩
  · refine (θ_run Cert.RopeIdeal.defs _ _).mono (fun r h c => ?_) (θ_run_and (Cert.RopeIdeal.Gen.run_main m ρ) (Cert.RopeIdeal.Gen.unchanged m ρ))
    obtain rfl : c = 0 := Subsingleton.elim (α := Fin 1) _ _
    exact ⟨(h.1.out_eq 0 2).trans (Cert.RopeIdeal.Val.final_cos m), (h.1.out_eq 0 3).trans (Cert.RopeIdeal.Val.final_sin m), h.2 0⟩
  · refine (θ_run Cert.RopeRefIdeal.defs _ _).mono (fun r h c => ⟨(h c).1.trans ?_, (h c).2.1.trans ?_, (h c).2.2⟩) (Cert.RopeRefIdeal.Value.run (F := Ideal) m' ρ')
    · obtain rfl : c = 0 := Subsingleton.elim (α := Fin 1) _ _
      obtain ⟨h0, h1⟩ := hag 0
      rw [h0, h1]
      refine funext fun i => ?_
      obtain ⟨a, b, rfl⟩ : ∃ (a : Fin 32768) (b : Fin 128), i = ix2 a b := ⟨i (0 : Fin 2), i (1 : Fin 2), by funext k; fin_cases k <;> rfl⟩
      exact (congrFun (Cert.RopeRefIdeal.Read.val_main_v9_eq _ _) _).trans (Cert.RopeRefIdeal.Val.cos_at _ _ a b)
    · obtain rfl : c = 0 := Subsingleton.elim (α := Fin 1) _ _
      obtain ⟨h0, h1⟩ := hag 0
      rw [h0, h1]
      refine funext fun i => ?_
      obtain ⟨a, b, rfl⟩ : ∃ (a : Fin 32768) (b : Fin 128), i = ix2 a b := ⟨i (0 : Fin 2), i (1 : Fin 2), by funext k; fin_cases k <;> rfl⟩
      exact (congrFun (Cert.RopeRefIdeal.Read.val_main_v13_eq _ _) _).trans (Cert.RopeRefIdeal.Val.sin_at _ _ a b)

/-- The discretisation runs, leaves its arguments as they were and every counter at zero. -/
theorem frame_disc : Cert.quiescent_Disc := fun m ρ _ => Cert.Disc.Gen.frame m ρ

/-- So does its idealization. -/
theorem frame_disc_ideal : Cert.quiescent_DiscIdeal := fun m ρ _ => Cert.DiscIdeal.Gen.frame m ρ

/-- So does its reference. -/
theorem frame_disc_ref : Cert.quiescent_DiscRefIdeal := fun m ρ _ =>
  (θ_run Cert.DiscRefIdeal.defs _ _).mono (fun r h => ⟨fun c => (h c).2.2.2.2, sem_eq_zero_of_no_sems (by decide) r.2⟩)
    (Cert.DiscRefIdeal.Value.run (F := Ideal) m ρ)

/-- The discretisation and its reference end with the same four arrays: `expRe` and `expIm` of every state, `inRe` and
`inIm` of every state and channel. -/
theorem disc_eq_ref : Cert.algebraic_DiscIdeal_DiscRefIdeal := by
  intro m ρ m' ρ' hpre hag
  refine ⟨fun c => (fun i : Cert.DiscIdeal.S2048x1.Idx => Cert.DiscIdeal.Val.outA Cert.DiscIdeal.Val.expRe (Cert.DiscIdeal.Val.A0 m) (Cert.DiscIdeal.Val.A1 m) (Cert.DiscIdeal.Val.A2 m) (i 0)),
    fun c => (fun i : Cert.DiscIdeal.S2048x1.Idx => Cert.DiscIdeal.Val.outA Cert.DiscIdeal.Val.expIm (Cert.DiscIdeal.Val.A0 m) (Cert.DiscIdeal.Val.A1 m) (Cert.DiscIdeal.Val.A2 m) (i 0)),
    fun c => (fun i : Cert.DiscIdeal.S2048x16.Idx => Cert.DiscIdeal.Val.outB Cert.DiscIdeal.Val.inRe (Cert.DiscIdeal.Val.A0 m) (Cert.DiscIdeal.Val.A1 m) (Cert.DiscIdeal.Val.A2 m) (Cert.DiscIdeal.Val.A3 m) (Cert.DiscIdeal.Val.A4 m) (i 0) (i 1)),
    fun c => (fun i : Cert.DiscIdeal.S2048x16.Idx => Cert.DiscIdeal.Val.outB Cert.DiscIdeal.Val.inIm (Cert.DiscIdeal.Val.A0 m) (Cert.DiscIdeal.Val.A1 m) (Cert.DiscIdeal.Val.A2 m) (Cert.DiscIdeal.Val.A3 m) (Cert.DiscIdeal.Val.A4 m) (i 0) (i 1)), ?_, ?_⟩
  · refine (θ_run Cert.DiscIdeal.defs _ _).mono (fun r h c => ?_) (θ_run_and (Cert.DiscIdeal.Gen.run_main m ρ) (Cert.DiscIdeal.Gen.unchanged m ρ))
    obtain rfl : c = 0 := Subsingleton.elim (α := Fin 1) _ _
    exact ⟨(h.1.out_eq 0 5).trans (Cert.DiscIdeal.Val.final5 m), (h.1.out_eq 0 6).trans (Cert.DiscIdeal.Val.final6 m), (h.1.out_eq 0 7).trans (Cert.DiscIdeal.Val.final7 m), (h.1.out_eq 0 8).trans (Cert.DiscIdeal.Val.final8 m), h.2 0⟩
  · refine (θ_run Cert.DiscRefIdeal.defs _ _).mono (fun r h c => ⟨(h c).1.trans ?_, (h c).2.1.trans ?_, (h c).2.2.1.trans ?_, (h c).2.2.2.1.trans ?_, (h c).2.2.2.2⟩) (Cert.DiscRefIdeal.Value.run (F := Ideal) m' ρ')
    · obtain rfl : c = 0 := Subsingleton.elim (α := Fin 1) _ _
      obtain ⟨h0, h1, h2, h3, h4⟩ := hag 0
      rw [h0, h1, h2]
      refine funext fun i => ?_
      obtain ⟨a, rfl⟩ : ∃ (a : Fin 2048), i = ix2 a 0 := ⟨i (0 : Fin 2), by funext k; fin_cases k; rfl; exact Subsingleton.elim (α := Fin 1) _ _⟩
      exact (congrFun (Cert.DiscRefIdeal.Read.val_main_v42_eq _ _ _) _).trans (Cert.DiscRefIdeal.Val.expRe_at _ _ _ a)
    · obtain rfl : c = 0 := Subsingleton.elim (α := Fin 1) _ _
      obtain ⟨h0, h1, h2, h3, h4⟩ := hag 0
      rw [h0, h1, h2]
      refine funext fun i => ?_
      obtain ⟨a, rfl⟩ : ∃ (a : Fin 2048), i = ix2 a 0 := ⟨i (0 : Fin 2), by funext k; fin_cases k; rfl; exact Subsingleton.elim (α := Fin 1) _ _⟩
      exact (congrFun (Cert.DiscRefIdeal.Read.val_main_v43_eq _ _ _) _).trans (Cert.DiscRefIdeal.Val.expIm_at _ _ _ a)
    · obtain rfl : c = 0 := Subsingleton.elim (α := Fin 1) _ _
      obtain ⟨h0, h1, h2, h3, h4⟩ := hag 0
      rw [h0, h1, h2, h3, h4]
      refine funext fun i => ?_
      obtain ⟨a, b, rfl⟩ : ∃ (a : Fin 2048) (b : Fin 16), i = ix2 a b := ⟨i (0 : Fin 2), i (1 : Fin 2), by funext k; fin_cases k <;> rfl⟩
      exact (congrFun (Cert.DiscRefIdeal.Read.val_main_v44_eq _ _ _ _ _) _).trans (Cert.DiscRefIdeal.Val.inRe_at _ _ _ _ _ a b)
    · obtain rfl : c = 0 := Subsingleton.elim (α := Fin 1) _ _
      obtain ⟨h0, h1, h2, h3, h4⟩ := hag 0
      rw [h0, h1, h2, h3, h4]
      refine funext fun i => ?_
      obtain ⟨a, b, rfl⟩ : ∃ (a : Fin 2048) (b : Fin 16), i = ix2 a b := ⟨i (0 : Fin 2), i (1 : Fin 2), by funext k; fin_cases k <;> rfl⟩
      exact (congrFun (Cert.DiscRefIdeal.Read.val_main_v45_eq _ _ _ _ _) _).trans (Cert.DiscRefIdeal.Val.inIm_at _ _ _ _ _ a b)
/-- The router's call runs, leaves its arguments as they were and every counter at zero. -/
theorem frame_router : Cert.quiescent_Router := fun m ρ _ => Cert.Router.Gen.frame m ρ

/-- So does its idealization. -/
theorem frame_router_ideal : Cert.quiescent_RouterIdeal := fun m ρ _ => Cert.RouterIdeal.Gen.frame m ρ

/-- The same, under the precondition of the algebraic claim. -/
theorem frame_router_ideal_pre : Cert.quiescent_RouterIdeal_pre_router_finite := fun m ρ _ => Cert.RouterIdeal.Gen.frame m ρ

/-- So does its reference. -/
theorem frame_router_ref : Cert.quiescent_RouterRefIdeal := fun m ρ _ =>
  (θ_run Cert.RouterRefIdeal.defs _ _).mono (fun r h => ⟨fun c => (h c).2.2, sem_eq_zero_of_no_sems (by decide) r.2⟩)
    (Cert.RouterRefIdeal.Value.run (F := Ideal) m ρ)

/-- The same, under the precondition. -/
theorem frame_router_ref_pre : Cert.quiescent_RouterRefIdeal_pre_router_finite := fun m ρ _ => frame_router_ref m ρ trivial

/-- The router's call and its reference end with the same two arrays: the `route` of each row's scores, and the `normed` rows. -/
theorem router_eq_ref : Cert.algebraic_RouterIdeal_RouterRefIdeal_pre_router_finite := by
  intro m ρ m' ρ' hpre hag
  have hG : ∀ k, Cert.RouterPick.IsReal (Cert.RouterIdeal.Val.A1 m (ix1 k)) := fun k => (router_reals _ _ _ (hpre 0) k 0).1
  have hW : ∀ k e, Cert.RouterPick.IsReal (Cert.RouterIdeal.Val.A2 m (ix2 k e)) := fun k e => (router_reals _ _ _ (hpre 0) k e).2
  refine ⟨fun c => (fun i : Cert.RouterIdeal.S32768x128.Idx => Cert.RouterPick.route (Cert.RouterPick.logit
      (fun k => Cert.RouterIdeal.Val.A0 m (ix2 (i 0) k)) (fun k => Cert.RouterIdeal.Val.A1 m (ix1 k)) fun k e => Cert.RouterIdeal.Val.A2 m (ix2 k e)) (i 1)),
    fun c => (fun i : Cert.RouterIdeal.S32768x1024.Idx => Cert.RouterPick.normed (fun j => Cert.RouterIdeal.Val.A0 m (ix2 (i 0) j)) (fun j => Cert.RouterIdeal.Val.A1 m (ix1 j)) (i 1)), ?_, ?_⟩
  · refine (θ_run Cert.RouterIdeal.defs _ _).mono (fun r h c => ?_) (θ_run_and (Cert.RouterIdeal.Gen.run_main m ρ) (Cert.RouterIdeal.Gen.unchanged m ρ))
    obtain rfl : c = 0 := Subsingleton.elim (α := Fin 1) _ _
    exact ⟨(h.1.out_eq 0 4).trans (Cert.RouterIdeal.Val.final_route m hG hW), (h.1.out_eq 0 5).trans (Cert.RouterIdeal.Val.final_normed m), h.2 0⟩
  · refine (θ_run Cert.RouterRefIdeal.defs _ _).mono (fun r h c => ⟨(h c).1.trans ?_, (h c).2.1.trans ?_, (h c).2.2⟩) (Cert.RouterRefIdeal.Value.run (F := Ideal) m' ρ')
    · obtain rfl : c = 0 := Subsingleton.elim (α := Fin 1) _ _
      refine (Cert.RouterRefIdeal.Read.val_main_v27_eq m' 0).trans ?_
      obtain ⟨h0, h1, h2⟩ := hag 0
      rw [h0, h1, h2]
      refine funext fun i => ?_
      obtain ⟨a, b, rfl⟩ : ∃ (a : Fin 32768) (b : Fin 128), i = ix2 a b := ⟨i (0 : Fin 2), i (1 : Fin 2), by funext k; fin_cases k <;> rfl⟩
      have hs := fun e => Cert.RouterPick.logit_real (x := fun k => Cert.RouterIdeal.Val.A0 m (ix2 a k)) hG hW e
      exact Cert.RouterRefIdeal.Val.route_at _ _ _ a b (fun e => (hs e).ne_bot) fun e => (hs e).ne_top
    · obtain rfl : c = 0 := Subsingleton.elim (α := Fin 1) _ _
      obtain ⟨h0, h1, h2⟩ := hag 0
      rw [h0, h1]
      refine funext fun i => ?_
      obtain ⟨a, b, rfl⟩ : ∃ (a : Fin 32768) (b : Fin 1024), i = ix2 a b := ⟨i (0 : Fin 2), i (1 : Fin 2), by funext k; fin_cases k <;> rfl⟩
      exact (congrFun (Cert.RouterRefIdeal.Read.val_main_v28_eq _ _) _).trans (Cert.RouterRefIdeal.Val.normed_at _ _ a b)

/-- The preparation of the delta rule runs, leaves its arguments as they were and every counter at zero. -/
theorem frame_prep : Cert.quiescent_Prep := fun m ρ _ => Cert.Prep.Run.frame m ρ

/-- So does its idealization. -/
theorem frame_prep_ideal : Cert.quiescent_PrepIdeal := fun m ρ _ => Cert.PrepIdeal.Run.frame m ρ

/-- So does its reference. -/
theorem frame_prep_ref : Cert.quiescent_PrepRefIdeal := fun m ρ _ =>
  (θ_run Cert.PrepRefIdeal.defs _ _).mono (fun r h => ⟨fun c => (h c).2, sem_eq_zero_of_no_sems (by decide) r.2⟩)
    (Cert.PrepRefIdeal.Value.run (F := Ideal) m ρ)

/-- The preparation of the delta rule and its reference end with the same chunk decays, `decayAt` of each sequence, head and chunk. -/
theorem prep_eq_ref : Cert.algebraic_PrepIdeal_PrepRefIdeal := by
  intro m ρ m' ρ' hpre hag
  refine ⟨fun c => (fun i : Cert.PrepIdeal.S8x4x64x128.Idx => Cert.PrepIdeal.Pay.decayAt (Cert.PrepIdeal.Val.A1 m) (Cert.PrepIdeal.Val.A4 m) (Cert.PrepIdeal.Val.A5 m) (i 0) (i 1) (i 2)), ?_, ?_⟩
  · refine (θ_run Cert.PrepIdeal.defs _ _).mono (fun r h c => ?_) (θ_run_and (Cert.PrepIdeal.Run.run_main m ρ) (Cert.PrepIdeal.Run.unchanged m ρ))
    obtain rfl : c = 0 := Subsingleton.elim (α := Fin 1) _ _
    exact ⟨(h.1.out_eq 0 15).trans (Cert.PrepIdeal.Val.final m), h.2 0⟩
  · refine (θ_run Cert.PrepRefIdeal.defs _ _).mono (fun r h c => ⟨(h c).1.trans ?_, (h c).2⟩) (Cert.PrepRefIdeal.Value.run (F := Ideal) m' ρ')
    obtain rfl : c = 0 := Subsingleton.elim (α := Fin 1) _ _
    obtain ⟨h0, h1, h2, h3, h4, h5⟩ := hag 0
    rw [h1, h4, h5]
    refine funext fun i => ?_
    obtain ⟨b, h, q, l, rfl⟩ : ∃ (b : Fin 8) (h : Fin 4) (q : Fin 64) (l : Fin 128), i = ix4 b h q l := ⟨i (0 : Fin 4), i (1 : Fin 4), i (2 : Fin 4), i (3 : Fin 4), by funext k; fin_cases k <;> rfl⟩
    exact (congrFun (Cert.PrepRefIdeal.Read.val_main_v12_eq _ _ _) _).trans (Cert.PrepRefIdeal.Val.decay_at _ _ _ b h q l)

/-- The claims, over the programs' stated facts. -/
theorem claim : Cert.Claim := ⟨Cert.Moe.Gen.facts, Cert.MoeIdeal.Gen.facts, Cert.MoeRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Memory.Gen.facts, Cert.MemoryIdeal.Gen.facts, Cert.MemoryRefIdeal.Gen.facts, Cert.Rope.Gen.facts, Cert.RopeIdeal.Gen.facts, Cert.RopeRefIdeal.Gen.facts, Cert.Disc.Gen.facts, Cert.DiscIdeal.Gen.facts, Cert.DiscRefIdeal.Gen.facts, Cert.Router.Gen.facts, Cert.RouterIdeal.Gen.facts, Cert.RouterRefIdeal.Gen.facts, Cert.Prep.Gen.facts, Cert.PrepIdeal.Gen.facts, Cert.PrepRefIdeal.Gen.facts, Cert.Pre_experts_in_range.Gen.facts, Cert.Pre_router_finite.Gen.facts,
  frame_moe, frame_moe_ideal, frame_moe_ref, frame_moe_ref_pre, frame_ffn, frame_ffn_ideal, frame_ffn_ref, frame_merge, frame_merge_ideal, frame_merge_ref, frame_proj, frame_proj_ideal, frame_proj_ref, frame_mem, frame_mem_ideal, frame_mem_ref, frame_rope, frame_rope_ideal, frame_rope_ref, frame_disc, frame_disc_ideal, frame_disc_ref, frame_router, frame_router_ideal, frame_router_ideal_pre, frame_router_ref, frame_router_ref_pre, frame_prep, frame_prep_ideal, frame_prep_ref, trivial, moe_eq_ref, trivial, ffn_eq_ref, trivial, merge_eq_ref, trivial, proj_eq_ref, trivial, mem_eq_ref, trivial, rope_eq_ref, trivial, disc_eq_ref, trivial, router_eq_ref, trivial, prep_eq_ref⟩

end Cert.Proof

end
